-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x2048 : Shape := ⟨3, ![16, 2048, 2048]⟩
abbrev S128 : Shape := ⟨1, ![128]⟩
abbrev S160 : Shape := ⟨1, ![160]⟩
abbrev S32768x2048 : Shape := ⟨2, ![32768, 2048]⟩
abbrev S2048x8x128 : Shape := ⟨3, ![2048, 8, 128]⟩
abbrev S16x2048 : Shape := ⟨2, ![16, 2048]⟩
abbrev S1x8x128 : Shape := ⟨3, ![1, 8, 128]⟩
abbrev S8x2048 : Shape := ⟨2, ![8, 2048]⟩
abbrev S1x8x2048 : Shape := ⟨3, ![1, 8, 2048]⟩
abbrev S1 : Shape := ⟨1, ![1]⟩
abbrev S1x1x1 : Shape := ⟨3, ![1, 1, 1]⟩
abbrev S1x16x2048 : Shape := ⟨3, ![1, 16, 2048]⟩
abbrev S2048x1x1 : Shape := ⟨3, ![2048, 1, 1]⟩
abbrev S2048 : Shape := ⟨1, ![2048]⟩
abbrev S_ : Shape := ⟨0, ![]⟩

abbrev nBuf : Space → Nat
  | .hbm => 13
  | .vmem => 12
  | .smem => 5
  | _ => 0

abbrev bufTy : (tb : Table) → Fin (tcTables nBuf tb) → BufTy
  | .hbm, ⟨0, _⟩ => ⟨S16x2048x2048, .i32⟩
  | .hbm, ⟨1, _⟩ => ⟨S128, .i32⟩
  | .hbm, ⟨2, _⟩ => ⟨S160, .i32⟩
  | .hbm, ⟨3, _⟩ => ⟨S32768x2048, .i32⟩
  | .hbm, ⟨4, _⟩ => ⟨S32768x2048, .i32⟩
  | .hbm, ⟨5, _⟩ => ⟨S2048x8x128, .i32⟩
  | .hbm, ⟨6, _⟩ => ⟨S2048x1x1, .i32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S1, .i32⟩
  | .hbm, ⟨11, _⟩ => ⟨S32768x2048, .i32⟩
  | .hbm, ⟨12, _⟩ => ⟨S16x2048x2048, .i32⟩
  | .local _ .vmem, ⟨0, _⟩ => ⟨S16x2048, .i32⟩
  | .local _ .vmem, ⟨1, _⟩ => ⟨S16x2048, .i32⟩
  | .local _ .vmem, ⟨2, _⟩ => ⟨S16x2048, .i32⟩
  | .local _ .vmem, ⟨3, _⟩ => ⟨S16x2048, .i32⟩
  | .local _ .vmem, ⟨4, _⟩ => ⟨S1x8x128, .i32⟩
  | .local _ .vmem, ⟨5, _⟩ => ⟨S1x8x128, .i32⟩
  | .local _ .vmem, ⟨6, _⟩ => ⟨S16x2048, .i32⟩
  | .local _ .vmem, ⟨7, _⟩ => ⟨S16x2048, .i32⟩
  | .local _ .vmem, ⟨8, _⟩ => ⟨S16x2048, .i32⟩
  | .local _ .vmem, ⟨9, _⟩ => ⟨S16x2048, .i32⟩
  | .local _ .vmem, ⟨10, _⟩ => ⟨S16x2048, .i32⟩
  | .local _ .vmem, ⟨11, _⟩ => ⟨S16x2048, .i32⟩
  | .local _ .smem, ⟨0, _⟩ => ⟨S128, .i32⟩
  | .local _ .smem, ⟨1, _⟩ => ⟨S160, .i32⟩
  | .local _ .smem, ⟨2, _⟩ => ⟨S160, .i32⟩
  | .local _ .smem, ⟨3, _⟩ => ⟨S1, .i32⟩
  | .local _ .smem, ⟨4, _⟩ => ⟨S2048, .i32⟩
  | _, _ => ⟨S16x2048x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc1_stg1_0 : Ref sig .tc := ⟨.smem, 3, rfl⟩
abbrev cc1_stg2_0 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![2048], ![false]⟩

def k0_off1 (arg6 : BitVec 32) : Fin 1 → Nat :=
  let c2_i32 : BitVec 32 := 2#32
  let v76 : BitVec 32 := Scalar.muli c2_i32 arg6
  let v77 : Index := Scalar.indexCast v76
  ![v77.toNat]

def k0_off2 (arg6 : BitVec 32) : Fin 1 → Nat :=
  let c2_i32_32 : BitVec 32 := 2#32
  let v79 : BitVec 32 := Scalar.muli c2_i32_32 arg6
  let c1_i32_33 : BitVec 32 := 1#32
  let v80 : BitVec 32 := Scalar.addi v79 c1_i32_33
  let v81 : Index := Scalar.indexCast v80
  ![v81.toNat]

def k0_chk1 (arg6 : BitVec 32) : Prop :=
  (∀ a, (k0_off1 arg6) a + S1.size a ≤ S128.size a) ∧
  (∀ a, (k0_off2 arg6) a + S1.size a ≤ S128.size a)
theorem k0_off1_inb : ∀ (arg6 : BitVec 32) (k0_hw1 : k0_chk1 arg6), ∀ a, (k0_off1 arg6) a + S1.size a ≤ S128.size a := fun arg6 k0_hw1 => k0_hw1.1
theorem k0_off2_inb : ∀ (arg6 : BitVec 32) (k0_hw1 : k0_chk1 arg6), ∀ a, (k0_off2 arg6) a + S1.size a ≤ S128.size a := fun arg6 k0_hw1 => k0_hw1.2

def k0_off3 (arg6 : BitVec 32) : Fin 1 → Nat :=
  let c2_i32 : BitVec 32 := 2#32
  let v76 : BitVec 32 := Scalar.muli c2_i32 arg6
  let v77 : Index := Scalar.indexCast v76
  ![v77.toNat]

def k0_off4 (arg6 : BitVec 32) : Fin 1 → Nat :=
  let c2_i32_32 : BitVec 32 := 2#32
  let v79 : BitVec 32 := Scalar.muli c2_i32_32 arg6
  let c1_i32_33 : BitVec 32 := 1#32
  let v80 : BitVec 32 := Scalar.addi v79 c1_i32_33
  let v81 : Index := Scalar.indexCast v80
  ![v81.toNat]

def k0_chk2 (arg6 : BitVec 32) : Prop :=
  (∀ a, (k0_off3 arg6) a + S1.size a ≤ S128.size a) ∧
  (∀ a, (k0_off4 arg6) a + S1.size a ≤ S128.size a)
theorem k0_off3_inb : ∀ (arg6 : BitVec 32) (k0_hw2 : k0_chk2 arg6), ∀ a, (k0_off3 arg6) a + S1.size a ≤ S128.size a := fun arg6 k0_hw2 => k0_hw2.1
theorem k0_off4_inb : ∀ (arg6 : BitVec 32) (k0_hw2 : k0_chk2 arg6), ∀ a, (k0_off4 arg6) a + S1.size a ≤ S128.size a := fun arg6 k0_hw2 => k0_hw2.2

def k0_off5 (arg6 : BitVec 32) : Fin 1 → Nat :=
  let c4_i32 : BitVec 32 := 4#32
  let v76 : BitVec 32 := Scalar.muli c4_i32 arg6
  let v77 : Index := Scalar.indexCast v76
  ![v77.toNat]

def k0_off6 (arg6 : BitVec 32) (c1_i32_33 : BitVec 32) : Fin 1 → Nat :=
  let c4_i32_32 : BitVec 32 := 4#32
  let v79 : BitVec 32 := Scalar.muli c4_i32_32 arg6
  let v80 : BitVec 32 := Scalar.addi v79 c1_i32_33
  let v81 : Index := Scalar.indexCast v80
  ![v81.toNat]

def k0_chk3 (arg6 : BitVec 32) : Prop :=
  (∀ a, (k0_off5 arg6) a + S1.size a ≤ S160.size a) ∧
  (∀ (r : Fin 3), ∀ a, (k0_off6 arg6 (BitVec.ofNat 32 (1 + r.val))) a + S1.size a ≤ S160.size a)
theorem k0_off5_inb : ∀ (arg6 : BitVec 32) (k0_hw3 : k0_chk3 arg6), ∀ a, (k0_off5 arg6) a + S1.size a ≤ S160.size a := fun arg6 k0_hw3 => k0_hw3.1
theorem k0_off6_inb : ∀ (arg6 : BitVec 32) (k0_hw3 : k0_chk3 arg6), ∀ (r : Fin 3), ∀ a, (k0_off6 arg6 (BitVec.ofNat 32 (1 + r.val))) a + S1.size a ≤ S160.size a := fun arg6 k0_hw3 r => k0_hw3.2 r

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S160 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2048], ![false]⟩

def k1_off1 (i : grid1.Coords) : Fin 1 → Nat :=
  let arg0 : BitVec 32 := BitVec.ofNat 32 (i 0).val
  let v14 : Index := Scalar.indexCast arg0
  ![v14.toNat]
def k1_off2 (arg7 : BitVec 32) : Fin 1 → Nat :=
  let c4_i32 : BitVec 32 := 4#32
  let v52 : BitVec 32 := Scalar.muli c4_i32 arg7
  let v53 : Index := Scalar.indexCast v52
  ![v53.toNat]

def k1_off3 (arg7 : BitVec 32) (c1_i32 : BitVec 32) : Fin 1 → Nat :=
  let c4_i32_19 : BitVec 32 := 4#32
  let v55 : BitVec 32 := Scalar.muli c4_i32_19 arg7
  let v56 : BitVec 32 := Scalar.addi v55 c1_i32
  let v57 : Index := Scalar.indexCast v56
  ![v57.toNat]

def k1_chk1 (arg7 : BitVec 32) : Prop :=
  (∀ a, (k1_off2 arg7) a + S1.size a ≤ S160.size a) ∧
  (∀ (r : Fin 3), ∀ a, (k1_off3 arg7 (BitVec.ofNat 32 (1 + r.val))) a + S1.size a ≤ S160.size a)
theorem k1_off2_inb : ∀ (arg7 : BitVec 32) (k1_hw1 : k1_chk1 arg7), ∀ a, (k1_off2 arg7) a + S1.size a ≤ S160.size a := fun arg7 k1_hw1 => k1_hw1.1
theorem k1_off3_inb : ∀ (arg7 : BitVec 32) (k1_hw1 : k1_chk1 arg7), ∀ (r : Fin 3), ∀ a, (k1_off3 arg7 (BitVec.ofNat 32 (1 + r.val))) a + S1.size a ≤ S160.size a := fun arg7 k1_hw1 r => k1_hw1.2 r

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S160 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S2048 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x2048 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x2048 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S16x2048x2048 : Shape := ⟨3, ![16, 2048, 2048]⟩
abbrev S_ : Shape := ⟨0, ![]⟩
abbrev S2 : Shape := ⟨1, ![2]⟩
abbrev S1 : Shape := ⟨1, ![1]⟩
abbrev S67108864 : Shape := ⟨1, ![67108864]⟩
abbrev S3 : Shape := ⟨1, ![3]⟩

abbrev nBuf : Space → Nat
  | .hbm => 1429
  | .vmem => 0
  | .smem => 0
  | _ => 0

abbrev hbmTy0_0 (i : Nat) : BufTy := match i % 128 with
  | 0 => ⟨S16x2048x2048, .i32⟩
  | 1 => ⟨S16x2048x2048, .f32⟩
  | 2 => ⟨S_, .f32⟩
  | 3 => ⟨S16x2048x2048, .f32⟩
  | 4 => ⟨S16x2048x2048, .f32⟩
  | 5 => ⟨S_, .i32⟩
  | 6 => ⟨S16x2048x2048, .i32⟩
  | 7 => ⟨S_, .f32⟩
  | 8 => ⟨S16x2048x2048, .f32⟩
  | 9 => ⟨S_, .f32⟩
  | 10 => ⟨S16x2048x2048, .f32⟩
  | 11 => ⟨S_, .i1⟩
  | 12 => ⟨S16x2048x2048, .i1⟩
  | 13 => ⟨S_, .i32⟩
  | 14 => ⟨S16x2048x2048, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S16x2048x2048, .f32⟩
  | 22 => ⟨S_, .i32⟩
  | 23 => ⟨S_, .i32⟩
  | 24 => ⟨S_, .i32⟩
  | 25 => ⟨S_, .i32⟩
  | 26 => ⟨S16x2048x2048, .i32⟩
  | 27 => ⟨S16x2048x2048, .f32⟩
  | 28 => ⟨S_, .i32⟩
  | 29 => ⟨S_, .i32⟩
  | 30 => ⟨S16x2048x2048, .f32⟩
  | 31 => ⟨S16x2048x2048, .i1⟩
  | 32 => ⟨S16x2048x2048, .i32⟩
  | 33 => ⟨S_, .i32⟩
  | 34 => ⟨S_, .i1⟩
  | 35 => ⟨S_, .i32⟩
  | 36 => ⟨S_, .i32⟩
  | 37 => ⟨S16x2048x2048, .i1⟩
  | 38 => ⟨S_, .f32⟩
  | 39 => ⟨S16x2048x2048, .f32⟩
  | 40 => ⟨S16x2048x2048, .i1⟩
  | 41 => ⟨S16x2048x2048, .i1⟩
  | 42 => ⟨S_, .f32⟩
  | 43 => ⟨S_, .f32⟩
  | 44 => ⟨S16x2048x2048, .f32⟩
  | 45 => ⟨S16x2048x2048, .f32⟩
  | 46 => ⟨S_, .i32⟩
  | 47 => ⟨S2, .i32⟩
  | 48 => ⟨S2, .i32⟩
  | 49 => ⟨S_, .i32⟩
  | 50 => ⟨S_, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16x2048x2048, .i32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S_, .i32⟩
  | 16 => ⟨S2, .i32⟩
  | 17 => ⟨S2, .i32⟩
  | 18 => ⟨S_, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S_, .i32⟩
  | 28 => ⟨S2, .i32⟩
  | 29 => ⟨S2, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S_, .i32⟩
  | 59 => ⟨S2, .i32⟩
  | 60 => ⟨S2, .i32⟩
  | 61 => ⟨S_, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S_, .i32⟩
  | 71 => ⟨S2, .i32⟩
  | 72 => ⟨S2, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S_, .i32⟩
  | 102 => ⟨S2, .i32⟩
  | 103 => ⟨S2, .i32⟩
  | 104 => ⟨S_, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S_, .i32⟩
  | 114 => ⟨S2, .i32⟩
  | 115 => ⟨S2, .i32⟩
  | 116 => ⟨S2, .i32⟩
  | 117 => ⟨S2, .i32⟩
  | 118 => ⟨S2, .i32⟩
  | 119 => ⟨S_, .i32⟩
  | 120 => ⟨S2, .i32⟩
  | 121 => ⟨S2, .i32⟩
  | 122 => ⟨S_, .i32⟩
  | 123 => ⟨S2, .i32⟩
  | 124 => ⟨S2, .i32⟩
  | 125 => ⟨S2, .i32⟩
  | 126 => ⟨S2, .i32⟩
  | 127 => ⟨S2, .i32⟩
  | _ => ⟨S16x2048x2048, .i32⟩

abbrev hbmTy0_2 (i : Nat) : BufTy := match i % 128 with
  | 0 => ⟨S_, .i32⟩
  | 1 => ⟨S2, .i32⟩
  | 2 => ⟨S2, .i32⟩
  | 3 => ⟨S_, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S1, .i32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S_, .i32⟩
  | 23 => ⟨S16x2048x2048, .f32⟩
  | 24 => ⟨S16x2048x2048, .i1⟩
  | 25 => ⟨S_, .i32⟩
  | 26 => ⟨S16x2048x2048, .i32⟩
  | 27 => ⟨S16x2048x2048, .i32⟩
  | 28 => ⟨S16x2048x2048, .i32⟩
  | 29 => ⟨S67108864, .i32⟩
  | 30 => ⟨S16x2048x2048, .i32⟩
  | 31 => ⟨S_, .i32⟩
  | 32 => ⟨S16x2048x2048, .i32⟩
  | 33 => ⟨S_, .i32⟩
  | 34 => ⟨S_, .i32⟩
  | 35 => ⟨S_, .i32⟩
  | 36 => ⟨S16x2048x2048, .i32⟩
  | 37 => ⟨S16x2048x2048, .i32⟩
  | 38 => ⟨S16x2048x2048, .i32⟩
  | 39 => ⟨S16x2048x2048, .i32⟩
  | 40 => ⟨S16x2048x2048, .i32⟩
  | 41 => ⟨S_, .i32⟩
  | 42 => ⟨S16x2048x2048, .i32⟩
  | 43 => ⟨S16x2048x2048, .i32⟩
  | 44 => ⟨S_, .i32⟩
  | 45 => ⟨S16x2048x2048, .i32⟩
  | 46 => ⟨S16x2048x2048, .i32⟩
  | 47 => ⟨S16x2048x2048, .i32⟩
  | 48 => ⟨S16x2048x2048, .i32⟩
  | 49 => ⟨S16x2048x2048, .i32⟩
  | 50 => ⟨S_, .i32⟩
  | 51 => ⟨S16x2048x2048, .i32⟩
  | 52 => ⟨S16x2048x2048, .i32⟩
  | 53 => ⟨S_, .i32⟩
  | 54 => ⟨S16x2048x2048, .i32⟩
  | 55 => ⟨S16x2048x2048, .i32⟩
  | 56 => ⟨S16x2048x2048, .i32⟩
  | 57 => ⟨S16x2048x2048, .i32⟩
  | 58 => ⟨S16x2048x2048, .i32⟩
  | 59 => ⟨S_, .i32⟩
  | 60 => ⟨S16x2048x2048, .i32⟩
  | 61 => ⟨S16x2048x2048, .i32⟩
  | 62 => ⟨S_, .i32⟩
  | 63 => ⟨S16x2048x2048, .i32⟩
  | 64 => ⟨S16x2048x2048, .i32⟩
  | 65 => ⟨S16x2048x2048, .i32⟩
  | 66 => ⟨S16x2048x2048, .i32⟩
  | 67 => ⟨S16x2048x2048, .i32⟩
  | 68 => ⟨S_, .i32⟩
  | 69 => ⟨S16x2048x2048, .i32⟩
  | 70 => ⟨S16x2048x2048, .i32⟩
  | 71 => ⟨S_, .i32⟩
  | 72 => ⟨S16x2048x2048, .i32⟩
  | 73 => ⟨S16x2048x2048, .i32⟩
  | 74 => ⟨S16x2048x2048, .i32⟩
  | 75 => ⟨S16x2048x2048, .i32⟩
  | 76 => ⟨S16x2048x2048, .i32⟩
  | 77 => ⟨S16x2048x2048, .i32⟩
  | 78 => ⟨S16x2048x2048, .i32⟩
  | 79 => ⟨S16x2048x2048, .i32⟩
  | 80 => ⟨S_, .i32⟩
  | 81 => ⟨S16x2048x2048, .i32⟩
  | 82 => ⟨S16x2048x2048, .i32⟩
  | 83 => ⟨S16x2048x2048, .i32⟩
  | 84 => ⟨S_, .i32⟩
  | 85 => ⟨S16x2048x2048, .i32⟩
  | 86 => ⟨S16x2048x2048, .i32⟩
  | 87 => ⟨S_, .i32⟩
  | 88 => ⟨S16x2048x2048, .i32⟩
  | 89 => ⟨S16x2048x2048, .i32⟩
  | 90 => ⟨S16x2048x2048, .i32⟩
  | 91 => ⟨S16x2048x2048, .i32⟩
  | 92 => ⟨S16x2048x2048, .i32⟩
  | 93 => ⟨S_, .i32⟩
  | 94 => ⟨S16x2048x2048, .i32⟩
  | 95 => ⟨S16x2048x2048, .i32⟩
  | 96 => ⟨S_, .i32⟩
  | 97 => ⟨S16x2048x2048, .i32⟩
  | 98 => ⟨S16x2048x2048, .i32⟩
  | 99 => ⟨S16x2048x2048, .i32⟩
  | 100 => ⟨S16x2048x2048, .i32⟩
  | 101 => ⟨S16x2048x2048, .i32⟩
  | 102 => ⟨S_, .i32⟩
  | 103 => ⟨S16x2048x2048, .i32⟩
  | 104 => ⟨S16x2048x2048, .i32⟩
  | 105 => ⟨S_, .i32⟩
  | 106 => ⟨S16x2048x2048, .i32⟩
  | 107 => ⟨S16x2048x2048, .i32⟩
  | 108 => ⟨S16x2048x2048, .i32⟩
  | 109 => ⟨S16x2048x2048, .i32⟩
  | 110 => ⟨S16x2048x2048, .i32⟩
  | 111 => ⟨S_, .i32⟩
  | 112 => ⟨S16x2048x2048, .i32⟩
  | 113 => ⟨S16x2048x2048, .i32⟩
  | 114 => ⟨S_, .i32⟩
  | 115 => ⟨S16x2048x2048, .i32⟩
  | 116 => ⟨S16x2048x2048, .i32⟩
  | 117 => ⟨S16x2048x2048, .i32⟩
  | 118 => ⟨S16x2048x2048, .i32⟩
  | 119 => ⟨S16x2048x2048, .i32⟩
  | 120 => ⟨S16x2048x2048, .i32⟩
  | 121 => ⟨S16x2048x2048, .i32⟩
  | 122 => ⟨S16x2048x2048, .i32⟩
  | 123 => ⟨S_, .i32⟩
  | 124 => ⟨S16x2048x2048, .i32⟩
  | 125 => ⟨S16x2048x2048, .i32⟩
  | 126 => ⟨S16x2048x2048, .i32⟩
  | 127 => ⟨S_, .i32⟩
  | _ => ⟨S16x2048x2048, .i32⟩

abbrev hbmTy0_3 (i : Nat) : BufTy := match i % 128 with
  | 0 => ⟨S16x2048x2048, .i32⟩
  | 1 => ⟨S16x2048x2048, .i32⟩
  | 2 => ⟨S_, .i32⟩
  | 3 => ⟨S16x2048x2048, .i32⟩
  | 4 => ⟨S16x2048x2048, .i32⟩
  | 5 => ⟨S16x2048x2048, .i32⟩
  | 6 => ⟨S16x2048x2048, .i32⟩
  | 7 => ⟨S16x2048x2048, .i32⟩
  | 8 => ⟨S_, .i32⟩
  | 9 => ⟨S16x2048x2048, .i32⟩
  | 10 => ⟨S16x2048x2048, .i32⟩
  | 11 => ⟨S_, .i32⟩
  | 12 => ⟨S16x2048x2048, .i32⟩
  | 13 => ⟨S16x2048x2048, .i32⟩
  | 14 => ⟨S16x2048x2048, .i32⟩
  | 15 => ⟨S16x2048x2048, .i32⟩
  | 16 => ⟨S16x2048x2048, .i32⟩
  | 17 => ⟨S_, .i32⟩
  | 18 => ⟨S16x2048x2048, .i32⟩
  | 19 => ⟨S16x2048x2048, .i32⟩
  | 20 => ⟨S_, .i32⟩
  | 21 => ⟨S16x2048x2048, .i32⟩
  | 22 => ⟨S16x2048x2048, .i32⟩
  | 23 => ⟨S16x2048x2048, .i32⟩
  | 24 => ⟨S16x2048x2048, .i32⟩
  | 25 => ⟨S16x2048x2048, .i32⟩
  | 26 => ⟨S_, .i32⟩
  | 27 => ⟨S16x2048x2048, .i32⟩
  | 28 => ⟨S16x2048x2048, .i32⟩
  | 29 => ⟨S_, .i32⟩
  | 30 => ⟨S16x2048x2048, .i32⟩
  | 31 => ⟨S16x2048x2048, .i32⟩
  | 32 => ⟨S16x2048x2048, .i32⟩
  | 33 => ⟨S16x2048x2048, .i32⟩
  | 34 => ⟨S16x2048x2048, .i32⟩
  | 35 => ⟨S16x2048x2048, .i32⟩
  | 36 => ⟨S16x2048x2048, .i32⟩
  | 37 => ⟨S16x2048x2048, .i32⟩
  | 38 => ⟨S_, .i32⟩
  | 39 => ⟨S16x2048x2048, .i32⟩
  | 40 => ⟨S16x2048x2048, .i32⟩
  | 41 => ⟨S16x2048x2048, .i32⟩
  | 42 => ⟨S_, .i32⟩
  | 43 => ⟨S16x2048x2048, .i32⟩
  | 44 => ⟨S16x2048x2048, .i32⟩
  | 45 => ⟨S_, .i32⟩
  | 46 => ⟨S16x2048x2048, .i32⟩
  | 47 => ⟨S16x2048x2048, .i32⟩
  | 48 => ⟨S16x2048x2048, .i32⟩
  | 49 => ⟨S16x2048x2048, .i32⟩
  | 50 => ⟨S16x2048x2048, .i32⟩
  | 51 => ⟨S_, .i32⟩
  | 52 => ⟨S16x2048x2048, .i32⟩
  | 53 => ⟨S16x2048x2048, .i32⟩
  | 54 => ⟨S_, .i32⟩
  | 55 => ⟨S16x2048x2048, .i32⟩
  | 56 => ⟨S16x2048x2048, .i32⟩
  | 57 => ⟨S16x2048x2048, .i32⟩
  | 58 => ⟨S16x2048x2048, .i32⟩
  | 59 => ⟨S16x2048x2048, .i32⟩
  | 60 => ⟨S_, .i32⟩
  | 61 => ⟨S16x2048x2048, .i32⟩
  | 62 => ⟨S16x2048x2048, .i32⟩
  | 63 => ⟨S_, .i32⟩
  | 64 => ⟨S16x2048x2048, .i32⟩
  | 65 => ⟨S16x2048x2048, .i32⟩
  | 66 => ⟨S16x2048x2048, .i32⟩
  | 67 => ⟨S16x2048x2048, .i32⟩
  | 68 => ⟨S16x2048x2048, .i32⟩
  | 69 => ⟨S_, .i32⟩
  | 70 => ⟨S16x2048x2048, .i32⟩
  | 71 => ⟨S16x2048x2048, .i32⟩
  | 72 => ⟨S_, .i32⟩
  | 73 => ⟨S16x2048x2048, .i32⟩
  | 74 => ⟨S16x2048x2048, .i32⟩
  | 75 => ⟨S16x2048x2048, .i32⟩
  | 76 => ⟨S16x2048x2048, .i32⟩
  | 77 => ⟨S16x2048x2048, .i32⟩
  | 78 => ⟨S16x2048x2048, .i32⟩
  | 79 => ⟨S16x2048x2048, .i32⟩
  | 80 => ⟨S16x2048x2048, .i32⟩
  | 81 => ⟨S_, .i32⟩
  | 82 => ⟨S16x2048x2048, .i32⟩
  | 83 => ⟨S16x2048x2048, .i32⟩
  | 84 => ⟨S16x2048x2048, .i32⟩
  | 85 => ⟨S_, .i32⟩
  | 86 => ⟨S16x2048x2048, .i32⟩
  | 87 => ⟨S16x2048x2048, .i32⟩
  | 88 => ⟨S_, .i32⟩
  | 89 => ⟨S16x2048x2048, .i32⟩
  | 90 => ⟨S16x2048x2048, .i32⟩
  | 91 => ⟨S16x2048x2048, .i32⟩
  | 92 => ⟨S16x2048x2048, .i32⟩
  | 93 => ⟨S16x2048x2048, .i32⟩
  | 94 => ⟨S_, .i32⟩
  | 95 => ⟨S16x2048x2048, .i32⟩
  | 96 => ⟨S16x2048x2048, .i32⟩
  | 97 => ⟨S_, .i32⟩
  | 98 => ⟨S16x2048x2048, .i32⟩
  | 99 => ⟨S16x2048x2048, .i32⟩
  | 100 => ⟨S16x2048x2048, .i32⟩
  | 101 => ⟨S16x2048x2048, .i32⟩
  | 102 => ⟨S16x2048x2048, .i32⟩
  | 103 => ⟨S_, .i32⟩
  | 104 => ⟨S16x2048x2048, .i32⟩
  | 105 => ⟨S16x2048x2048, .i32⟩
  | 106 => ⟨S_, .i32⟩
  | 107 => ⟨S16x2048x2048, .i32⟩
  | 108 => ⟨S16x2048x2048, .i32⟩
  | 109 => ⟨S16x2048x2048, .i32⟩
  | 110 => ⟨S16x2048x2048, .i32⟩
  | 111 => ⟨S16x2048x2048, .i32⟩
  | 112 => ⟨S_, .i32⟩
  | 113 => ⟨S16x2048x2048, .i32⟩
  | 114 => ⟨S16x2048x2048, .i32⟩
  | 115 => ⟨S_, .i32⟩
  | 116 => ⟨S16x2048x2048, .i32⟩
  | 117 => ⟨S16x2048x2048, .i32⟩
  | 118 => ⟨S16x2048x2048, .i32⟩
  | 119 => ⟨S16x2048x2048, .i32⟩
  | 120 => ⟨S16x2048x2048, .i32⟩
  | 121 => ⟨S16x2048x2048, .i32⟩
  | 122 => ⟨S16x2048x2048, .i32⟩
  | 123 => ⟨S16x2048x2048, .i32⟩
  | 124 => ⟨S_, .i32⟩
  | 125 => ⟨S16x2048x2048, .i32⟩
  | 126 => ⟨S16x2048x2048, .i32⟩
  | 127 => ⟨S16x2048x2048, .i32⟩
  | _ => ⟨S16x2048x2048, .i32⟩

abbrev hbmTy0_4 (i : Nat) : BufTy := match i % 128 with
  | 0 => ⟨S_, .i32⟩
  | 1 => ⟨S16x2048x2048, .i32⟩
  | 2 => ⟨S16x2048x2048, .i32⟩
  | 3 => ⟨S_, .i32⟩
  | 4 => ⟨S16x2048x2048, .i32⟩
  | 5 => ⟨S16x2048x2048, .i32⟩
  | 6 => ⟨S16x2048x2048, .f32⟩
  | 7 => ⟨S_, .f32⟩
  | 8 => ⟨S16x2048x2048, .f32⟩
  | 9 => ⟨S16x2048x2048, .f32⟩
  | 10 => ⟨S16x2048x2048, .f32⟩
  | 11 => ⟨S16x2048x2048, .f32⟩
  | 12 => ⟨S16x2048x2048, .i1⟩
  | 13 => ⟨S_, .f32⟩
  | 14 => ⟨S16x2048x2048, .f32⟩
  | 15 => ⟨S16x2048x2048, .i1⟩
  | 16 => ⟨S16x2048x2048, .i1⟩
  | 17 => ⟨S_, .f32⟩
  | 18 => ⟨S_, .f32⟩
  | 19 => ⟨S16x2048x2048, .f32⟩
  | 20 => ⟨S16x2048x2048, .f32⟩
  | 21 => ⟨S16x2048x2048, .f32⟩
  | 22 => ⟨S16x2048x2048, .f32⟩
  | 23 => ⟨S_, .f32⟩
  | 24 => ⟨S16x2048x2048, .f32⟩
  | 25 => ⟨S16x2048x2048, .f32⟩
  | 26 => ⟨S_, .f32⟩
  | 27 => ⟨S16x2048x2048, .f32⟩
  | 28 => ⟨S16x2048x2048, .f32⟩
  | 29 => ⟨S_, .f32⟩
  | 30 => ⟨S16x2048x2048, .f32⟩
  | 31 => ⟨S16x2048x2048, .f32⟩
  | 32 => ⟨S_, .f32⟩
  | 33 => ⟨S16x2048x2048, .f32⟩
  | 34 => ⟨S16x2048x2048, .f32⟩
  | 35 => ⟨S_, .f32⟩
  | 36 => ⟨S16x2048x2048, .f32⟩
  | 37 => ⟨S16x2048x2048, .f32⟩
  | 38 => ⟨S_, .f32⟩
  | 39 => ⟨S16x2048x2048, .f32⟩
  | 40 => ⟨S16x2048x2048, .f32⟩
  | 41 => ⟨S_, .f32⟩
  | 42 => ⟨S16x2048x2048, .f32⟩
  | 43 => ⟨S16x2048x2048, .f32⟩
  | 44 => ⟨S_, .f32⟩
  | 45 => ⟨S16x2048x2048, .f32⟩
  | 46 => ⟨S16x2048x2048, .f32⟩
  | 47 => ⟨S_, .f32⟩
  | 48 => ⟨S16x2048x2048, .f32⟩
  | 49 => ⟨S16x2048x2048, .f32⟩
  | 50 => ⟨S_, .f32⟩
  | 51 => ⟨S16x2048x2048, .f32⟩
  | 52 => ⟨S16x2048x2048, .f32⟩
  | 53 => ⟨S_, .i32⟩
  | 54 => ⟨S3, .i32⟩
  | 55 => ⟨S3, .i32⟩
  | 56 => ⟨S_, .i32⟩
  | 57 => ⟨S_, .i32⟩
  | 58 => ⟨S_, .i32⟩
  | 59 => ⟨S3, .i32⟩
  | 60 => ⟨S3, .i32⟩
  | 61 => ⟨S3, .i32⟩
  | 62 => ⟨S3, .i32⟩
  | 63 => ⟨S3, .i32⟩
  | 64 => ⟨S_, .i32⟩
  | 65 => ⟨S3, .i32⟩
  | 66 => ⟨S3, .i32⟩
  | 67 => ⟨S_, .i32⟩
  | 68 => ⟨S3, .i32⟩
  | 69 => ⟨S3, .i32⟩
  | 70 => ⟨S3, .i32⟩
  | 71 => ⟨S3, .i32⟩
  | 72 => ⟨S3, .i32⟩
  | 73 => ⟨S_, .i32⟩
  | 74 => ⟨S3, .i32⟩
  | 75 => ⟨S3, .i32⟩
  | 76 => ⟨S_, .i32⟩
  | 77 => ⟨S3, .i32⟩
  | 78 => ⟨S3, .i32⟩
  | 79 => ⟨S3, .i32⟩
  | 80 => ⟨S3, .i32⟩
  | 81 => ⟨S3, .i32⟩
  | 82 => ⟨S_, .i32⟩
  | 83 => ⟨S3, .i32⟩
  | 84 => ⟨S3, .i32⟩
  | 85 => ⟨S_, .i32⟩
  | 86 => ⟨S3, .i32⟩
  | 87 => ⟨S3, .i32⟩
  | 88 => ⟨S3, .i32⟩
  | 89 => ⟨S3, .i32⟩
  | 90 => ⟨S3, .i32⟩
  | 91 => ⟨S_, .i32⟩
  | 92 => ⟨S3, .i32⟩
  | 93 => ⟨S3, .i32⟩
  | 94 => ⟨S_, .i32⟩
  | 95 => ⟨S3, .i32⟩
  | 96 => ⟨S3, .i32⟩
  | 97 => ⟨S3, .i32⟩
  | 98 => ⟨S3, .i32⟩
  | 99 => ⟨S3, .i32⟩
  | 100 => ⟨S3, .i32⟩
  | 101 => ⟨S3, .i32⟩
  | 102 => ⟨S3, .i32⟩
  | 103 => ⟨S_, .i32⟩
  | 104 => ⟨S3, .i32⟩
  | 105 => ⟨S3, .i32⟩
  | 106 => ⟨S3, .i32⟩
  | 107 => ⟨S_, .i32⟩
  | 108 => ⟨S3, .i32⟩
  | 109 => ⟨S3, .i32⟩
  | 110 => ⟨S_, .i32⟩
  | 111 => ⟨S3, .i32⟩
  | 112 => ⟨S3, .i32⟩
  | 113 => ⟨S3, .i32⟩
  | 114 => ⟨S3, .i32⟩
  | 115 => ⟨S3, .i32⟩
  | 116 => ⟨S_, .i32⟩
  | 117 => ⟨S3, .i32⟩
  | 118 => ⟨S3, .i32⟩
  | 119 => ⟨S_, .i32⟩
  | 120 => ⟨S3, .i32⟩
  | 121 => ⟨S3, .i32⟩
  | 122 => ⟨S3, .i32⟩
  | 123 => ⟨S3, .i32⟩
  | 124 => ⟨S3, .i32⟩
  | 125 => ⟨S_, .i32⟩
  | 126 => ⟨S3, .i32⟩
  | 127 => ⟨S3, .i32⟩
  | _ => ⟨S16x2048x2048, .i32⟩

abbrev hbmTy0_5 (i : Nat) : BufTy := match i % 128 with
  | 0 => ⟨S_, .i32⟩
  | 1 => ⟨S3, .i32⟩
  | 2 => ⟨S3, .i32⟩
  | 3 => ⟨S3, .i32⟩
  | 4 => ⟨S3, .i32⟩
  | 5 => ⟨S3, .i32⟩
  | 6 => ⟨S_, .i32⟩
  | 7 => ⟨S3, .i32⟩
  | 8 => ⟨S3, .i32⟩
  | 9 => ⟨S_, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S3, .i32⟩
  | 17 => ⟨S3, .i32⟩
  | 18 => ⟨S_, .i32⟩
  | 19 => ⟨S3, .i32⟩
  | 20 => ⟨S3, .i32⟩
  | 21 => ⟨S3, .i32⟩
  | 22 => ⟨S_, .i32⟩
  | 23 => ⟨S3, .i32⟩
  | 24 => ⟨S3, .i32⟩
  | 25 => ⟨S_, .i32⟩
  | 26 => ⟨S3, .i32⟩
  | 27 => ⟨S3, .i32⟩
  | 28 => ⟨S3, .i32⟩
  | 29 => ⟨S3, .i32⟩
  | 30 => ⟨S3, .i32⟩
  | 31 => ⟨S_, .i32⟩
  | 32 => ⟨S3, .i32⟩
  | 33 => ⟨S3, .i32⟩
  | 34 => ⟨S_, .i32⟩
  | 35 => ⟨S3, .i32⟩
  | 36 => ⟨S3, .i32⟩
  | 37 => ⟨S3, .i32⟩
  | 38 => ⟨S3, .i32⟩
  | 39 => ⟨S3, .i32⟩
  | 40 => ⟨S_, .i32⟩
  | 41 => ⟨S3, .i32⟩
  | 42 => ⟨S3, .i32⟩
  | 43 => ⟨S_, .i32⟩
  | 44 => ⟨S3, .i32⟩
  | 45 => ⟨S3, .i32⟩
  | 46 => ⟨S3, .i32⟩
  | 47 => ⟨S3, .i32⟩
  | 48 => ⟨S3, .i32⟩
  | 49 => ⟨S_, .i32⟩
  | 50 => ⟨S3, .i32⟩
  | 51 => ⟨S3, .i32⟩
  | 52 => ⟨S_, .i32⟩
  | 53 => ⟨S3, .i32⟩
  | 54 => ⟨S3, .i32⟩
  | 55 => ⟨S3, .i32⟩
  | 56 => ⟨S3, .i32⟩
  | 57 => ⟨S3, .i32⟩
  | 58 => ⟨S3, .i32⟩
  | 59 => ⟨S3, .i32⟩
  | 60 => ⟨S3, .i32⟩
  | 61 => ⟨S_, .i32⟩
  | 62 => ⟨S3, .i32⟩
  | 63 => ⟨S3, .i32⟩
  | 64 => ⟨S3, .i32⟩
  | 65 => ⟨S_, .i32⟩
  | 66 => ⟨S3, .i32⟩
  | 67 => ⟨S3, .i32⟩
  | 68 => ⟨S_, .i32⟩
  | 69 => ⟨S3, .i32⟩
  | 70 => ⟨S3, .i32⟩
  | 71 => ⟨S3, .i32⟩
  | 72 => ⟨S3, .i32⟩
  | 73 => ⟨S3, .i32⟩
  | 74 => ⟨S_, .i32⟩
  | 75 => ⟨S3, .i32⟩
  | 76 => ⟨S3, .i32⟩
  | 77 => ⟨S_, .i32⟩
  | 78 => ⟨S3, .i32⟩
  | 79 => ⟨S3, .i32⟩
  | 80 => ⟨S3, .i32⟩
  | 81 => ⟨S3, .i32⟩
  | 82 => ⟨S3, .i32⟩
  | 83 => ⟨S_, .i32⟩
  | 84 => ⟨S3, .i32⟩
  | 85 => ⟨S3, .i32⟩
  | 86 => ⟨S_, .i32⟩
  | 87 => ⟨S3, .i32⟩
  | 88 => ⟨S3, .i32⟩
  | 89 => ⟨S3, .i32⟩
  | 90 => ⟨S3, .i32⟩
  | 91 => ⟨S3, .i32⟩
  | 92 => ⟨S_, .i32⟩
  | 93 => ⟨S3, .i32⟩
  | 94 => ⟨S3, .i32⟩
  | 95 => ⟨S_, .i32⟩
  | 96 => ⟨S3, .i32⟩
  | 97 => ⟨S3, .i32⟩
  | 98 => ⟨S3, .i32⟩
  | 99 => ⟨S3, .i32⟩
  | 100 => ⟨S3, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S3, .i32⟩
  | 108 => ⟨S_, .i32⟩
  | 109 => ⟨S3, .i32⟩
  | 110 => ⟨S3, .i32⟩
  | 111 => ⟨S_, .i32⟩
  | 112 => ⟨S3, .i32⟩
  | 113 => ⟨S3, .i32⟩
  | 114 => ⟨S3, .i32⟩
  | 115 => ⟨S3, .i32⟩
  | 116 => ⟨S3, .i32⟩
  | 117 => ⟨S_, .i32⟩
  | 118 => ⟨S3, .i32⟩
  | 119 => ⟨S3, .i32⟩
  | 120 => ⟨S_, .i32⟩
  | 121 => ⟨S3, .i32⟩
  | 122 => ⟨S3, .i32⟩
  | 123 => ⟨S3, .i32⟩
  | 124 => ⟨S3, .i32⟩
  | 125 => ⟨S3, .i32⟩
  | 126 => ⟨S_, .i32⟩
  | 127 => ⟨S3, .i32⟩
  | _ => ⟨S16x2048x2048, .i32⟩

abbrev hbmTy0_6 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S3, .i32⟩
  | 6 => ⟨S3, .i32⟩
  | 7 => ⟨S_, .i32⟩
  | 8 => ⟨S3, .i32⟩
  | 9 => ⟨S3, .i32⟩
  | 10 => ⟨S_, .i32⟩
  | 11 => ⟨S3, .i32⟩
  | 12 => ⟨S3, .i32⟩
  | 13 => ⟨S3, .i32⟩
  | 14 => ⟨S3, .i32⟩
  | 15 => ⟨S3, .i32⟩
  | 16 => ⟨S3, .i32⟩
  | 17 => ⟨S3, .i32⟩
  | 18 => ⟨S3, .i32⟩
  | 19 => ⟨S_, .i32⟩
  | 20 => ⟨S3, .i32⟩
  | 21 => ⟨S3, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S1, .i32⟩
  | 33 => ⟨S_, .i32⟩
  | 34 => ⟨S67108864, .i32⟩
  | 35 => ⟨S16x2048x2048, .i32⟩
  | 36 => ⟨S_, .i32⟩
  | 37 => ⟨S16x2048x2048, .i32⟩
  | 38 => ⟨S_, .i32⟩
  | 39 => ⟨S_, .i32⟩
  | 40 => ⟨S_, .i32⟩
  | 41 => ⟨S16x2048x2048, .i32⟩
  | 42 => ⟨S16x2048x2048, .i32⟩
  | 43 => ⟨S16x2048x2048, .i32⟩
  | 44 => ⟨S16x2048x2048, .i32⟩
  | 45 => ⟨S16x2048x2048, .i32⟩
  | 46 => ⟨S_, .i32⟩
  | 47 => ⟨S16x2048x2048, .i32⟩
  | 48 => ⟨S16x2048x2048, .i32⟩
  | 49 => ⟨S_, .i32⟩
  | 50 => ⟨S16x2048x2048, .i32⟩
  | 51 => ⟨S16x2048x2048, .i32⟩
  | 52 => ⟨S16x2048x2048, .i32⟩
  | 53 => ⟨S16x2048x2048, .i32⟩
  | 54 => ⟨S16x2048x2048, .i32⟩
  | 55 => ⟨S_, .i32⟩
  | 56 => ⟨S16x2048x2048, .i32⟩
  | 57 => ⟨S16x2048x2048, .i32⟩
  | 58 => ⟨S_, .i32⟩
  | 59 => ⟨S16x2048x2048, .i32⟩
  | 60 => ⟨S16x2048x2048, .i32⟩
  | 61 => ⟨S16x2048x2048, .i32⟩
  | 62 => ⟨S16x2048x2048, .i32⟩
  | 63 => ⟨S16x2048x2048, .i32⟩
  | 64 => ⟨S_, .i32⟩
  | 65 => ⟨S16x2048x2048, .i32⟩
  | 66 => ⟨S16x2048x2048, .i32⟩
  | 67 => ⟨S_, .i32⟩
  | 68 => ⟨S16x2048x2048, .i32⟩
  | 69 => ⟨S16x2048x2048, .i32⟩
  | 70 => ⟨S16x2048x2048, .i32⟩
  | 71 => ⟨S16x2048x2048, .i32⟩
  | 72 => ⟨S16x2048x2048, .i32⟩
  | 73 => ⟨S_, .i32⟩
  | 74 => ⟨S16x2048x2048, .i32⟩
  | 75 => ⟨S16x2048x2048, .i32⟩
  | 76 => ⟨S_, .i32⟩
  | 77 => ⟨S16x2048x2048, .i32⟩
  | 78 => ⟨S16x2048x2048, .i32⟩
  | 79 => ⟨S16x2048x2048, .i32⟩
  | 80 => ⟨S16x2048x2048, .i32⟩
  | 81 => ⟨S16x2048x2048, .i32⟩
  | 82 => ⟨S16x2048x2048, .i32⟩
  | 83 => ⟨S16x2048x2048, .i32⟩
  | 84 => ⟨S16x2048x2048, .i32⟩
  | 85 => ⟨S_, .i32⟩
  | 86 => ⟨S16x2048x2048, .i32⟩
  | 87 => ⟨S16x2048x2048, .i32⟩
  | 88 => ⟨S16x2048x2048, .i32⟩
  | 89 => ⟨S_, .i32⟩
  | 90 => ⟨S16x2048x2048, .i32⟩
  | 91 => ⟨S16x2048x2048, .i32⟩
  | 92 => ⟨S_, .i32⟩
  | 93 => ⟨S16x2048x2048, .i32⟩
  | 94 => ⟨S16x2048x2048, .i32⟩
  | 95 => ⟨S16x2048x2048, .i32⟩
  | 96 => ⟨S16x2048x2048, .i32⟩
  | 97 => ⟨S16x2048x2048, .i32⟩
  | 98 => ⟨S_, .i32⟩
  | 99 => ⟨S16x2048x2048, .i32⟩
  | 100 => ⟨S16x2048x2048, .i32⟩
  | 101 => ⟨S_, .i32⟩
  | 102 => ⟨S16x2048x2048, .i32⟩
  | 103 => ⟨S16x2048x2048, .i32⟩
  | 104 => ⟨S16x2048x2048, .i32⟩
  | 105 => ⟨S16x2048x2048, .i32⟩
  | 106 => ⟨S16x2048x2048, .i32⟩
  | 107 => ⟨S_, .i32⟩
  | 108 => ⟨S16x2048x2048, .i32⟩
  | 109 => ⟨S16x2048x2048, .i32⟩
  | 110 => ⟨S_, .i32⟩
  | 111 => ⟨S16x2048x2048, .i32⟩
  | 112 => ⟨S16x2048x2048, .i32⟩
  | 113 => ⟨S16x2048x2048, .i32⟩
  | 114 => ⟨S16x2048x2048, .i32⟩
  | 115 => ⟨S16x2048x2048, .i32⟩
  | 116 => ⟨S_, .i32⟩
  | 117 => ⟨S16x2048x2048, .i32⟩
  | 118 => ⟨S16x2048x2048, .i32⟩
  | 119 => ⟨S_, .i32⟩
  | 120 => ⟨S16x2048x2048, .i32⟩
  | 121 => ⟨S16x2048x2048, .i32⟩
  | 122 => ⟨S16x2048x2048, .i32⟩
  | 123 => ⟨S16x2048x2048, .i32⟩
  | 124 => ⟨S16x2048x2048, .i32⟩
  | 125 => ⟨S16x2048x2048, .i32⟩
  | 126 => ⟨S16x2048x2048, .i32⟩
  | 127 => ⟨S16x2048x2048, .i32⟩
  | _ => ⟨S16x2048x2048, .i32⟩

abbrev hbmTy0_7 (i : Nat) : BufTy := match i % 128 with
  | 0 => ⟨S_, .i32⟩
  | 1 => ⟨S16x2048x2048, .i32⟩
  | 2 => ⟨S16x2048x2048, .i32⟩
  | 3 => ⟨S16x2048x2048, .i32⟩
  | 4 => ⟨S_, .i32⟩
  | 5 => ⟨S16x2048x2048, .i32⟩
  | 6 => ⟨S16x2048x2048, .i32⟩
  | 7 => ⟨S_, .i32⟩
  | 8 => ⟨S16x2048x2048, .i32⟩
  | 9 => ⟨S16x2048x2048, .i32⟩
  | 10 => ⟨S16x2048x2048, .i32⟩
  | 11 => ⟨S16x2048x2048, .i32⟩
  | 12 => ⟨S16x2048x2048, .i32⟩
  | 13 => ⟨S_, .i32⟩
  | 14 => ⟨S16x2048x2048, .i32⟩
  | 15 => ⟨S16x2048x2048, .i32⟩
  | 16 => ⟨S_, .i32⟩
  | 17 => ⟨S16x2048x2048, .i32⟩
  | 18 => ⟨S16x2048x2048, .i32⟩
  | 19 => ⟨S16x2048x2048, .i32⟩
  | 20 => ⟨S16x2048x2048, .i32⟩
  | 21 => ⟨S16x2048x2048, .i32⟩
  | 22 => ⟨S_, .i32⟩
  | 23 => ⟨S16x2048x2048, .i32⟩
  | 24 => ⟨S16x2048x2048, .i32⟩
  | 25 => ⟨S_, .i32⟩
  | 26 => ⟨S16x2048x2048, .i32⟩
  | 27 => ⟨S16x2048x2048, .i32⟩
  | 28 => ⟨S16x2048x2048, .i32⟩
  | 29 => ⟨S16x2048x2048, .i32⟩
  | 30 => ⟨S16x2048x2048, .i32⟩
  | 31 => ⟨S_, .i32⟩
  | 32 => ⟨S16x2048x2048, .i32⟩
  | 33 => ⟨S16x2048x2048, .i32⟩
  | 34 => ⟨S_, .i32⟩
  | 35 => ⟨S16x2048x2048, .i32⟩
  | 36 => ⟨S16x2048x2048, .i32⟩
  | 37 => ⟨S16x2048x2048, .i32⟩
  | 38 => ⟨S16x2048x2048, .i32⟩
  | 39 => ⟨S16x2048x2048, .i32⟩
  | 40 => ⟨S16x2048x2048, .i32⟩
  | 41 => ⟨S16x2048x2048, .i32⟩
  | 42 => ⟨S16x2048x2048, .i32⟩
  | 43 => ⟨S_, .i32⟩
  | 44 => ⟨S16x2048x2048, .i32⟩
  | 45 => ⟨S16x2048x2048, .i32⟩
  | 46 => ⟨S16x2048x2048, .i32⟩
  | 47 => ⟨S_, .i32⟩
  | 48 => ⟨S16x2048x2048, .i32⟩
  | 49 => ⟨S16x2048x2048, .i32⟩
  | 50 => ⟨S_, .i32⟩
  | 51 => ⟨S16x2048x2048, .i32⟩
  | 52 => ⟨S16x2048x2048, .i32⟩
  | 53 => ⟨S16x2048x2048, .i32⟩
  | 54 => ⟨S16x2048x2048, .i32⟩
  | 55 => ⟨S16x2048x2048, .i32⟩
  | 56 => ⟨S_, .i32⟩
  | 57 => ⟨S16x2048x2048, .i32⟩
  | 58 => ⟨S16x2048x2048, .i32⟩
  | 59 => ⟨S_, .i32⟩
  | 60 => ⟨S16x2048x2048, .i32⟩
  | 61 => ⟨S16x2048x2048, .i32⟩
  | 62 => ⟨S16x2048x2048, .i32⟩
  | 63 => ⟨S16x2048x2048, .i32⟩
  | 64 => ⟨S16x2048x2048, .i32⟩
  | 65 => ⟨S_, .i32⟩
  | 66 => ⟨S16x2048x2048, .i32⟩
  | 67 => ⟨S16x2048x2048, .i32⟩
  | 68 => ⟨S_, .i32⟩
  | 69 => ⟨S16x2048x2048, .i32⟩
  | 70 => ⟨S16x2048x2048, .i32⟩
  | 71 => ⟨S16x2048x2048, .i32⟩
  | 72 => ⟨S16x2048x2048, .i32⟩
  | 73 => ⟨S16x2048x2048, .i32⟩
  | 74 => ⟨S_, .i32⟩
  | 75 => ⟨S16x2048x2048, .i32⟩
  | 76 => ⟨S16x2048x2048, .i32⟩
  | 77 => ⟨S_, .i32⟩
  | 78 => ⟨S16x2048x2048, .i32⟩
  | 79 => ⟨S16x2048x2048, .i32⟩
  | 80 => ⟨S16x2048x2048, .i32⟩
  | 81 => ⟨S16x2048x2048, .i32⟩
  | 82 => ⟨S16x2048x2048, .i32⟩
  | 83 => ⟨S16x2048x2048, .i32⟩
  | 84 => ⟨S16x2048x2048, .i32⟩
  | 85 => ⟨S16x2048x2048, .i32⟩
  | 86 => ⟨S_, .i32⟩
  | 87 => ⟨S16x2048x2048, .i32⟩
  | 88 => ⟨S16x2048x2048, .i32⟩
  | 89 => ⟨S16x2048x2048, .i32⟩
  | 90 => ⟨S_, .i32⟩
  | 91 => ⟨S16x2048x2048, .i32⟩
  | 92 => ⟨S16x2048x2048, .i32⟩
  | 93 => ⟨S_, .i32⟩
  | 94 => ⟨S16x2048x2048, .i32⟩
  | 95 => ⟨S16x2048x2048, .i32⟩
  | 96 => ⟨S16x2048x2048, .i32⟩
  | 97 => ⟨S16x2048x2048, .i32⟩
  | 98 => ⟨S16x2048x2048, .i32⟩
  | 99 => ⟨S_, .i32⟩
  | 100 => ⟨S16x2048x2048, .i32⟩
  | 101 => ⟨S16x2048x2048, .i32⟩
  | 102 => ⟨S_, .i32⟩
  | 103 => ⟨S16x2048x2048, .i32⟩
  | 104 => ⟨S16x2048x2048, .i32⟩
  | 105 => ⟨S16x2048x2048, .i32⟩
  | 106 => ⟨S16x2048x2048, .i32⟩
  | 107 => ⟨S16x2048x2048, .i32⟩
  | 108 => ⟨S_, .i32⟩
  | 109 => ⟨S16x2048x2048, .i32⟩
  | 110 => ⟨S16x2048x2048, .i32⟩
  | 111 => ⟨S_, .i32⟩
  | 112 => ⟨S16x2048x2048, .i32⟩
  | 113 => ⟨S16x2048x2048, .i32⟩
  | 114 => ⟨S16x2048x2048, .i32⟩
  | 115 => ⟨S16x2048x2048, .i32⟩
  | 116 => ⟨S16x2048x2048, .i32⟩
  | 117 => ⟨S_, .i32⟩
  | 118 => ⟨S16x2048x2048, .i32⟩
  | 119 => ⟨S16x2048x2048, .i32⟩
  | 120 => ⟨S_, .i32⟩
  | 121 => ⟨S16x2048x2048, .i32⟩
  | 122 => ⟨S16x2048x2048, .i32⟩
  | 123 => ⟨S16x2048x2048, .i32⟩
  | 124 => ⟨S16x2048x2048, .i32⟩
  | 125 => ⟨S16x2048x2048, .i32⟩
  | 126 => ⟨S16x2048x2048, .i32⟩
  | 127 => ⟨S16x2048x2048, .i32⟩
  | _ => ⟨S16x2048x2048, .i32⟩

abbrev hbmTy0_8 (i : Nat) : BufTy := match i % 128 with
  | 0 => ⟨S16x2048x2048, .i32⟩
  | 1 => ⟨S_, .i32⟩
  | 2 => ⟨S16x2048x2048, .i32⟩
  | 3 => ⟨S16x2048x2048, .i32⟩
  | 4 => ⟨S16x2048x2048, .i32⟩
  | 5 => ⟨S_, .i32⟩
  | 6 => ⟨S16x2048x2048, .i32⟩
  | 7 => ⟨S16x2048x2048, .i32⟩
  | 8 => ⟨S_, .i32⟩
  | 9 => ⟨S16x2048x2048, .i32⟩
  | 10 => ⟨S16x2048x2048, .i32⟩
  | 11 => ⟨S16x2048x2048, .f32⟩
  | 12 => ⟨S_, .f32⟩
  | 13 => ⟨S16x2048x2048, .f32⟩
  | 14 => ⟨S16x2048x2048, .f32⟩
  | 15 => ⟨S_, .f32⟩
  | 16 => ⟨S16x2048x2048, .f32⟩
  | 17 => ⟨S16x2048x2048, .f32⟩
  | 18 => ⟨S67108864, .i32⟩
  | 19 => ⟨S16x2048x2048, .i32⟩
  | 20 => ⟨S_, .i32⟩
  | 21 => ⟨S16x2048x2048, .i32⟩
  | 22 => ⟨S_, .i32⟩
  | 23 => ⟨S_, .i32⟩
  | 24 => ⟨S_, .i32⟩
  | 25 => ⟨S16x2048x2048, .i32⟩
  | 26 => ⟨S16x2048x2048, .i32⟩
  | 27 => ⟨S16x2048x2048, .i32⟩
  | 28 => ⟨S16x2048x2048, .i32⟩
  | 29 => ⟨S16x2048x2048, .i32⟩
  | 30 => ⟨S_, .i32⟩
  | 31 => ⟨S16x2048x2048, .i32⟩
  | 32 => ⟨S16x2048x2048, .i32⟩
  | 33 => ⟨S_, .i32⟩
  | 34 => ⟨S16x2048x2048, .i32⟩
  | 35 => ⟨S16x2048x2048, .i32⟩
  | 36 => ⟨S16x2048x2048, .i32⟩
  | 37 => ⟨S16x2048x2048, .i32⟩
  | 38 => ⟨S16x2048x2048, .i32⟩
  | 39 => ⟨S_, .i32⟩
  | 40 => ⟨S16x2048x2048, .i32⟩
  | 41 => ⟨S16x2048x2048, .i32⟩
  | 42 => ⟨S_, .i32⟩
  | 43 => ⟨S16x2048x2048, .i32⟩
  | 44 => ⟨S16x2048x2048, .i32⟩
  | 45 => ⟨S16x2048x2048, .i32⟩
  | 46 => ⟨S16x2048x2048, .i32⟩
  | 47 => ⟨S16x2048x2048, .i32⟩
  | 48 => ⟨S_, .i32⟩
  | 49 => ⟨S16x2048x2048, .i32⟩
  | 50 => ⟨S16x2048x2048, .i32⟩
  | 51 => ⟨S_, .i32⟩
  | 52 => ⟨S16x2048x2048, .i32⟩
  | 53 => ⟨S16x2048x2048, .i32⟩
  | 54 => ⟨S16x2048x2048, .i32⟩
  | 55 => ⟨S16x2048x2048, .i32⟩
  | 56 => ⟨S16x2048x2048, .i32⟩
  | 57 => ⟨S_, .i32⟩
  | 58 => ⟨S16x2048x2048, .i32⟩
  | 59 => ⟨S16x2048x2048, .i32⟩
  | 60 => ⟨S_, .i32⟩
  | 61 => ⟨S16x2048x2048, .i32⟩
  | 62 => ⟨S16x2048x2048, .i32⟩
  | 63 => ⟨S16x2048x2048, .i32⟩
  | 64 => ⟨S16x2048x2048, .i32⟩
  | 65 => ⟨S16x2048x2048, .i32⟩
  | 66 => ⟨S16x2048x2048, .i32⟩
  | 67 => ⟨S16x2048x2048, .i32⟩
  | 68 => ⟨S16x2048x2048, .i32⟩
  | 69 => ⟨S_, .i32⟩
  | 70 => ⟨S16x2048x2048, .i32⟩
  | 71 => ⟨S16x2048x2048, .i32⟩
  | 72 => ⟨S16x2048x2048, .i32⟩
  | 73 => ⟨S_, .i32⟩
  | 74 => ⟨S16x2048x2048, .i32⟩
  | 75 => ⟨S16x2048x2048, .i32⟩
  | 76 => ⟨S_, .i32⟩
  | 77 => ⟨S16x2048x2048, .i32⟩
  | 78 => ⟨S16x2048x2048, .i32⟩
  | 79 => ⟨S16x2048x2048, .i32⟩
  | 80 => ⟨S16x2048x2048, .i32⟩
  | 81 => ⟨S16x2048x2048, .i32⟩
  | 82 => ⟨S_, .i32⟩
  | 83 => ⟨S16x2048x2048, .i32⟩
  | 84 => ⟨S16x2048x2048, .i32⟩
  | 85 => ⟨S_, .i32⟩
  | 86 => ⟨S16x2048x2048, .i32⟩
  | 87 => ⟨S16x2048x2048, .i32⟩
  | 88 => ⟨S16x2048x2048, .i32⟩
  | 89 => ⟨S16x2048x2048, .i32⟩
  | 90 => ⟨S16x2048x2048, .i32⟩
  | 91 => ⟨S_, .i32⟩
  | 92 => ⟨S16x2048x2048, .i32⟩
  | 93 => ⟨S16x2048x2048, .i32⟩
  | 94 => ⟨S_, .i32⟩
  | 95 => ⟨S16x2048x2048, .i32⟩
  | 96 => ⟨S16x2048x2048, .i32⟩
  | 97 => ⟨S16x2048x2048, .i32⟩
  | 98 => ⟨S16x2048x2048, .i32⟩
  | 99 => ⟨S16x2048x2048, .i32⟩
  | 100 => ⟨S_, .i32⟩
  | 101 => ⟨S16x2048x2048, .i32⟩
  | 102 => ⟨S16x2048x2048, .i32⟩
  | 103 => ⟨S_, .i32⟩
  | 104 => ⟨S16x2048x2048, .i32⟩
  | 105 => ⟨S16x2048x2048, .i32⟩
  | 106 => ⟨S16x2048x2048, .i32⟩
  | 107 => ⟨S16x2048x2048, .i32⟩
  | 108 => ⟨S16x2048x2048, .i32⟩
  | 109 => ⟨S16x2048x2048, .i32⟩
  | 110 => ⟨S16x2048x2048, .i32⟩
  | 111 => ⟨S16x2048x2048, .i32⟩
  | 112 => ⟨S_, .i32⟩
  | 113 => ⟨S16x2048x2048, .i32⟩
  | 114 => ⟨S16x2048x2048, .i32⟩
  | 115 => ⟨S16x2048x2048, .i32⟩
  | 116 => ⟨S_, .i32⟩
  | 117 => ⟨S16x2048x2048, .i32⟩
  | 118 => ⟨S16x2048x2048, .i32⟩
  | 119 => ⟨S_, .i32⟩
  | 120 => ⟨S16x2048x2048, .i32⟩
  | 121 => ⟨S16x2048x2048, .i32⟩
  | 122 => ⟨S16x2048x2048, .i32⟩
  | 123 => ⟨S16x2048x2048, .i32⟩
  | 124 => ⟨S16x2048x2048, .i32⟩
  | 125 => ⟨S_, .i32⟩
  | 126 => ⟨S16x2048x2048, .i32⟩
  | 127 => ⟨S16x2048x2048, .i32⟩
  | _ => ⟨S16x2048x2048, .i32⟩

abbrev hbmTy0_9 (i : Nat) : BufTy := match i % 128 with
  | 0 => ⟨S_, .i32⟩
  | 1 => ⟨S16x2048x2048, .i32⟩
  | 2 => ⟨S16x2048x2048, .i32⟩
  | 3 => ⟨S16x2048x2048, .i32⟩
  | 4 => ⟨S16x2048x2048, .i32⟩
  | 5 => ⟨S16x2048x2048, .i32⟩
  | 6 => ⟨S_, .i32⟩
  | 7 => ⟨S16x2048x2048, .i32⟩
  | 8 => ⟨S16x2048x2048, .i32⟩
  | 9 => ⟨S_, .i32⟩
  | 10 => ⟨S16x2048x2048, .i32⟩
  | 11 => ⟨S16x2048x2048, .i32⟩
  | 12 => ⟨S16x2048x2048, .i32⟩
  | 13 => ⟨S16x2048x2048, .i32⟩
  | 14 => ⟨S16x2048x2048, .i32⟩
  | 15 => ⟨S_, .i32⟩
  | 16 => ⟨S16x2048x2048, .i32⟩
  | 17 => ⟨S16x2048x2048, .i32⟩
  | 18 => ⟨S_, .i32⟩
  | 19 => ⟨S16x2048x2048, .i32⟩
  | 20 => ⟨S16x2048x2048, .i32⟩
  | 21 => ⟨S16x2048x2048, .i32⟩
  | 22 => ⟨S16x2048x2048, .i32⟩
  | 23 => ⟨S16x2048x2048, .i32⟩
  | 24 => ⟨S16x2048x2048, .i32⟩
  | 25 => ⟨S16x2048x2048, .i32⟩
  | 26 => ⟨S16x2048x2048, .i32⟩
  | 27 => ⟨S_, .i32⟩
  | 28 => ⟨S16x2048x2048, .i32⟩
  | 29 => ⟨S16x2048x2048, .i32⟩
  | 30 => ⟨S16x2048x2048, .i32⟩
  | 31 => ⟨S_, .i32⟩
  | 32 => ⟨S16x2048x2048, .i32⟩
  | 33 => ⟨S16x2048x2048, .i32⟩
  | 34 => ⟨S_, .i32⟩
  | 35 => ⟨S16x2048x2048, .i32⟩
  | 36 => ⟨S16x2048x2048, .i32⟩
  | 37 => ⟨S16x2048x2048, .i32⟩
  | 38 => ⟨S16x2048x2048, .i32⟩
  | 39 => ⟨S16x2048x2048, .i32⟩
  | 40 => ⟨S_, .i32⟩
  | 41 => ⟨S16x2048x2048, .i32⟩
  | 42 => ⟨S16x2048x2048, .i32⟩
  | 43 => ⟨S_, .i32⟩
  | 44 => ⟨S16x2048x2048, .i32⟩
  | 45 => ⟨S16x2048x2048, .i32⟩
  | 46 => ⟨S16x2048x2048, .i32⟩
  | 47 => ⟨S16x2048x2048, .i32⟩
  | 48 => ⟨S16x2048x2048, .i32⟩
  | 49 => ⟨S_, .i32⟩
  | 50 => ⟨S16x2048x2048, .i32⟩
  | 51 => ⟨S16x2048x2048, .i32⟩
  | 52 => ⟨S_, .i32⟩
  | 53 => ⟨S16x2048x2048, .i32⟩
  | 54 => ⟨S16x2048x2048, .i32⟩
  | 55 => ⟨S16x2048x2048, .i32⟩
  | 56 => ⟨S16x2048x2048, .i32⟩
  | 57 => ⟨S16x2048x2048, .i32⟩
  | 58 => ⟨S_, .i32⟩
  | 59 => ⟨S16x2048x2048, .i32⟩
  | 60 => ⟨S16x2048x2048, .i32⟩
  | 61 => ⟨S_, .i32⟩
  | 62 => ⟨S16x2048x2048, .i32⟩
  | 63 => ⟨S16x2048x2048, .i32⟩
  | 64 => ⟨S16x2048x2048, .i32⟩
  | 65 => ⟨S16x2048x2048, .i32⟩
  | 66 => ⟨S16x2048x2048, .i32⟩
  | 67 => ⟨S16x2048x2048, .i32⟩
  | 68 => ⟨S16x2048x2048, .i32⟩
  | 69 => ⟨S16x2048x2048, .i32⟩
  | 70 => ⟨S_, .i32⟩
  | 71 => ⟨S16x2048x2048, .i32⟩
  | 72 => ⟨S16x2048x2048, .i32⟩
  | 73 => ⟨S16x2048x2048, .i32⟩
  | 74 => ⟨S_, .i32⟩
  | 75 => ⟨S16x2048x2048, .i32⟩
  | 76 => ⟨S16x2048x2048, .i32⟩
  | 77 => ⟨S_, .i32⟩
  | 78 => ⟨S16x2048x2048, .i32⟩
  | 79 => ⟨S16x2048x2048, .i32⟩
  | 80 => ⟨S16x2048x2048, .i32⟩
  | 81 => ⟨S16x2048x2048, .i32⟩
  | 82 => ⟨S16x2048x2048, .i32⟩
  | 83 => ⟨S_, .i32⟩
  | 84 => ⟨S16x2048x2048, .i32⟩
  | 85 => ⟨S16x2048x2048, .i32⟩
  | 86 => ⟨S_, .i32⟩
  | 87 => ⟨S16x2048x2048, .i32⟩
  | 88 => ⟨S16x2048x2048, .i32⟩
  | 89 => ⟨S16x2048x2048, .i32⟩
  | 90 => ⟨S16x2048x2048, .i32⟩
  | 91 => ⟨S16x2048x2048, .i32⟩
  | 92 => ⟨S_, .i32⟩
  | 93 => ⟨S16x2048x2048, .i32⟩
  | 94 => ⟨S16x2048x2048, .i32⟩
  | 95 => ⟨S_, .i32⟩
  | 96 => ⟨S16x2048x2048, .i32⟩
  | 97 => ⟨S16x2048x2048, .i32⟩
  | 98 => ⟨S16x2048x2048, .i32⟩
  | 99 => ⟨S16x2048x2048, .i32⟩
  | 100 => ⟨S16x2048x2048, .i32⟩
  | 101 => ⟨S_, .i32⟩
  | 102 => ⟨S16x2048x2048, .i32⟩
  | 103 => ⟨S16x2048x2048, .i32⟩
  | 104 => ⟨S_, .i32⟩
  | 105 => ⟨S16x2048x2048, .i32⟩
  | 106 => ⟨S16x2048x2048, .i32⟩
  | 107 => ⟨S16x2048x2048, .i32⟩
  | 108 => ⟨S16x2048x2048, .i32⟩
  | 109 => ⟨S16x2048x2048, .i32⟩
  | 110 => ⟨S16x2048x2048, .i32⟩
  | 111 => ⟨S16x2048x2048, .i32⟩
  | 112 => ⟨S16x2048x2048, .i32⟩
  | 113 => ⟨S_, .i32⟩
  | 114 => ⟨S16x2048x2048, .i32⟩
  | 115 => ⟨S16x2048x2048, .i32⟩
  | 116 => ⟨S16x2048x2048, .i32⟩
  | 117 => ⟨S_, .i32⟩
  | 118 => ⟨S16x2048x2048, .i32⟩
  | 119 => ⟨S16x2048x2048, .i32⟩
  | 120 => ⟨S_, .i32⟩
  | 121 => ⟨S16x2048x2048, .i32⟩
  | 122 => ⟨S16x2048x2048, .i32⟩
  | 123 => ⟨S16x2048x2048, .f32⟩
  | 124 => ⟨S_, .f32⟩
  | 125 => ⟨S16x2048x2048, .f32⟩
  | 126 => ⟨S16x2048x2048, .f32⟩
  | 127 => ⟨S16x2048x2048, .f32⟩
  | _ => ⟨S16x2048x2048, .i32⟩

abbrev hbmTy0_10 (i : Nat) : BufTy := match i % 128 with
  | 0 => ⟨S_, .f32⟩
  | 1 => ⟨S16x2048x2048, .f32⟩
  | 2 => ⟨S16x2048x2048, .f32⟩
  | 3 => ⟨S_, .f32⟩
  | 4 => ⟨S16x2048x2048, .f32⟩
  | 5 => ⟨S16x2048x2048, .f32⟩
  | 6 => ⟨S16x2048x2048, .f32⟩
  | 7 => ⟨S16x2048x2048, .f32⟩
  | 8 => ⟨S16x2048x2048, .f32⟩
  | 9 => ⟨S16x2048x2048, .f32⟩
  | 10 => ⟨S_, .f32⟩
  | 11 => ⟨S16x2048x2048, .f32⟩
  | 12 => ⟨S16x2048x2048, .f32⟩
  | 13 => ⟨S16x2048x2048, .f32⟩
  | 14 => ⟨S16x2048x2048, .f32⟩
  | 15 => ⟨S16x2048x2048, .f32⟩
  | 16 => ⟨S16x2048x2048, .f32⟩
  | 17 => ⟨S16x2048x2048, .f32⟩
  | 18 => ⟨S16x2048x2048, .f32⟩
  | 19 => ⟨S16x2048x2048, .f32⟩
  | 20 => ⟨S16x2048x2048, .f32⟩
  | 21 => ⟨S16x2048x2048, .f32⟩
  | 22 => ⟨S16x2048x2048, .f32⟩
  | 23 => ⟨S_, .f32⟩
  | 24 => ⟨S16x2048x2048, .f32⟩
  | 25 => ⟨S16x2048x2048, .f32⟩
  | 26 => ⟨S_, .f32⟩
  | 27 => ⟨S16x2048x2048, .f32⟩
  | 28 => ⟨S16x2048x2048, .f32⟩
  | 29 => ⟨S_, .f32⟩
  | 30 => ⟨S16x2048x2048, .f32⟩
  | 31 => ⟨S16x2048x2048, .f32⟩
  | 32 => ⟨S_, .f32⟩
  | 33 => ⟨S16x2048x2048, .f32⟩
  | 34 => ⟨S16x2048x2048, .f32⟩
  | 35 => ⟨S_, .f32⟩
  | 36 => ⟨S16x2048x2048, .f32⟩
  | 37 => ⟨S16x2048x2048, .f32⟩
  | 38 => ⟨S_, .f32⟩
  | 39 => ⟨S16x2048x2048, .f32⟩
  | 40 => ⟨S16x2048x2048, .f32⟩
  | 41 => ⟨S_, .f32⟩
  | 42 => ⟨S16x2048x2048, .f32⟩
  | 43 => ⟨S16x2048x2048, .f32⟩
  | 44 => ⟨S16x2048x2048, .f32⟩
  | 45 => ⟨S_, .f32⟩
  | 46 => ⟨S16x2048x2048, .f32⟩
  | 47 => ⟨S16x2048x2048, .f32⟩
  | 48 => ⟨S_, .f32⟩
  | 49 => ⟨S16x2048x2048, .f32⟩
  | 50 => ⟨S16x2048x2048, .f32⟩
  | 51 => ⟨S16x2048x2048, .f32⟩
  | 52 => ⟨S_, .f32⟩
  | 53 => ⟨S16x2048x2048, .f32⟩
  | 54 => ⟨S16x2048x2048, .f32⟩
  | 55 => ⟨S_, .f32⟩
  | 56 => ⟨S16x2048x2048, .f32⟩
  | 57 => ⟨S16x2048x2048, .f32⟩
  | 58 => ⟨S16x2048x2048, .f32⟩
  | 59 => ⟨S_, .f32⟩
  | 60 => ⟨S16x2048x2048, .f32⟩
  | 61 => ⟨S16x2048x2048, .f32⟩
  | 62 => ⟨S_, .f32⟩
  | 63 => ⟨S16x2048x2048, .f32⟩
  | 64 => ⟨S16x2048x2048, .f32⟩
  | 65 => ⟨S16x2048x2048, .f32⟩
  | 66 => ⟨S_, .f32⟩
  | 67 => ⟨S16x2048x2048, .f32⟩
  | 68 => ⟨S16x2048x2048, .f32⟩
  | 69 => ⟨S_, .f32⟩
  | 70 => ⟨S16x2048x2048, .f32⟩
  | 71 => ⟨S16x2048x2048, .f32⟩
  | 72 => ⟨S16x2048x2048, .f32⟩
  | 73 => ⟨S_, .f32⟩
  | 74 => ⟨S16x2048x2048, .f32⟩
  | 75 => ⟨S16x2048x2048, .f32⟩
  | 76 => ⟨S16x2048x2048, .f32⟩
  | 77 => ⟨S_, .f32⟩
  | 78 => ⟨S16x2048x2048, .f32⟩
  | 79 => ⟨S16x2048x2048, .f32⟩
  | 80 => ⟨S_, .f32⟩
  | 81 => ⟨S16x2048x2048, .f32⟩
  | 82 => ⟨S16x2048x2048, .f32⟩
  | 83 => ⟨S_, .f32⟩
  | 84 => ⟨S16x2048x2048, .f32⟩
  | 85 => ⟨S16x2048x2048, .f32⟩
  | 86 => ⟨S16x2048x2048, .f32⟩
  | 87 => ⟨S16x2048x2048, .f32⟩
  | 88 => ⟨S16x2048x2048, .f32⟩
  | 89 => ⟨S_, .f32⟩
  | 90 => ⟨S16x2048x2048, .f32⟩
  | 91 => ⟨S16x2048x2048, .f32⟩
  | 92 => ⟨S16x2048x2048, .f32⟩
  | 93 => ⟨S16x2048x2048, .f32⟩
  | 94 => ⟨S16x2048x2048, .f32⟩
  | 95 => ⟨S_, .f32⟩
  | 96 => ⟨S16x2048x2048, .f32⟩
  | 97 => ⟨S16x2048x2048, .i1⟩
  | 98 => ⟨S16x2048x2048, .i1⟩
  | 99 => ⟨S16x2048x2048, .i1⟩
  | 100 => ⟨S_, .f32⟩
  | 101 => ⟨S16x2048x2048, .f32⟩
  | 102 => ⟨S16x2048x2048, .i1⟩
  | 103 => ⟨S_, .f32⟩
  | 104 => ⟨S16x2048x2048, .f32⟩
  | 105 => ⟨S16x2048x2048, .i1⟩
  | 106 => ⟨S16x2048x2048, .i1⟩
  | 107 => ⟨S16x2048x2048, .i1⟩
  | 108 => ⟨S16x2048x2048, .i1⟩
  | 109 => ⟨S16x2048x2048, .i1⟩
  | 110 => ⟨S16x2048x2048, .i1⟩
  | 111 => ⟨S16x2048x2048, .i1⟩
  | 112 => ⟨S16x2048x2048, .i1⟩
  | 113 => ⟨S16x2048x2048, .i1⟩
  | 114 => ⟨S_, .i1⟩
  | 115 => ⟨S_, .i1⟩
  | 116 => ⟨S_, .i32⟩
  | 117 => ⟨S_, .i1⟩
  | 118 => ⟨S_, .i1⟩
  | 119 => ⟨S_, .i1⟩
  | 120 => ⟨S_, .i1⟩
  | 121 => ⟨S_, .i1⟩
  | 122 => ⟨S_, .i1⟩
  | 123 => ⟨S16x2048x2048, .i1⟩
  | 124 => ⟨S16x2048x2048, .i1⟩
  | 125 => ⟨S16x2048x2048, .f32⟩
  | 126 => ⟨S16x2048x2048, .i1⟩
  | 127 => ⟨S16x2048x2048, .i1⟩
  | _ => ⟨S16x2048x2048, .i32⟩

abbrev hbmTy0_11 (i : Nat) : BufTy := match i % 128 with
  | 0 => ⟨S_, .f32⟩
  | 1 => ⟨S16x2048x2048, .f32⟩
  | 2 => ⟨S16x2048x2048, .i1⟩
  | 3 => ⟨S16x2048x2048, .i1⟩
  | 4 => ⟨S_, .i32⟩
  | 5 => ⟨S16x2048x2048, .i32⟩
  | 6 => ⟨S16x2048x2048, .i32⟩
  | 7 => ⟨S16x2048x2048, .i32⟩
  | 8 => ⟨S16x2048x2048, .i32⟩
  | 9 => ⟨S_, .f32⟩
  | 10 => ⟨S16x2048x2048, .f32⟩
  | 11 => ⟨S16x2048x2048, .i1⟩
  | 12 => ⟨S_, .i32⟩
  | 13 => ⟨S_, .i32⟩
  | 14 => ⟨S16x2048x2048, .i32⟩
  | 15 => ⟨S16x2048x2048, .i32⟩
  | 16 => ⟨S_, .i32⟩
  | 17 => ⟨S_, .i32⟩
  | 18 => ⟨S_, .i32⟩
  | 19 => ⟨S16x2048x2048, .i32⟩
  | 20 => ⟨S16x2048x2048, .i32⟩
  | _ => ⟨S16x2048x2048, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S16x2048x2048, .i32⟩

abbrev bufTy : (tb : Table) → Fin (tcTables nBuf tb) → BufTy
  | .hbm, ⟨i, _⟩ => hbmTy i
  | _, _ => ⟨S16x2048x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_c_3 : Ref sig .tc := ⟨.hbm, 13, rfl⟩
abbrev main_v7 : Ref sig .tc := ⟨.hbm, 14, rfl⟩
abbrev main_c_4 : Ref sig .tc := ⟨.hbm, 15, rfl⟩
abbrev main_c_5 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_c_9 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev main_v8_7 : Ref sig .tc := ⟨.hbm, 28, rfl⟩
abbrev main_v8_8 : Ref sig .tc := ⟨.hbm, 29, rfl⟩
abbrev main_v8_9 : Ref sig .tc := ⟨.hbm, 30, rfl⟩
abbrev main_v8_10 : Ref sig .tc := ⟨.hbm, 31, rfl⟩
abbrev main_v8_11 : Ref sig .tc := ⟨.hbm, 32, rfl⟩
abbrev main_while0c_c_22 : Ref sig .tc := ⟨.hbm, 33, rfl⟩
abbrev main_while0c_v11 : Ref sig .tc := ⟨.hbm, 34, rfl⟩
abbrev main_while0b_c_22 : Ref sig .tc := ⟨.hbm, 35, rfl⟩
abbrev main_while0b_v11 : Ref sig .tc := ⟨.hbm, 36, rfl⟩
abbrev main_while0b_v12 : Ref sig .tc := ⟨.hbm, 37, rfl⟩
abbrev main_while0b_cst_23 : Ref sig .tc := ⟨.hbm, 38, rfl⟩
abbrev main_while0b_v13 : Ref sig .tc := ⟨.hbm, 39, rfl⟩
abbrev main_while0b_v14 : Ref sig .tc := ⟨.hbm, 40, rfl⟩
abbrev main_while0b_v15 : Ref sig .tc := ⟨.hbm, 41, rfl⟩
abbrev main_while0b_cst_24 : Ref sig .tc := ⟨.hbm, 42, rfl⟩
abbrev main_while0b_call0_v0 : Ref sig .tc := ⟨.hbm, 43, rfl⟩
abbrev main_while0b_call0_v1 : Ref sig .tc := ⟨.hbm, 44, rfl⟩
abbrev main_while0b_v16 : Ref sig .tc := ⟨.hbm, 45, rfl⟩
abbrev main_while0b_c_25 : Ref sig .tc := ⟨.hbm, 46, rfl⟩
abbrev main_while0b_v17 : Ref sig .tc := ⟨.hbm, 47, rfl⟩
abbrev main_while0b_v18 : Ref sig .tc := ⟨.hbm, 48, rfl⟩
abbrev main_while0b_v19 : Ref sig .tc := ⟨.hbm, 49, rfl⟩
abbrev main_while0b_c_26 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_c_27 : Ref sig .tc := ⟨.hbm, 57, rfl⟩
abbrev main_while0b_v26 : Ref sig .tc := ⟨.hbm, 58, rfl⟩
abbrev main_while0b_v27 : Ref sig .tc := ⟨.hbm, 59, rfl⟩
abbrev main_while0b_c_28 : Ref sig .tc := ⟨.hbm, 60, rfl⟩
abbrev main_while0b_v28 : Ref sig .tc := ⟨.hbm, 61, rfl⟩
abbrev main_while0b_v29 : Ref sig .tc := ⟨.hbm, 62, rfl⟩
abbrev main_while0b_v30 : Ref sig .tc := ⟨.hbm, 63, rfl⟩
abbrev main_while0b_v31 : Ref sig .tc := ⟨.hbm, 64, rfl⟩
abbrev main_while0b_v32 : Ref sig .tc := ⟨.hbm, 65, rfl⟩
abbrev main_while0b_c_29 : Ref sig .tc := ⟨.hbm, 66, rfl⟩
abbrev main_while0b_v33 : Ref sig .tc := ⟨.hbm, 67, rfl⟩
abbrev main_while0b_v34 : Ref sig .tc := ⟨.hbm, 68, rfl⟩
abbrev main_while0b_c_30 : Ref sig .tc := ⟨.hbm, 69, rfl⟩
abbrev main_while0b_v35 : Ref sig .tc := ⟨.hbm, 70, rfl⟩
abbrev main_while0b_v36 : Ref sig .tc := ⟨.hbm, 71, rfl⟩
abbrev main_while0b_v37 : Ref sig .tc := ⟨.hbm, 72, rfl⟩
abbrev main_while0b_v38 : Ref sig .tc := ⟨.hbm, 73, rfl⟩
abbrev main_while0b_v39 : Ref sig .tc := ⟨.hbm, 74, rfl⟩
abbrev main_while0b_c_31 : Ref sig .tc := ⟨.hbm, 75, rfl⟩
abbrev main_while0b_v40 : Ref sig .tc := ⟨.hbm, 76, rfl⟩
abbrev main_while0b_v41 : Ref sig .tc := ⟨.hbm, 77, rfl⟩
abbrev main_while0b_c_32 : Ref sig .tc := ⟨.hbm, 78, rfl⟩
abbrev main_while0b_v42 : Ref sig .tc := ⟨.hbm, 79, rfl⟩
abbrev main_while0b_v43 : Ref sig .tc := ⟨.hbm, 80, rfl⟩
abbrev main_while0b_v44 : Ref sig .tc := ⟨.hbm, 81, rfl⟩
abbrev main_while0b_v45 : Ref sig .tc := ⟨.hbm, 82, rfl⟩
abbrev main_while0b_v46 : Ref sig .tc := ⟨.hbm, 83, rfl⟩
abbrev main_while0b_c_33 : Ref sig .tc := ⟨.hbm, 84, rfl⟩
abbrev main_while0b_v47 : Ref sig .tc := ⟨.hbm, 85, rfl⟩
abbrev main_while0b_v48 : Ref sig .tc := ⟨.hbm, 86, rfl⟩
abbrev main_while0b_c_34 : Ref sig .tc := ⟨.hbm, 87, rfl⟩
abbrev main_while0b_v49 : Ref sig .tc := ⟨.hbm, 88, rfl⟩
abbrev main_while0b_v50 : Ref sig .tc := ⟨.hbm, 89, rfl⟩
abbrev main_while0b_v51 : Ref sig .tc := ⟨.hbm, 90, rfl⟩
abbrev main_while0b_v52 : Ref sig .tc := ⟨.hbm, 91, rfl⟩
abbrev main_while0b_v53 : Ref sig .tc := ⟨.hbm, 92, rfl⟩
abbrev main_while0b_v54 : Ref sig .tc := ⟨.hbm, 93, rfl⟩
abbrev main_while0b_v55 : Ref sig .tc := ⟨.hbm, 94, rfl⟩
abbrev main_while0b_v56 : Ref sig .tc := ⟨.hbm, 95, rfl⟩
abbrev main_while0b_c_35 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_c_36 : Ref sig .tc := ⟨.hbm, 100, rfl⟩
abbrev main_while0b_v60 : Ref sig .tc := ⟨.hbm, 101, rfl⟩
abbrev main_while0b_v61 : Ref sig .tc := ⟨.hbm, 102, rfl⟩
abbrev main_while0b_c_37 : Ref sig .tc := ⟨.hbm, 103, rfl⟩
abbrev main_while0b_v62 : Ref sig .tc := ⟨.hbm, 104, rfl⟩
abbrev main_while0b_v63 : Ref sig .tc := ⟨.hbm, 105, rfl⟩
abbrev main_while0b_v64 : Ref sig .tc := ⟨.hbm, 106, rfl⟩
abbrev main_while0b_v65 : Ref sig .tc := ⟨.hbm, 107, rfl⟩
abbrev main_while0b_v66 : Ref sig .tc := ⟨.hbm, 108, rfl⟩
abbrev main_while0b_c_38 : Ref sig .tc := ⟨.hbm, 109, rfl⟩
abbrev main_while0b_v67 : Ref sig .tc := ⟨.hbm, 110, rfl⟩
abbrev main_while0b_v68 : Ref sig .tc := ⟨.hbm, 111, rfl⟩
abbrev main_while0b_c_39 : Ref sig .tc := ⟨.hbm, 112, rfl⟩
abbrev main_while0b_v69 : Ref sig .tc := ⟨.hbm, 113, rfl⟩
abbrev main_while0b_v70 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_c_40 : Ref sig .tc := ⟨.hbm, 118, rfl⟩
abbrev main_while0b_v74 : Ref sig .tc := ⟨.hbm, 119, rfl⟩
abbrev main_while0b_v75 : Ref sig .tc := ⟨.hbm, 120, rfl⟩
abbrev main_while0b_c_41 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_c_42 : Ref sig .tc := ⟨.hbm, 127, rfl⟩
abbrev main_while0b_v81 : Ref sig .tc := ⟨.hbm, 128, rfl⟩
abbrev main_while0b_v82 : Ref sig .tc := ⟨.hbm, 129, rfl⟩
abbrev main_while0b_c_43 : Ref sig .tc := ⟨.hbm, 130, rfl⟩
abbrev main_while0b_v83 : Ref sig .tc := ⟨.hbm, 131, rfl⟩
abbrev main_while0b_v84 : Ref sig .tc := ⟨.hbm, 132, rfl⟩
abbrev main_while0b_v85 : Ref sig .tc := ⟨.hbm, 133, rfl⟩
abbrev main_while0b_v86 : Ref sig .tc := ⟨.hbm, 134, rfl⟩
abbrev main_while0b_v87 : Ref sig .tc := ⟨.hbm, 135, rfl⟩
abbrev main_while0b_v88 : Ref sig .tc := ⟨.hbm, 136, rfl⟩
abbrev main_while0b_v89 : Ref sig .tc := ⟨.hbm, 137, rfl⟩
abbrev main_while0b_v90 : Ref sig .tc := ⟨.hbm, 138, rfl⟩
abbrev main_while0b_c_44 : Ref sig .tc := ⟨.hbm, 139, rfl⟩
abbrev main_while0b_v91 : Ref sig .tc := ⟨.hbm, 140, rfl⟩
abbrev main_while0b_v92 : Ref sig .tc := ⟨.hbm, 141, rfl⟩
abbrev main_while0b_v93 : Ref sig .tc := ⟨.hbm, 142, rfl⟩
abbrev main_while0b_c_45 : Ref sig .tc := ⟨.hbm, 143, rfl⟩
abbrev main_while0b_v94 : Ref sig .tc := ⟨.hbm, 144, rfl⟩
abbrev main_while0b_v95 : Ref sig .tc := ⟨.hbm, 145, rfl⟩
abbrev main_while0b_c_46 : Ref sig .tc := ⟨.hbm, 146, rfl⟩
abbrev main_while0b_v96 : Ref sig .tc := ⟨.hbm, 147, rfl⟩
abbrev main_while0b_v97 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_c_47 : Ref sig .tc := ⟨.hbm, 152, rfl⟩
abbrev main_while0b_v101 : Ref sig .tc := ⟨.hbm, 153, rfl⟩
abbrev main_while0b_v102 : Ref sig .tc := ⟨.hbm, 154, rfl⟩
abbrev main_while0b_c_48 : Ref sig .tc := ⟨.hbm, 155, rfl⟩
abbrev main_while0b_v103 : Ref sig .tc := ⟨.hbm, 156, rfl⟩
abbrev main_while0b_v104 : Ref sig .tc := ⟨.hbm, 157, rfl⟩
abbrev main_while0b_v105 : Ref sig .tc := ⟨.hbm, 158, rfl⟩
abbrev main_while0b_v106 : Ref sig .tc := ⟨.hbm, 159, rfl⟩
abbrev main_while0b_v107 : Ref sig .tc := ⟨.hbm, 160, rfl⟩
abbrev main_while0b_c_49 : Ref sig .tc := ⟨.hbm, 161, rfl⟩
abbrev main_while0b_v108 : Ref sig .tc := ⟨.hbm, 162, rfl⟩
abbrev main_while0b_v109 : Ref sig .tc := ⟨.hbm, 163, rfl⟩
abbrev main_while0b_c_50 : Ref sig .tc := ⟨.hbm, 164, rfl⟩
abbrev main_while0b_v110 : Ref sig .tc := ⟨.hbm, 165, rfl⟩
abbrev main_while0b_v111 : Ref sig .tc := ⟨.hbm, 166, rfl⟩
abbrev main_while0b_v112 : Ref sig .tc := ⟨.hbm, 167, rfl⟩
abbrev main_while0b_v113 : Ref sig .tc := ⟨.hbm, 168, rfl⟩
abbrev main_while0b_v114 : Ref sig .tc := ⟨.hbm, 169, rfl⟩
abbrev main_while0b_c_51 : Ref sig .tc := ⟨.hbm, 170, rfl⟩
abbrev main_while0b_v115 : Ref sig .tc := ⟨.hbm, 171, rfl⟩
abbrev main_while0b_v116 : Ref sig .tc := ⟨.hbm, 172, rfl⟩
abbrev main_while0b_c_52 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_v121 : Ref sig .tc := ⟨.hbm, 178, rfl⟩
abbrev main_while0b_v122 : Ref sig .tc := ⟨.hbm, 179, rfl⟩
abbrev main_while0b_v123 : Ref sig .tc := ⟨.hbm, 180, rfl⟩
abbrev main_while0b_v124 : Ref sig .tc := ⟨.hbm, 181, rfl⟩
abbrev main_while0b_c_53 : Ref sig .tc := ⟨.hbm, 182, rfl⟩
abbrev main_while0b_v125 : Ref sig .tc := ⟨.hbm, 183, rfl⟩
abbrev main_while0b_v126 : Ref sig .tc := ⟨.hbm, 184, rfl⟩
abbrev main_while0b_v127 : Ref sig .tc := ⟨.hbm, 185, rfl⟩
abbrev main_while0b_c_54 : Ref sig .tc := ⟨.hbm, 186, rfl⟩
abbrev main_while0b_v128 : Ref sig .tc := ⟨.hbm, 187, rfl⟩
abbrev main_while0b_v129 : Ref sig .tc := ⟨.hbm, 188, rfl⟩
abbrev main_while0b_c_55 : Ref sig .tc := ⟨.hbm, 189, rfl⟩
abbrev main_while0b_v130 : Ref sig .tc := ⟨.hbm, 190, rfl⟩
abbrev main_while0b_v131 : Ref sig .tc := ⟨.hbm, 191, rfl⟩
abbrev main_while0b_v132 : Ref sig .tc := ⟨.hbm, 192, rfl⟩
abbrev main_while0b_v133 : Ref sig .tc := ⟨.hbm, 193, rfl⟩
abbrev main_while0b_v134 : Ref sig .tc := ⟨.hbm, 194, rfl⟩
abbrev main_while0b_c_56 : Ref sig .tc := ⟨.hbm, 195, rfl⟩
abbrev main_while0b_v135 : Ref sig .tc := ⟨.hbm, 196, rfl⟩
abbrev main_while0b_v136 : Ref sig .tc := ⟨.hbm, 197, rfl⟩
abbrev main_while0b_c_57 : Ref sig .tc := ⟨.hbm, 198, rfl⟩
abbrev main_while0b_v137 : Ref sig .tc := ⟨.hbm, 199, rfl⟩
abbrev main_while0b_v138 : Ref sig .tc := ⟨.hbm, 200, rfl⟩
abbrev main_while0b_v139 : Ref sig .tc := ⟨.hbm, 201, rfl⟩
abbrev main_while0b_v140 : Ref sig .tc := ⟨.hbm, 202, rfl⟩
abbrev main_while0b_v141 : Ref sig .tc := ⟨.hbm, 203, rfl⟩
abbrev main_while0b_c_58 : Ref sig .tc := ⟨.hbm, 204, rfl⟩
abbrev main_while0b_v142 : Ref sig .tc := ⟨.hbm, 205, rfl⟩
abbrev main_while0b_v143 : Ref sig .tc := ⟨.hbm, 206, rfl⟩
abbrev main_while0b_c_59 : Ref sig .tc := ⟨.hbm, 207, rfl⟩
abbrev main_while0b_v144 : Ref sig .tc := ⟨.hbm, 208, rfl⟩
abbrev main_while0b_v145 : Ref sig .tc := ⟨.hbm, 209, rfl⟩
abbrev main_while0b_v146 : Ref sig .tc := ⟨.hbm, 210, rfl⟩
abbrev main_while0b_v147 : Ref sig .tc := ⟨.hbm, 211, rfl⟩
abbrev main_while0b_v148 : Ref sig .tc := ⟨.hbm, 212, rfl⟩
abbrev main_while0b_c_60 : Ref sig .tc := ⟨.hbm, 213, rfl⟩
abbrev main_while0b_v149 : Ref sig .tc := ⟨.hbm, 214, rfl⟩
abbrev main_while0b_v150 : Ref sig .tc := ⟨.hbm, 215, rfl⟩
abbrev main_while0b_c_61 : Ref sig .tc := ⟨.hbm, 216, rfl⟩
abbrev main_while0b_v151 : Ref sig .tc := ⟨.hbm, 217, rfl⟩
abbrev main_while0b_v152 : Ref sig .tc := ⟨.hbm, 218, rfl⟩
abbrev main_while0b_v153 : Ref sig .tc := ⟨.hbm, 219, rfl⟩
abbrev main_while0b_v154 : Ref sig .tc := ⟨.hbm, 220, rfl⟩
abbrev main_while0b_v155 : Ref sig .tc := ⟨.hbm, 221, rfl⟩
abbrev main_while0b_v156 : Ref sig .tc := ⟨.hbm, 222, rfl⟩
abbrev main_while0b_v157 : Ref sig .tc := ⟨.hbm, 223, rfl⟩
abbrev main_while0b_v158 : Ref sig .tc := ⟨.hbm, 224, rfl⟩
abbrev main_while0b_c_62 : Ref sig .tc := ⟨.hbm, 225, rfl⟩
abbrev main_while0b_v159 : Ref sig .tc := ⟨.hbm, 226, rfl⟩
abbrev main_while0b_v160 : Ref sig .tc := ⟨.hbm, 227, rfl⟩
abbrev main_while0b_v161 : Ref sig .tc := ⟨.hbm, 228, rfl⟩
abbrev main_while0b_c_63 : Ref sig .tc := ⟨.hbm, 229, rfl⟩
abbrev main_while0b_v162 : Ref sig .tc := ⟨.hbm, 230, rfl⟩
abbrev main_while0b_v163 : Ref sig .tc := ⟨.hbm, 231, rfl⟩
abbrev main_while0b_c_64 : Ref sig .tc := ⟨.hbm, 232, rfl⟩
abbrev main_while0b_v164 : Ref sig .tc := ⟨.hbm, 233, rfl⟩
abbrev main_while0b_v165 : Ref sig .tc := ⟨.hbm, 234, rfl⟩
abbrev main_while0b_v166 : Ref sig .tc := ⟨.hbm, 235, rfl⟩
abbrev main_while0b_v167 : Ref sig .tc := ⟨.hbm, 236, rfl⟩
abbrev main_while0b_v168 : Ref sig .tc := ⟨.hbm, 237, rfl⟩
abbrev main_while0b_c_65 : Ref sig .tc := ⟨.hbm, 238, rfl⟩
abbrev main_while0b_v169 : Ref sig .tc := ⟨.hbm, 239, rfl⟩
abbrev main_while0b_v170 : Ref sig .tc := ⟨.hbm, 240, rfl⟩
abbrev main_while0b_c_66 : Ref sig .tc := ⟨.hbm, 241, rfl⟩
abbrev main_while0b_v171 : Ref sig .tc := ⟨.hbm, 242, rfl⟩
abbrev main_while0b_v172 : Ref sig .tc := ⟨.hbm, 243, rfl⟩
abbrev main_while0b_v173 : Ref sig .tc := ⟨.hbm, 244, rfl⟩
abbrev main_while0b_v174 : Ref sig .tc := ⟨.hbm, 245, rfl⟩
abbrev main_while0b_v175 : Ref sig .tc := ⟨.hbm, 246, rfl⟩
abbrev main_while0b_c_67 : Ref sig .tc := ⟨.hbm, 247, rfl⟩
abbrev main_while0b_v176 : Ref sig .tc := ⟨.hbm, 248, rfl⟩
abbrev main_while0b_v177 : Ref sig .tc := ⟨.hbm, 249, rfl⟩
abbrev main_while0b_c_68 : Ref sig .tc := ⟨.hbm, 250, rfl⟩
abbrev main_while0b_v178 : Ref sig .tc := ⟨.hbm, 251, rfl⟩
abbrev main_while0b_v179 : Ref sig .tc := ⟨.hbm, 252, rfl⟩
abbrev main_while0b_v180 : Ref sig .tc := ⟨.hbm, 253, rfl⟩
abbrev main_while0b_v181 : Ref sig .tc := ⟨.hbm, 254, rfl⟩
abbrev main_while0b_v182 : Ref sig .tc := ⟨.hbm, 255, rfl⟩
abbrev main_while0b_c_69 : Ref sig .tc := ⟨.hbm, 256, rfl⟩
abbrev main_while0b_v183 : Ref sig .tc := ⟨.hbm, 257, rfl⟩
abbrev main_while0b_v184 : Ref sig .tc := ⟨.hbm, 258, rfl⟩
abbrev main_while0b_c_70 : Ref sig .tc := ⟨.hbm, 259, rfl⟩
abbrev main_while0b_v185 : Ref sig .tc := ⟨.hbm, 260, rfl⟩
abbrev main_while0b_v186 : Ref sig .tc := ⟨.hbm, 261, rfl⟩
abbrev main_while0b_v187 : Ref sig .tc := ⟨.hbm, 262, rfl⟩
abbrev main_while0b_v188 : Ref sig .tc := ⟨.hbm, 263, rfl⟩
abbrev main_while0b_v189 : Ref sig .tc := ⟨.hbm, 264, rfl⟩
abbrev main_while0b_v190 : Ref sig .tc := ⟨.hbm, 265, rfl⟩
abbrev main_while0b_v191 : Ref sig .tc := ⟨.hbm, 266, rfl⟩
abbrev main_while0b_v192 : Ref sig .tc := ⟨.hbm, 267, rfl⟩
abbrev main_while0b_c_71 : Ref sig .tc := ⟨.hbm, 268, rfl⟩
abbrev main_while0b_v193 : Ref sig .tc := ⟨.hbm, 269, rfl⟩
abbrev main_while0b_v194 : Ref sig .tc := ⟨.hbm, 270, rfl⟩
abbrev main_while0b_v195 : Ref sig .tc := ⟨.hbm, 271, rfl⟩
abbrev main_while0b_v196 : Ref sig .tc := ⟨.hbm, 272, rfl⟩
abbrev main_while0b_v197 : Ref sig .tc := ⟨.hbm, 273, rfl⟩
abbrev main_while0b_v198 : Ref sig .tc := ⟨.hbm, 274, rfl⟩
abbrev main_while0b_v199 : Ref sig .tc := ⟨.hbm, 275, rfl⟩
abbrev main_while0b_v200 : Ref sig .tc := ⟨.hbm, 276, rfl⟩
abbrev main_while0b_v201 : Ref sig .tc := ⟨.hbm, 277, rfl⟩
abbrev main_while0b_v202 : Ref sig .tc := ⟨.hbm, 278, rfl⟩
abbrev main_while0b_v203 : Ref sig .tc := ⟨.hbm, 279, rfl⟩
abbrev main_while0b_v204 : Ref sig .tc := ⟨.hbm, 280, rfl⟩
abbrev main_while0b_c_72 : Ref sig .tc := ⟨.hbm, 281, rfl⟩
abbrev main_while0b_v205 : Ref sig .tc := ⟨.hbm, 282, rfl⟩
abbrev main_while0b_v206 : Ref sig .tc := ⟨.hbm, 283, rfl⟩
abbrev main_while0b_v207 : Ref sig .tc := ⟨.hbm, 284, rfl⟩
abbrev main_while0b_v208 : Ref sig .tc := ⟨.hbm, 285, rfl⟩
abbrev main_while0b_v209 : Ref sig .tc := ⟨.hbm, 286, rfl⟩
abbrev main_while0b_c_73 : Ref sig .tc := ⟨.hbm, 287, rfl⟩
abbrev main_while0b_v210 : Ref sig .tc := ⟨.hbm, 288, rfl⟩
abbrev main_while0b_v211 : Ref sig .tc := ⟨.hbm, 289, rfl⟩
abbrev main_while0b_c_74 : Ref sig .tc := ⟨.hbm, 290, rfl⟩
abbrev main_while0b_v212 : Ref sig .tc := ⟨.hbm, 291, rfl⟩
abbrev main_while0b_v213 : Ref sig .tc := ⟨.hbm, 292, rfl⟩
abbrev main_while0b_v214 : Ref sig .tc := ⟨.hbm, 293, rfl⟩
abbrev main_while0b_v215 : Ref sig .tc := ⟨.hbm, 294, rfl⟩
abbrev main_while0b_v216 : Ref sig .tc := ⟨.hbm, 295, rfl⟩
abbrev main_while0b_v217 : Ref sig .tc := ⟨.hbm, 296, rfl⟩
abbrev main_while0b_c_75 : Ref sig .tc := ⟨.hbm, 297, rfl⟩
abbrev main_while0b_v218 : Ref sig .tc := ⟨.hbm, 298, rfl⟩
abbrev main_while0b_v219 : Ref sig .tc := ⟨.hbm, 299, rfl⟩
abbrev main_while0b_c_76 : Ref sig .tc := ⟨.hbm, 300, rfl⟩
abbrev main_while0b_v220 : Ref sig .tc := ⟨.hbm, 301, rfl⟩
abbrev main_while0b_v221 : Ref sig .tc := ⟨.hbm, 302, rfl⟩
abbrev main_while0b_v222 : Ref sig .tc := ⟨.hbm, 303, rfl⟩
abbrev main_while0b_v223 : Ref sig .tc := ⟨.hbm, 304, rfl⟩
abbrev main_while0b_v224 : Ref sig .tc := ⟨.hbm, 305, rfl⟩
abbrev main_while0b_c_77 : Ref sig .tc := ⟨.hbm, 306, rfl⟩
abbrev main_while0b_v225 : Ref sig .tc := ⟨.hbm, 307, rfl⟩
abbrev main_while0b_v226 : Ref sig .tc := ⟨.hbm, 308, rfl⟩
abbrev main_while0b_c_78 : Ref sig .tc := ⟨.hbm, 309, rfl⟩
abbrev main_while0b_v227 : Ref sig .tc := ⟨.hbm, 310, rfl⟩
abbrev main_while0b_v228 : Ref sig .tc := ⟨.hbm, 311, rfl⟩
abbrev main_while0b_v229 : Ref sig .tc := ⟨.hbm, 312, rfl⟩
abbrev main_while0b_v230 : Ref sig .tc := ⟨.hbm, 313, rfl⟩
abbrev main_while0b_v231 : Ref sig .tc := ⟨.hbm, 314, rfl⟩
abbrev main_while0b_c_79 : Ref sig .tc := ⟨.hbm, 315, rfl⟩
abbrev main_while0b_v232 : Ref sig .tc := ⟨.hbm, 316, rfl⟩
abbrev main_while0b_v233 : Ref sig .tc := ⟨.hbm, 317, rfl⟩
abbrev main_while0b_c_80 : Ref sig .tc := ⟨.hbm, 318, rfl⟩
abbrev main_while0b_v234 : Ref sig .tc := ⟨.hbm, 319, rfl⟩
abbrev main_while0b_v235 : Ref sig .tc := ⟨.hbm, 320, rfl⟩
abbrev main_while0b_v236 : Ref sig .tc := ⟨.hbm, 321, rfl⟩
abbrev main_while0b_v237 : Ref sig .tc := ⟨.hbm, 322, rfl⟩
abbrev main_while0b_v238 : Ref sig .tc := ⟨.hbm, 323, rfl⟩
abbrev main_while0b_c_81 : Ref sig .tc := ⟨.hbm, 324, rfl⟩
abbrev main_while0b_v239 : Ref sig .tc := ⟨.hbm, 325, rfl⟩
abbrev main_while0b_v240 : Ref sig .tc := ⟨.hbm, 326, rfl⟩
abbrev main_while0b_c_82 : Ref sig .tc := ⟨.hbm, 327, rfl⟩
abbrev main_while0b_v241 : Ref sig .tc := ⟨.hbm, 328, rfl⟩
abbrev main_while0b_v242 : Ref sig .tc := ⟨.hbm, 329, rfl⟩
abbrev main_while0b_v243 : Ref sig .tc := ⟨.hbm, 330, rfl⟩
abbrev main_while0b_v244 : Ref sig .tc := ⟨.hbm, 331, rfl⟩
abbrev main_while0b_v245 : Ref sig .tc := ⟨.hbm, 332, rfl⟩
abbrev main_while0b_v246 : Ref sig .tc := ⟨.hbm, 333, rfl⟩
abbrev main_while0b_v247 : Ref sig .tc := ⟨.hbm, 334, rfl⟩
abbrev main_while0b_v248 : Ref sig .tc := ⟨.hbm, 335, rfl⟩
abbrev main_while0b_c_83 : Ref sig .tc := ⟨.hbm, 336, rfl⟩
abbrev main_while0b_v249 : Ref sig .tc := ⟨.hbm, 337, rfl⟩
abbrev main_while0b_v250 : Ref sig .tc := ⟨.hbm, 338, rfl⟩
abbrev main_while0b_v251 : Ref sig .tc := ⟨.hbm, 339, rfl⟩
abbrev main_while0b_c_84 : Ref sig .tc := ⟨.hbm, 340, rfl⟩
abbrev main_while0b_v252 : Ref sig .tc := ⟨.hbm, 341, rfl⟩
abbrev main_while0b_v253 : Ref sig .tc := ⟨.hbm, 342, rfl⟩
abbrev main_while0b_c_85 : Ref sig .tc := ⟨.hbm, 343, rfl⟩
abbrev main_while0b_v254 : Ref sig .tc := ⟨.hbm, 344, rfl⟩
abbrev main_while0b_v255 : Ref sig .tc := ⟨.hbm, 345, rfl⟩
abbrev main_while0b_v256 : Ref sig .tc := ⟨.hbm, 346, rfl⟩
abbrev main_while0b_v257 : Ref sig .tc := ⟨.hbm, 347, rfl⟩
abbrev main_while0b_v258 : Ref sig .tc := ⟨.hbm, 348, rfl⟩
abbrev main_while0b_c_86 : Ref sig .tc := ⟨.hbm, 349, rfl⟩
abbrev main_while0b_v259 : Ref sig .tc := ⟨.hbm, 350, rfl⟩
abbrev main_while0b_v260 : Ref sig .tc := ⟨.hbm, 351, rfl⟩
abbrev main_while0b_c_87 : Ref sig .tc := ⟨.hbm, 352, rfl⟩
abbrev main_while0b_v261 : Ref sig .tc := ⟨.hbm, 353, rfl⟩
abbrev main_while0b_v262 : Ref sig .tc := ⟨.hbm, 354, rfl⟩
abbrev main_while0b_v263 : Ref sig .tc := ⟨.hbm, 355, rfl⟩
abbrev main_while0b_v264 : Ref sig .tc := ⟨.hbm, 356, rfl⟩
abbrev main_while0b_v265 : Ref sig .tc := ⟨.hbm, 357, rfl⟩
abbrev main_while0b_c_88 : Ref sig .tc := ⟨.hbm, 358, rfl⟩
abbrev main_while0b_v266 : Ref sig .tc := ⟨.hbm, 359, rfl⟩
abbrev main_while0b_v267 : Ref sig .tc := ⟨.hbm, 360, rfl⟩
abbrev main_while0b_c_89 : Ref sig .tc := ⟨.hbm, 361, rfl⟩
abbrev main_while0b_v268 : Ref sig .tc := ⟨.hbm, 362, rfl⟩
abbrev main_while0b_v269 : Ref sig .tc := ⟨.hbm, 363, rfl⟩
abbrev main_while0b_v270 : Ref sig .tc := ⟨.hbm, 364, rfl⟩
abbrev main_while0b_v271 : Ref sig .tc := ⟨.hbm, 365, rfl⟩
abbrev main_while0b_v272 : Ref sig .tc := ⟨.hbm, 366, rfl⟩
abbrev main_while0b_c_90 : Ref sig .tc := ⟨.hbm, 367, rfl⟩
abbrev main_while0b_v273 : Ref sig .tc := ⟨.hbm, 368, rfl⟩
abbrev main_while0b_v274 : Ref sig .tc := ⟨.hbm, 369, rfl⟩
abbrev main_while0b_c_91 : Ref sig .tc := ⟨.hbm, 370, rfl⟩
abbrev main_while0b_v275 : Ref sig .tc := ⟨.hbm, 371, rfl⟩
abbrev main_while0b_v276 : Ref sig .tc := ⟨.hbm, 372, rfl⟩
abbrev main_while0b_v277 : Ref sig .tc := ⟨.hbm, 373, rfl⟩
abbrev main_while0b_v278 : Ref sig .tc := ⟨.hbm, 374, rfl⟩
abbrev main_while0b_v279 : Ref sig .tc := ⟨.hbm, 375, rfl⟩
abbrev main_while0b_v280 : Ref sig .tc := ⟨.hbm, 376, rfl⟩
abbrev main_while0b_v281 : Ref sig .tc := ⟨.hbm, 377, rfl⟩
abbrev main_while0b_v282 : Ref sig .tc := ⟨.hbm, 378, rfl⟩
abbrev main_while0b_c_92 : Ref sig .tc := ⟨.hbm, 379, rfl⟩
abbrev main_while0b_v283 : Ref sig .tc := ⟨.hbm, 380, rfl⟩
abbrev main_while0b_v284 : Ref sig .tc := ⟨.hbm, 381, rfl⟩
abbrev main_while0b_v285 : Ref sig .tc := ⟨.hbm, 382, rfl⟩
abbrev main_while0b_c_93 : Ref sig .tc := ⟨.hbm, 383, rfl⟩
abbrev main_while0b_v286 : Ref sig .tc := ⟨.hbm, 384, rfl⟩
abbrev main_while0b_v287 : Ref sig .tc := ⟨.hbm, 385, rfl⟩
abbrev main_while0b_c_94 : Ref sig .tc := ⟨.hbm, 386, rfl⟩
abbrev main_while0b_v288 : Ref sig .tc := ⟨.hbm, 387, rfl⟩
abbrev main_while0b_v289 : Ref sig .tc := ⟨.hbm, 388, rfl⟩
abbrev main_while0b_v290 : Ref sig .tc := ⟨.hbm, 389, rfl⟩
abbrev main_while0b_v291 : Ref sig .tc := ⟨.hbm, 390, rfl⟩
abbrev main_while0b_v292 : Ref sig .tc := ⟨.hbm, 391, rfl⟩
abbrev main_while0b_c_95 : Ref sig .tc := ⟨.hbm, 392, rfl⟩
abbrev main_while0b_v293 : Ref sig .tc := ⟨.hbm, 393, rfl⟩
abbrev main_while0b_v294 : Ref sig .tc := ⟨.hbm, 394, rfl⟩
abbrev main_while0b_c_96 : Ref sig .tc := ⟨.hbm, 395, rfl⟩
abbrev main_while0b_v295 : Ref sig .tc := ⟨.hbm, 396, rfl⟩
abbrev main_while0b_v296 : Ref sig .tc := ⟨.hbm, 397, rfl⟩
abbrev main_while0b_v297 : Ref sig .tc := ⟨.hbm, 398, rfl⟩
abbrev main_while0b_v298 : Ref sig .tc := ⟨.hbm, 399, rfl⟩
abbrev main_while0b_v299 : Ref sig .tc := ⟨.hbm, 400, rfl⟩
abbrev main_while0b_c_97 : Ref sig .tc := ⟨.hbm, 401, rfl⟩
abbrev main_while0b_v300 : Ref sig .tc := ⟨.hbm, 402, rfl⟩
abbrev main_while0b_v301 : Ref sig .tc := ⟨.hbm, 403, rfl⟩
abbrev main_while0b_c_98 : Ref sig .tc := ⟨.hbm, 404, rfl⟩
abbrev main_while0b_v302 : Ref sig .tc := ⟨.hbm, 405, rfl⟩
abbrev main_while0b_v303 : Ref sig .tc := ⟨.hbm, 406, rfl⟩
abbrev main_while0b_v304 : Ref sig .tc := ⟨.hbm, 407, rfl⟩
abbrev main_while0b_v305 : Ref sig .tc := ⟨.hbm, 408, rfl⟩
abbrev main_while0b_v306 : Ref sig .tc := ⟨.hbm, 409, rfl⟩
abbrev main_while0b_c_99 : Ref sig .tc := ⟨.hbm, 410, rfl⟩
abbrev main_while0b_v307 : Ref sig .tc := ⟨.hbm, 411, rfl⟩
abbrev main_while0b_v308 : Ref sig .tc := ⟨.hbm, 412, rfl⟩
abbrev main_while0b_c_100 : Ref sig .tc := ⟨.hbm, 413, rfl⟩
abbrev main_while0b_v309 : Ref sig .tc := ⟨.hbm, 414, rfl⟩
abbrev main_while0b_v310 : Ref sig .tc := ⟨.hbm, 415, rfl⟩
abbrev main_while0b_v311 : Ref sig .tc := ⟨.hbm, 416, rfl⟩
abbrev main_while0b_v312 : Ref sig .tc := ⟨.hbm, 417, rfl⟩
abbrev main_while0b_v313 : Ref sig .tc := ⟨.hbm, 418, rfl⟩
abbrev main_while0b_v314 : Ref sig .tc := ⟨.hbm, 419, rfl⟩
abbrev main_while0b_v315 : Ref sig .tc := ⟨.hbm, 420, rfl⟩
abbrev main_while0b_v316 : Ref sig .tc := ⟨.hbm, 421, rfl⟩
abbrev main_while0b_c_101 : Ref sig .tc := ⟨.hbm, 422, rfl⟩
abbrev main_while0b_v317 : Ref sig .tc := ⟨.hbm, 423, rfl⟩
abbrev main_while0b_v318 : Ref sig .tc := ⟨.hbm, 424, rfl⟩
abbrev main_while0b_v319 : Ref sig .tc := ⟨.hbm, 425, rfl⟩
abbrev main_while0b_c_102 : Ref sig .tc := ⟨.hbm, 426, rfl⟩
abbrev main_while0b_v320 : Ref sig .tc := ⟨.hbm, 427, rfl⟩
abbrev main_while0b_v321 : Ref sig .tc := ⟨.hbm, 428, rfl⟩
abbrev main_while0b_c_103 : Ref sig .tc := ⟨.hbm, 429, rfl⟩
abbrev main_while0b_v322 : Ref sig .tc := ⟨.hbm, 430, rfl⟩
abbrev main_while0b_v323 : Ref sig .tc := ⟨.hbm, 431, rfl⟩
abbrev main_while0b_v324 : Ref sig .tc := ⟨.hbm, 432, rfl⟩
abbrev main_while0b_v325 : Ref sig .tc := ⟨.hbm, 433, rfl⟩
abbrev main_while0b_v326 : Ref sig .tc := ⟨.hbm, 434, rfl⟩
abbrev main_while0b_c_104 : Ref sig .tc := ⟨.hbm, 435, rfl⟩
abbrev main_while0b_v327 : Ref sig .tc := ⟨.hbm, 436, rfl⟩
abbrev main_while0b_v328 : Ref sig .tc := ⟨.hbm, 437, rfl⟩
abbrev main_while0b_c_105 : Ref sig .tc := ⟨.hbm, 438, rfl⟩
abbrev main_while0b_v329 : Ref sig .tc := ⟨.hbm, 439, rfl⟩
abbrev main_while0b_v330 : Ref sig .tc := ⟨.hbm, 440, rfl⟩
abbrev main_while0b_v331 : Ref sig .tc := ⟨.hbm, 441, rfl⟩
abbrev main_while0b_v332 : Ref sig .tc := ⟨.hbm, 442, rfl⟩
abbrev main_while0b_v333 : Ref sig .tc := ⟨.hbm, 443, rfl⟩
abbrev main_while0b_c_106 : Ref sig .tc := ⟨.hbm, 444, rfl⟩
abbrev main_while0b_v334 : Ref sig .tc := ⟨.hbm, 445, rfl⟩
abbrev main_while0b_v335 : Ref sig .tc := ⟨.hbm, 446, rfl⟩
abbrev main_while0b_c_107 : Ref sig .tc := ⟨.hbm, 447, rfl⟩
abbrev main_while0b_v336 : Ref sig .tc := ⟨.hbm, 448, rfl⟩
abbrev main_while0b_v337 : Ref sig .tc := ⟨.hbm, 449, rfl⟩
abbrev main_while0b_v338 : Ref sig .tc := ⟨.hbm, 450, rfl⟩
abbrev main_while0b_v339 : Ref sig .tc := ⟨.hbm, 451, rfl⟩
abbrev main_while0b_v340 : Ref sig .tc := ⟨.hbm, 452, rfl⟩
abbrev main_while0b_c_108 : Ref sig .tc := ⟨.hbm, 453, rfl⟩
abbrev main_while0b_v341 : Ref sig .tc := ⟨.hbm, 454, rfl⟩
abbrev main_while0b_v342 : Ref sig .tc := ⟨.hbm, 455, rfl⟩
abbrev main_while0b_c_109 : Ref sig .tc := ⟨.hbm, 456, rfl⟩
abbrev main_while0b_v343 : Ref sig .tc := ⟨.hbm, 457, rfl⟩
abbrev main_while0b_v344 : Ref sig .tc := ⟨.hbm, 458, rfl⟩
abbrev main_while0b_v345 : Ref sig .tc := ⟨.hbm, 459, rfl⟩
abbrev main_while0b_v346 : Ref sig .tc := ⟨.hbm, 460, rfl⟩
abbrev main_while0b_v347 : Ref sig .tc := ⟨.hbm, 461, rfl⟩
abbrev main_while0b_v348 : Ref sig .tc := ⟨.hbm, 462, rfl⟩
abbrev main_while0b_v349 : Ref sig .tc := ⟨.hbm, 463, rfl⟩
abbrev main_while0b_v350 : Ref sig .tc := ⟨.hbm, 464, rfl⟩
abbrev main_while0b_c_110 : Ref sig .tc := ⟨.hbm, 465, rfl⟩
abbrev main_while0b_v351 : Ref sig .tc := ⟨.hbm, 466, rfl⟩
abbrev main_while0b_v352 : Ref sig .tc := ⟨.hbm, 467, rfl⟩
abbrev main_while0b_v353 : Ref sig .tc := ⟨.hbm, 468, rfl⟩
abbrev main_while0b_c_111 : Ref sig .tc := ⟨.hbm, 469, rfl⟩
abbrev main_while0b_v354 : Ref sig .tc := ⟨.hbm, 470, rfl⟩
abbrev main_while0b_v355 : Ref sig .tc := ⟨.hbm, 471, rfl⟩
abbrev main_while0b_c_112 : Ref sig .tc := ⟨.hbm, 472, rfl⟩
abbrev main_while0b_v356 : Ref sig .tc := ⟨.hbm, 473, rfl⟩
abbrev main_while0b_v357 : Ref sig .tc := ⟨.hbm, 474, rfl⟩
abbrev main_while0b_v358 : Ref sig .tc := ⟨.hbm, 475, rfl⟩
abbrev main_while0b_v359 : Ref sig .tc := ⟨.hbm, 476, rfl⟩
abbrev main_while0b_v360 : Ref sig .tc := ⟨.hbm, 477, rfl⟩
abbrev main_while0b_c_113 : Ref sig .tc := ⟨.hbm, 478, rfl⟩
abbrev main_while0b_v361 : Ref sig .tc := ⟨.hbm, 479, rfl⟩
abbrev main_while0b_v362 : Ref sig .tc := ⟨.hbm, 480, rfl⟩
abbrev main_while0b_c_114 : Ref sig .tc := ⟨.hbm, 481, rfl⟩
abbrev main_while0b_v363 : Ref sig .tc := ⟨.hbm, 482, rfl⟩
abbrev main_while0b_v364 : Ref sig .tc := ⟨.hbm, 483, rfl⟩
abbrev main_while0b_v365 : Ref sig .tc := ⟨.hbm, 484, rfl⟩
abbrev main_while0b_v366 : Ref sig .tc := ⟨.hbm, 485, rfl⟩
abbrev main_while0b_v367 : Ref sig .tc := ⟨.hbm, 486, rfl⟩
abbrev main_while0b_c_115 : Ref sig .tc := ⟨.hbm, 487, rfl⟩
abbrev main_while0b_v368 : Ref sig .tc := ⟨.hbm, 488, rfl⟩
abbrev main_while0b_v369 : Ref sig .tc := ⟨.hbm, 489, rfl⟩
abbrev main_while0b_c_116 : Ref sig .tc := ⟨.hbm, 490, rfl⟩
abbrev main_while0b_v370 : Ref sig .tc := ⟨.hbm, 491, rfl⟩
abbrev main_while0b_v371 : Ref sig .tc := ⟨.hbm, 492, rfl⟩
abbrev main_while0b_v372 : Ref sig .tc := ⟨.hbm, 493, rfl⟩
abbrev main_while0b_v373 : Ref sig .tc := ⟨.hbm, 494, rfl⟩
abbrev main_while0b_v374 : Ref sig .tc := ⟨.hbm, 495, rfl⟩
abbrev main_while0b_c_117 : Ref sig .tc := ⟨.hbm, 496, rfl⟩
abbrev main_while0b_v375 : Ref sig .tc := ⟨.hbm, 497, rfl⟩
abbrev main_while0b_v376 : Ref sig .tc := ⟨.hbm, 498, rfl⟩
abbrev main_while0b_c_118 : Ref sig .tc := ⟨.hbm, 499, rfl⟩
abbrev main_while0b_v377 : Ref sig .tc := ⟨.hbm, 500, rfl⟩
abbrev main_while0b_v378 : Ref sig .tc := ⟨.hbm, 501, rfl⟩
abbrev main_while0b_v379 : Ref sig .tc := ⟨.hbm, 502, rfl⟩
abbrev main_while0b_v380 : Ref sig .tc := ⟨.hbm, 503, rfl⟩
abbrev main_while0b_v381 : Ref sig .tc := ⟨.hbm, 504, rfl⟩
abbrev main_while0b_v382 : Ref sig .tc := ⟨.hbm, 505, rfl⟩
abbrev main_while0b_v383 : Ref sig .tc := ⟨.hbm, 506, rfl⟩
abbrev main_while0b_v384 : Ref sig .tc := ⟨.hbm, 507, rfl⟩
abbrev main_while0b_c_119 : Ref sig .tc := ⟨.hbm, 508, rfl⟩
abbrev main_while0b_v385 : Ref sig .tc := ⟨.hbm, 509, rfl⟩
abbrev main_while0b_v386 : Ref sig .tc := ⟨.hbm, 510, rfl⟩
abbrev main_while0b_v387 : Ref sig .tc := ⟨.hbm, 511, rfl⟩
abbrev main_while0b_c_120 : Ref sig .tc := ⟨.hbm, 512, rfl⟩
abbrev main_while0b_v388 : Ref sig .tc := ⟨.hbm, 513, rfl⟩
abbrev main_while0b_v389 : Ref sig .tc := ⟨.hbm, 514, rfl⟩
abbrev main_while0b_c_121 : Ref sig .tc := ⟨.hbm, 515, rfl⟩
abbrev main_while0b_v390 : Ref sig .tc := ⟨.hbm, 516, rfl⟩
abbrev main_while0b_v391 : Ref sig .tc := ⟨.hbm, 517, rfl⟩
abbrev main_while0b_v392 : Ref sig .tc := ⟨.hbm, 518, rfl⟩
abbrev main_while0b_cst_122 : Ref sig .tc := ⟨.hbm, 519, rfl⟩
abbrev main_while0b_v393 : Ref sig .tc := ⟨.hbm, 520, rfl⟩
abbrev main_while0b_v394 : Ref sig .tc := ⟨.hbm, 521, rfl⟩
abbrev main_while0b_v395 : Ref sig .tc := ⟨.hbm, 522, rfl⟩
abbrev main_while0b_v396 : Ref sig .tc := ⟨.hbm, 523, rfl⟩
abbrev main_while0b_v397 : Ref sig .tc := ⟨.hbm, 524, rfl⟩
abbrev main_while0b_cst_123 : Ref sig .tc := ⟨.hbm, 525, rfl⟩
abbrev main_while0b_v398 : Ref sig .tc := ⟨.hbm, 526, rfl⟩
abbrev main_while0b_v399 : Ref sig .tc := ⟨.hbm, 527, rfl⟩
abbrev main_while0b_v400 : Ref sig .tc := ⟨.hbm, 528, rfl⟩
abbrev main_while0b_cst_124 : Ref sig .tc := ⟨.hbm, 529, rfl⟩
abbrev main_while0b_call2_v0 : Ref sig .tc := ⟨.hbm, 530, rfl⟩
abbrev main_while0b_call2_v1 : Ref sig .tc := ⟨.hbm, 531, rfl⟩
abbrev main_while0b_v401 : Ref sig .tc := ⟨.hbm, 532, rfl⟩
abbrev main_while0b_v402 : Ref sig .tc := ⟨.hbm, 533, rfl⟩
abbrev main_while0b_v403 : Ref sig .tc := ⟨.hbm, 534, rfl⟩
abbrev main_while0b_cst_125 : Ref sig .tc := ⟨.hbm, 535, rfl⟩
abbrev main_while0b_v404 : Ref sig .tc := ⟨.hbm, 536, rfl⟩
abbrev main_while0b_v405 : Ref sig .tc := ⟨.hbm, 537, rfl⟩
abbrev main_while0b_cst_126 : Ref sig .tc := ⟨.hbm, 538, rfl⟩
abbrev main_while0b_v406 : Ref sig .tc := ⟨.hbm, 539, rfl⟩
abbrev main_while0b_v407 : Ref sig .tc := ⟨.hbm, 540, rfl⟩
abbrev main_while0b_cst_127 : Ref sig .tc := ⟨.hbm, 541, rfl⟩
abbrev main_while0b_v408 : Ref sig .tc := ⟨.hbm, 542, rfl⟩
abbrev main_while0b_v409 : Ref sig .tc := ⟨.hbm, 543, rfl⟩
abbrev main_while0b_cst_128 : Ref sig .tc := ⟨.hbm, 544, rfl⟩
abbrev main_while0b_v410 : Ref sig .tc := ⟨.hbm, 545, rfl⟩
abbrev main_while0b_v411 : Ref sig .tc := ⟨.hbm, 546, rfl⟩
abbrev main_while0b_cst_129 : Ref sig .tc := ⟨.hbm, 547, rfl⟩
abbrev main_while0b_v412 : Ref sig .tc := ⟨.hbm, 548, rfl⟩
abbrev main_while0b_v413 : Ref sig .tc := ⟨.hbm, 549, rfl⟩
abbrev main_while0b_cst_130 : Ref sig .tc := ⟨.hbm, 550, rfl⟩
abbrev main_while0b_v414 : Ref sig .tc := ⟨.hbm, 551, rfl⟩
abbrev main_while0b_v415 : Ref sig .tc := ⟨.hbm, 552, rfl⟩
abbrev main_while0b_cst_131 : Ref sig .tc := ⟨.hbm, 553, rfl⟩
abbrev main_while0b_v416 : Ref sig .tc := ⟨.hbm, 554, rfl⟩
abbrev main_while0b_v417 : Ref sig .tc := ⟨.hbm, 555, rfl⟩
abbrev main_while0b_cst_132 : Ref sig .tc := ⟨.hbm, 556, rfl⟩
abbrev main_while0b_v418 : Ref sig .tc := ⟨.hbm, 557, rfl⟩
abbrev main_while0b_v419 : Ref sig .tc := ⟨.hbm, 558, rfl⟩
abbrev main_while0b_cst_133 : Ref sig .tc := ⟨.hbm, 559, rfl⟩
abbrev main_while0b_v420 : Ref sig .tc := ⟨.hbm, 560, rfl⟩
abbrev main_while0b_v421 : Ref sig .tc := ⟨.hbm, 561, rfl⟩
abbrev main_while0b_cst_134 : Ref sig .tc := ⟨.hbm, 562, rfl⟩
abbrev main_while0b_v422 : Ref sig .tc := ⟨.hbm, 563, rfl⟩
abbrev main_while0b_v423 : Ref sig .tc := ⟨.hbm, 564, rfl⟩
abbrev main_while0b_c_135 : Ref sig .tc := ⟨.hbm, 565, rfl⟩
abbrev main_while0b_v424 : Ref sig .tc := ⟨.hbm, 566, rfl⟩
abbrev main_while0b_v425 : Ref sig .tc := ⟨.hbm, 567, rfl⟩
abbrev main_while0b_v426 : Ref sig .tc := ⟨.hbm, 568, rfl⟩
abbrev main_while0b_c_136 : Ref sig .tc := ⟨.hbm, 569, rfl⟩
abbrev main_while0b_v427 : Ref sig .tc := ⟨.hbm, 570, rfl⟩
abbrev main_while0b_v428 : Ref sig .tc := ⟨.hbm, 571, rfl⟩
abbrev main_while0b_v429 : Ref sig .tc := ⟨.hbm, 572, rfl⟩
abbrev main_while0b_v430 : Ref sig .tc := ⟨.hbm, 573, rfl⟩
abbrev main_while0b_v431 : Ref sig .tc := ⟨.hbm, 574, rfl⟩
abbrev main_while0b_v432 : Ref sig .tc := ⟨.hbm, 575, rfl⟩
abbrev main_while0b_c_137 : Ref sig .tc := ⟨.hbm, 576, rfl⟩
abbrev main_while0b_v433 : Ref sig .tc := ⟨.hbm, 577, rfl⟩
abbrev main_while0b_v434 : Ref sig .tc := ⟨.hbm, 578, rfl⟩
abbrev main_while0b_c_138 : Ref sig .tc := ⟨.hbm, 579, rfl⟩
abbrev main_while0b_v435 : Ref sig .tc := ⟨.hbm, 580, rfl⟩
abbrev main_while0b_v436 : Ref sig .tc := ⟨.hbm, 581, rfl⟩
abbrev main_while0b_v437 : Ref sig .tc := ⟨.hbm, 582, rfl⟩
abbrev main_while0b_v438 : Ref sig .tc := ⟨.hbm, 583, rfl⟩
abbrev main_while0b_v439 : Ref sig .tc := ⟨.hbm, 584, rfl⟩
abbrev main_while0b_c_139 : Ref sig .tc := ⟨.hbm, 585, rfl⟩
abbrev main_while0b_v440 : Ref sig .tc := ⟨.hbm, 586, rfl⟩
abbrev main_while0b_v441 : Ref sig .tc := ⟨.hbm, 587, rfl⟩
abbrev main_while0b_c_140 : Ref sig .tc := ⟨.hbm, 588, rfl⟩
abbrev main_while0b_v442 : Ref sig .tc := ⟨.hbm, 589, rfl⟩
abbrev main_while0b_v443 : Ref sig .tc := ⟨.hbm, 590, rfl⟩
abbrev main_while0b_v444 : Ref sig .tc := ⟨.hbm, 591, rfl⟩
abbrev main_while0b_v445 : Ref sig .tc := ⟨.hbm, 592, rfl⟩
abbrev main_while0b_v446 : Ref sig .tc := ⟨.hbm, 593, rfl⟩
abbrev main_while0b_c_141 : Ref sig .tc := ⟨.hbm, 594, rfl⟩
abbrev main_while0b_v447 : Ref sig .tc := ⟨.hbm, 595, rfl⟩
abbrev main_while0b_v448 : Ref sig .tc := ⟨.hbm, 596, rfl⟩
abbrev main_while0b_c_142 : Ref sig .tc := ⟨.hbm, 597, rfl⟩
abbrev main_while0b_v449 : Ref sig .tc := ⟨.hbm, 598, rfl⟩
abbrev main_while0b_v450 : Ref sig .tc := ⟨.hbm, 599, rfl⟩
abbrev main_while0b_v451 : Ref sig .tc := ⟨.hbm, 600, rfl⟩
abbrev main_while0b_v452 : Ref sig .tc := ⟨.hbm, 601, rfl⟩
abbrev main_while0b_v453 : Ref sig .tc := ⟨.hbm, 602, rfl⟩
abbrev main_while0b_c_143 : Ref sig .tc := ⟨.hbm, 603, rfl⟩
abbrev main_while0b_v454 : Ref sig .tc := ⟨.hbm, 604, rfl⟩
abbrev main_while0b_v455 : Ref sig .tc := ⟨.hbm, 605, rfl⟩
abbrev main_while0b_c_144 : Ref sig .tc := ⟨.hbm, 606, rfl⟩
abbrev main_while0b_v456 : Ref sig .tc := ⟨.hbm, 607, rfl⟩
abbrev main_while0b_v457 : Ref sig .tc := ⟨.hbm, 608, rfl⟩
abbrev main_while0b_v458 : Ref sig .tc := ⟨.hbm, 609, rfl⟩
abbrev main_while0b_v459 : Ref sig .tc := ⟨.hbm, 610, rfl⟩
abbrev main_while0b_v460 : Ref sig .tc := ⟨.hbm, 611, rfl⟩
abbrev main_while0b_v461 : Ref sig .tc := ⟨.hbm, 612, rfl⟩
abbrev main_while0b_v462 : Ref sig .tc := ⟨.hbm, 613, rfl⟩
abbrev main_while0b_v463 : Ref sig .tc := ⟨.hbm, 614, rfl⟩
abbrev main_while0b_c_145 : Ref sig .tc := ⟨.hbm, 615, rfl⟩
abbrev main_while0b_v464 : Ref sig .tc := ⟨.hbm, 616, rfl⟩
abbrev main_while0b_v465 : Ref sig .tc := ⟨.hbm, 617, rfl⟩
abbrev main_while0b_v466 : Ref sig .tc := ⟨.hbm, 618, rfl⟩
abbrev main_while0b_c_146 : Ref sig .tc := ⟨.hbm, 619, rfl⟩
abbrev main_while0b_v467 : Ref sig .tc := ⟨.hbm, 620, rfl⟩
abbrev main_while0b_v468 : Ref sig .tc := ⟨.hbm, 621, rfl⟩
abbrev main_while0b_c_147 : Ref sig .tc := ⟨.hbm, 622, rfl⟩
abbrev main_while0b_v469 : Ref sig .tc := ⟨.hbm, 623, rfl⟩
abbrev main_while0b_v470 : Ref sig .tc := ⟨.hbm, 624, rfl⟩
abbrev main_while0b_v471 : Ref sig .tc := ⟨.hbm, 625, rfl⟩
abbrev main_while0b_v472 : Ref sig .tc := ⟨.hbm, 626, rfl⟩
abbrev main_while0b_v473 : Ref sig .tc := ⟨.hbm, 627, rfl⟩
abbrev main_while0b_c_148 : Ref sig .tc := ⟨.hbm, 628, rfl⟩
abbrev main_while0b_v474 : Ref sig .tc := ⟨.hbm, 629, rfl⟩
abbrev main_while0b_v475 : Ref sig .tc := ⟨.hbm, 630, rfl⟩
abbrev main_while0b_c_149 : Ref sig .tc := ⟨.hbm, 631, rfl⟩
abbrev main_while0b_v476 : Ref sig .tc := ⟨.hbm, 632, rfl⟩
abbrev main_while0b_v477 : Ref sig .tc := ⟨.hbm, 633, rfl⟩
abbrev main_while0b_v478 : Ref sig .tc := ⟨.hbm, 634, rfl⟩
abbrev main_while0b_v479 : Ref sig .tc := ⟨.hbm, 635, rfl⟩
abbrev main_while0b_v480 : Ref sig .tc := ⟨.hbm, 636, rfl⟩
abbrev main_while0b_c_150 : Ref sig .tc := ⟨.hbm, 637, rfl⟩
abbrev main_while0b_v481 : Ref sig .tc := ⟨.hbm, 638, rfl⟩
abbrev main_while0b_v482 : Ref sig .tc := ⟨.hbm, 639, rfl⟩
abbrev main_while0b_c_151 : Ref sig .tc := ⟨.hbm, 640, rfl⟩
abbrev main_while0b_v483 : Ref sig .tc := ⟨.hbm, 641, rfl⟩
abbrev main_while0b_v484 : Ref sig .tc := ⟨.hbm, 642, rfl⟩
abbrev main_while0b_v485 : Ref sig .tc := ⟨.hbm, 643, rfl⟩
abbrev main_while0b_v486 : Ref sig .tc := ⟨.hbm, 644, rfl⟩
abbrev main_while0b_v487 : Ref sig .tc := ⟨.hbm, 645, rfl⟩
abbrev main_while0b_c_152 : Ref sig .tc := ⟨.hbm, 646, rfl⟩
abbrev main_while0b_v488 : Ref sig .tc := ⟨.hbm, 647, rfl⟩
abbrev main_while0b_v489 : Ref sig .tc := ⟨.hbm, 648, rfl⟩
abbrev main_while0b_c_153 : Ref sig .tc := ⟨.hbm, 649, rfl⟩
abbrev main_while0b_v490 : Ref sig .tc := ⟨.hbm, 650, rfl⟩
abbrev main_while0b_v491 : Ref sig .tc := ⟨.hbm, 651, rfl⟩
abbrev main_while0b_v492 : Ref sig .tc := ⟨.hbm, 652, rfl⟩
abbrev main_while0b_v493 : Ref sig .tc := ⟨.hbm, 653, rfl⟩
abbrev main_while0b_v494 : Ref sig .tc := ⟨.hbm, 654, rfl⟩
abbrev main_while0b_v495 : Ref sig .tc := ⟨.hbm, 655, rfl⟩
abbrev main_while0b_v496 : Ref sig .tc := ⟨.hbm, 656, rfl⟩
abbrev main_while0b_v497 : Ref sig .tc := ⟨.hbm, 657, rfl⟩
abbrev main_while0b_c_154 : Ref sig .tc := ⟨.hbm, 658, rfl⟩
abbrev main_while0b_v498 : Ref sig .tc := ⟨.hbm, 659, rfl⟩
abbrev main_while0b_v499 : Ref sig .tc := ⟨.hbm, 660, rfl⟩
abbrev main_while0b_v500 : Ref sig .tc := ⟨.hbm, 661, rfl⟩
abbrev main_while0b_c_155 : Ref sig .tc := ⟨.hbm, 662, rfl⟩
abbrev main_while0b_v501 : Ref sig .tc := ⟨.hbm, 663, rfl⟩
abbrev main_while0b_v502 : Ref sig .tc := ⟨.hbm, 664, rfl⟩
abbrev main_while0b_c_156 : Ref sig .tc := ⟨.hbm, 665, rfl⟩
abbrev main_while0b_v503 : Ref sig .tc := ⟨.hbm, 666, rfl⟩
abbrev main_while0b_v504 : Ref sig .tc := ⟨.hbm, 667, rfl⟩
abbrev main_while0b_v505 : Ref sig .tc := ⟨.hbm, 668, rfl⟩
abbrev main_while0b_v506 : Ref sig .tc := ⟨.hbm, 669, rfl⟩
abbrev main_while0b_v507 : Ref sig .tc := ⟨.hbm, 670, rfl⟩
abbrev main_while0b_c_157 : Ref sig .tc := ⟨.hbm, 671, rfl⟩
abbrev main_while0b_v508 : Ref sig .tc := ⟨.hbm, 672, rfl⟩
abbrev main_while0b_v509 : Ref sig .tc := ⟨.hbm, 673, rfl⟩
abbrev main_while0b_c_158 : Ref sig .tc := ⟨.hbm, 674, rfl⟩
abbrev main_while0b_v510 : Ref sig .tc := ⟨.hbm, 675, rfl⟩
abbrev main_while0b_v511 : Ref sig .tc := ⟨.hbm, 676, rfl⟩
abbrev main_while0b_v512 : Ref sig .tc := ⟨.hbm, 677, rfl⟩
abbrev main_while0b_v513 : Ref sig .tc := ⟨.hbm, 678, rfl⟩
abbrev main_while0b_v514 : Ref sig .tc := ⟨.hbm, 679, rfl⟩
abbrev main_while0b_c_159 : Ref sig .tc := ⟨.hbm, 680, rfl⟩
abbrev main_while0b_v515 : Ref sig .tc := ⟨.hbm, 681, rfl⟩
abbrev main_while0b_v516 : Ref sig .tc := ⟨.hbm, 682, rfl⟩
abbrev main_while0b_c_160 : Ref sig .tc := ⟨.hbm, 683, rfl⟩
abbrev main_while0b_v517 : Ref sig .tc := ⟨.hbm, 684, rfl⟩
abbrev main_while0b_v518 : Ref sig .tc := ⟨.hbm, 685, rfl⟩
abbrev main_while0b_v519 : Ref sig .tc := ⟨.hbm, 686, rfl⟩
abbrev main_while0b_v520 : Ref sig .tc := ⟨.hbm, 687, rfl⟩
abbrev main_while0b_v521 : Ref sig .tc := ⟨.hbm, 688, rfl⟩
abbrev main_while0b_c_161 : Ref sig .tc := ⟨.hbm, 689, rfl⟩
abbrev main_while0b_v522 : Ref sig .tc := ⟨.hbm, 690, rfl⟩
abbrev main_while0b_v523 : Ref sig .tc := ⟨.hbm, 691, rfl⟩
abbrev main_while0b_c_162 : Ref sig .tc := ⟨.hbm, 692, rfl⟩
abbrev main_while0b_v524 : Ref sig .tc := ⟨.hbm, 693, rfl⟩
abbrev main_while0b_v525 : Ref sig .tc := ⟨.hbm, 694, rfl⟩
abbrev main_while0b_v526 : Ref sig .tc := ⟨.hbm, 695, rfl⟩
abbrev main_while0b_v527 : Ref sig .tc := ⟨.hbm, 696, rfl⟩
abbrev main_while0b_v528 : Ref sig .tc := ⟨.hbm, 697, rfl⟩
abbrev main_while0b_v529 : Ref sig .tc := ⟨.hbm, 698, rfl⟩
abbrev main_while0b_v530 : Ref sig .tc := ⟨.hbm, 699, rfl⟩
abbrev main_while0b_v531 : Ref sig .tc := ⟨.hbm, 700, rfl⟩
abbrev main_while0b_c_163 : Ref sig .tc := ⟨.hbm, 701, rfl⟩
abbrev main_while0b_v532 : Ref sig .tc := ⟨.hbm, 702, rfl⟩
abbrev main_while0b_v533 : Ref sig .tc := ⟨.hbm, 703, rfl⟩
abbrev main_while0b_v534 : Ref sig .tc := ⟨.hbm, 704, rfl⟩
abbrev main_while0b_c_164 : Ref sig .tc := ⟨.hbm, 705, rfl⟩
abbrev main_while0b_v535 : Ref sig .tc := ⟨.hbm, 706, rfl⟩
abbrev main_while0b_v536 : Ref sig .tc := ⟨.hbm, 707, rfl⟩
abbrev main_while0b_c_165 : Ref sig .tc := ⟨.hbm, 708, rfl⟩
abbrev main_while0b_v537 : Ref sig .tc := ⟨.hbm, 709, rfl⟩
abbrev main_while0b_v538 : Ref sig .tc := ⟨.hbm, 710, rfl⟩
abbrev main_while0b_v539 : Ref sig .tc := ⟨.hbm, 711, rfl⟩
abbrev main_while0b_v540 : Ref sig .tc := ⟨.hbm, 712, rfl⟩
abbrev main_while0b_v541 : Ref sig .tc := ⟨.hbm, 713, rfl⟩
abbrev main_while0b_c_166 : Ref sig .tc := ⟨.hbm, 714, rfl⟩
abbrev main_while0b_v542 : Ref sig .tc := ⟨.hbm, 715, rfl⟩
abbrev main_while0b_v543 : Ref sig .tc := ⟨.hbm, 716, rfl⟩
abbrev main_while0b_c_167 : Ref sig .tc := ⟨.hbm, 717, rfl⟩
abbrev main_while0b_v544 : Ref sig .tc := ⟨.hbm, 718, rfl⟩
abbrev main_while0b_v545 : Ref sig .tc := ⟨.hbm, 719, rfl⟩
abbrev main_while0b_v546 : Ref sig .tc := ⟨.hbm, 720, rfl⟩
abbrev main_while0b_v547 : Ref sig .tc := ⟨.hbm, 721, rfl⟩
abbrev main_while0b_v548 : Ref sig .tc := ⟨.hbm, 722, rfl⟩
abbrev main_while0b_c_168 : Ref sig .tc := ⟨.hbm, 723, rfl⟩
abbrev main_while0b_v549 : Ref sig .tc := ⟨.hbm, 724, rfl⟩
abbrev main_while0b_v550 : Ref sig .tc := ⟨.hbm, 725, rfl⟩
abbrev main_while0b_c_169 : Ref sig .tc := ⟨.hbm, 726, rfl⟩
abbrev main_while0b_v551 : Ref sig .tc := ⟨.hbm, 727, rfl⟩
abbrev main_while0b_v552 : Ref sig .tc := ⟨.hbm, 728, rfl⟩
abbrev main_while0b_v553 : Ref sig .tc := ⟨.hbm, 729, rfl⟩
abbrev main_while0b_v554 : Ref sig .tc := ⟨.hbm, 730, rfl⟩
abbrev main_while0b_v555 : Ref sig .tc := ⟨.hbm, 731, rfl⟩
abbrev main_while0b_c_170 : Ref sig .tc := ⟨.hbm, 732, rfl⟩
abbrev main_while0b_v556 : Ref sig .tc := ⟨.hbm, 733, rfl⟩
abbrev main_while0b_v557 : Ref sig .tc := ⟨.hbm, 734, rfl⟩
abbrev main_while0b_c_171 : Ref sig .tc := ⟨.hbm, 735, rfl⟩
abbrev main_while0b_v558 : Ref sig .tc := ⟨.hbm, 736, rfl⟩
abbrev main_while0b_v559 : Ref sig .tc := ⟨.hbm, 737, rfl⟩
abbrev main_while0b_v560 : Ref sig .tc := ⟨.hbm, 738, rfl⟩
abbrev main_while0b_v561 : Ref sig .tc := ⟨.hbm, 739, rfl⟩
abbrev main_while0b_v562 : Ref sig .tc := ⟨.hbm, 740, rfl⟩
abbrev main_while0b_v563 : Ref sig .tc := ⟨.hbm, 741, rfl⟩
abbrev main_while0b_v564 : Ref sig .tc := ⟨.hbm, 742, rfl⟩
abbrev main_while0b_v565 : Ref sig .tc := ⟨.hbm, 743, rfl⟩
abbrev main_while0b_c_172 : Ref sig .tc := ⟨.hbm, 744, rfl⟩
abbrev main_while0b_v566 : Ref sig .tc := ⟨.hbm, 745, rfl⟩
abbrev main_while0b_v567 : Ref sig .tc := ⟨.hbm, 746, rfl⟩
abbrev main_while0b_v568 : Ref sig .tc := ⟨.hbm, 747, rfl⟩
abbrev main_while0b_c_173 : Ref sig .tc := ⟨.hbm, 748, rfl⟩
abbrev main_while0b_v569 : Ref sig .tc := ⟨.hbm, 749, rfl⟩
abbrev main_while0b_v570 : Ref sig .tc := ⟨.hbm, 750, rfl⟩
abbrev main_while0b_c_174 : Ref sig .tc := ⟨.hbm, 751, rfl⟩
abbrev main_while0b_v571 : Ref sig .tc := ⟨.hbm, 752, rfl⟩
abbrev main_while0b_v572 : Ref sig .tc := ⟨.hbm, 753, rfl⟩
abbrev main_while0b_v573 : Ref sig .tc := ⟨.hbm, 754, rfl⟩
abbrev main_while0b_v574 : Ref sig .tc := ⟨.hbm, 755, rfl⟩
abbrev main_while0b_v575 : Ref sig .tc := ⟨.hbm, 756, rfl⟩
abbrev main_while0b_c_175 : Ref sig .tc := ⟨.hbm, 757, rfl⟩
abbrev main_while0b_v576 : Ref sig .tc := ⟨.hbm, 758, rfl⟩
abbrev main_while0b_v577 : Ref sig .tc := ⟨.hbm, 759, rfl⟩
abbrev main_while0b_c_176 : Ref sig .tc := ⟨.hbm, 760, rfl⟩
abbrev main_while0b_v578 : Ref sig .tc := ⟨.hbm, 761, rfl⟩
abbrev main_while0b_v579 : Ref sig .tc := ⟨.hbm, 762, rfl⟩
abbrev main_while0b_v580 : Ref sig .tc := ⟨.hbm, 763, rfl⟩
abbrev main_while0b_v581 : Ref sig .tc := ⟨.hbm, 764, rfl⟩
abbrev main_while0b_v582 : Ref sig .tc := ⟨.hbm, 765, rfl⟩
abbrev main_while0b_c_177 : Ref sig .tc := ⟨.hbm, 766, rfl⟩
abbrev main_while0b_v583 : Ref sig .tc := ⟨.hbm, 767, rfl⟩
abbrev main_while0b_v584 : Ref sig .tc := ⟨.hbm, 768, rfl⟩
abbrev main_while0b_c_178 : Ref sig .tc := ⟨.hbm, 769, rfl⟩
abbrev main_while0b_v585 : Ref sig .tc := ⟨.hbm, 770, rfl⟩
abbrev main_while0b_v586 : Ref sig .tc := ⟨.hbm, 771, rfl⟩
abbrev main_while0b_v587 : Ref sig .tc := ⟨.hbm, 772, rfl⟩
abbrev main_while0b_v588 : Ref sig .tc := ⟨.hbm, 773, rfl⟩
abbrev main_while0b_v589 : Ref sig .tc := ⟨.hbm, 774, rfl⟩
abbrev main_while0b_c_179 : Ref sig .tc := ⟨.hbm, 775, rfl⟩
abbrev main_while0b_v590 : Ref sig .tc := ⟨.hbm, 776, rfl⟩
abbrev main_while0b_v591 : Ref sig .tc := ⟨.hbm, 777, rfl⟩
abbrev main_while0b_c_180 : Ref sig .tc := ⟨.hbm, 778, rfl⟩
abbrev main_while0b_v592 : Ref sig .tc := ⟨.hbm, 779, rfl⟩
abbrev main_while0b_v593 : Ref sig .tc := ⟨.hbm, 780, rfl⟩
abbrev main_while0b_v594 : Ref sig .tc := ⟨.hbm, 781, rfl⟩
abbrev main_while0b_v595 : Ref sig .tc := ⟨.hbm, 782, rfl⟩
abbrev main_while0b_v596 : Ref sig .tc := ⟨.hbm, 783, rfl⟩
abbrev main_while0b_v597 : Ref sig .tc := ⟨.hbm, 784, rfl⟩
abbrev main_while0b_v598 : Ref sig .tc := ⟨.hbm, 785, rfl⟩
abbrev main_while0b_v599 : Ref sig .tc := ⟨.hbm, 786, rfl⟩
abbrev main_while0b_c_181 : Ref sig .tc := ⟨.hbm, 787, rfl⟩
abbrev main_while0b_v600 : Ref sig .tc := ⟨.hbm, 788, rfl⟩
abbrev main_while0b_v601 : Ref sig .tc := ⟨.hbm, 789, rfl⟩
abbrev main_while0b_v602 : Ref sig .tc := ⟨.hbm, 790, rfl⟩
abbrev main_while0b_v603 : Ref sig .tc := ⟨.hbm, 791, rfl⟩
abbrev main_while0b_v604 : Ref sig .tc := ⟨.hbm, 792, rfl⟩
abbrev main_while0b_v605 : Ref sig .tc := ⟨.hbm, 793, rfl⟩
abbrev main_while0b_v606 : Ref sig .tc := ⟨.hbm, 794, rfl⟩
abbrev main_while0b_v607 : Ref sig .tc := ⟨.hbm, 795, rfl⟩
abbrev main_while0b_v608 : Ref sig .tc := ⟨.hbm, 796, rfl⟩
abbrev main_while0b_v609 : Ref sig .tc := ⟨.hbm, 797, rfl⟩
abbrev main_while0b_v610 : Ref sig .tc := ⟨.hbm, 798, rfl⟩
abbrev main_while0b_v611 : Ref sig .tc := ⟨.hbm, 799, rfl⟩
abbrev main_while0b_v612 : Ref sig .tc := ⟨.hbm, 800, rfl⟩
abbrev main_while0b_v613 : Ref sig .tc := ⟨.hbm, 801, rfl⟩
abbrev main_while0b_v614 : Ref sig .tc := ⟨.hbm, 802, rfl⟩
abbrev main_while0b_v615 : Ref sig .tc := ⟨.hbm, 803, rfl⟩
abbrev main_while0b_c_182 : Ref sig .tc := ⟨.hbm, 804, rfl⟩
abbrev main_while0b_v616 : Ref sig .tc := ⟨.hbm, 805, rfl⟩
abbrev main_while0b_v617 : Ref sig .tc := ⟨.hbm, 806, rfl⟩
abbrev main_while0b_c_183 : Ref sig .tc := ⟨.hbm, 807, rfl⟩
abbrev main_while0b_v618 : Ref sig .tc := ⟨.hbm, 808, rfl⟩
abbrev main_while0b_v619 : Ref sig .tc := ⟨.hbm, 809, rfl⟩
abbrev main_while0b_v620 : Ref sig .tc := ⟨.hbm, 810, rfl⟩
abbrev main_while0b_v621 : Ref sig .tc := ⟨.hbm, 811, rfl⟩
abbrev main_while0b_v622 : Ref sig .tc := ⟨.hbm, 812, rfl⟩
abbrev main_while0b_v623 : Ref sig .tc := ⟨.hbm, 813, rfl⟩
abbrev main_while0b_c_184 : Ref sig .tc := ⟨.hbm, 814, rfl⟩
abbrev main_while0b_v624 : Ref sig .tc := ⟨.hbm, 815, rfl⟩
abbrev main_while0b_v625 : Ref sig .tc := ⟨.hbm, 816, rfl⟩
abbrev main_while0b_c_185 : Ref sig .tc := ⟨.hbm, 817, rfl⟩
abbrev main_while0b_v626 : Ref sig .tc := ⟨.hbm, 818, rfl⟩
abbrev main_while0b_v627 : Ref sig .tc := ⟨.hbm, 819, rfl⟩
abbrev main_while0b_v628 : Ref sig .tc := ⟨.hbm, 820, rfl⟩
abbrev main_while0b_v629 : Ref sig .tc := ⟨.hbm, 821, rfl⟩
abbrev main_while0b_v630 : Ref sig .tc := ⟨.hbm, 822, rfl⟩
abbrev main_while0b_c_186 : Ref sig .tc := ⟨.hbm, 823, rfl⟩
abbrev main_while0b_v631 : Ref sig .tc := ⟨.hbm, 824, rfl⟩
abbrev main_while0b_v632 : Ref sig .tc := ⟨.hbm, 825, rfl⟩
abbrev main_while0b_c_187 : Ref sig .tc := ⟨.hbm, 826, rfl⟩
abbrev main_while0b_v633 : Ref sig .tc := ⟨.hbm, 827, rfl⟩
abbrev main_while0b_v634 : Ref sig .tc := ⟨.hbm, 828, rfl⟩
abbrev main_while0b_v635 : Ref sig .tc := ⟨.hbm, 829, rfl⟩
abbrev main_while0b_v636 : Ref sig .tc := ⟨.hbm, 830, rfl⟩
abbrev main_while0b_v637 : Ref sig .tc := ⟨.hbm, 831, rfl⟩
abbrev main_while0b_c_188 : Ref sig .tc := ⟨.hbm, 832, rfl⟩
abbrev main_while0b_v638 : Ref sig .tc := ⟨.hbm, 833, rfl⟩
abbrev main_while0b_v639 : Ref sig .tc := ⟨.hbm, 834, rfl⟩
abbrev main_while0b_c_189 : Ref sig .tc := ⟨.hbm, 835, rfl⟩
abbrev main_while0b_v640 : Ref sig .tc := ⟨.hbm, 836, rfl⟩
abbrev main_while0b_v641 : Ref sig .tc := ⟨.hbm, 837, rfl⟩
abbrev main_while0b_v642 : Ref sig .tc := ⟨.hbm, 838, rfl⟩
abbrev main_while0b_v643 : Ref sig .tc := ⟨.hbm, 839, rfl⟩
abbrev main_while0b_v644 : Ref sig .tc := ⟨.hbm, 840, rfl⟩
abbrev main_while0b_c_190 : Ref sig .tc := ⟨.hbm, 841, rfl⟩
abbrev main_while0b_v645 : Ref sig .tc := ⟨.hbm, 842, rfl⟩
abbrev main_while0b_v646 : Ref sig .tc := ⟨.hbm, 843, rfl⟩
abbrev main_while0b_c_191 : Ref sig .tc := ⟨.hbm, 844, rfl⟩
abbrev main_while0b_v647 : Ref sig .tc := ⟨.hbm, 845, rfl⟩
abbrev main_while0b_v648 : Ref sig .tc := ⟨.hbm, 846, rfl⟩
abbrev main_while0b_v649 : Ref sig .tc := ⟨.hbm, 847, rfl⟩
abbrev main_while0b_v650 : Ref sig .tc := ⟨.hbm, 848, rfl⟩
abbrev main_while0b_v651 : Ref sig .tc := ⟨.hbm, 849, rfl⟩
abbrev main_while0b_v652 : Ref sig .tc := ⟨.hbm, 850, rfl⟩
abbrev main_while0b_v653 : Ref sig .tc := ⟨.hbm, 851, rfl⟩
abbrev main_while0b_v654 : Ref sig .tc := ⟨.hbm, 852, rfl⟩
abbrev main_while0b_c_192 : Ref sig .tc := ⟨.hbm, 853, rfl⟩
abbrev main_while0b_v655 : Ref sig .tc := ⟨.hbm, 854, rfl⟩
abbrev main_while0b_v656 : Ref sig .tc := ⟨.hbm, 855, rfl⟩
abbrev main_while0b_v657 : Ref sig .tc := ⟨.hbm, 856, rfl⟩
abbrev main_while0b_c_193 : Ref sig .tc := ⟨.hbm, 857, rfl⟩
abbrev main_while0b_v658 : Ref sig .tc := ⟨.hbm, 858, rfl⟩
abbrev main_while0b_v659 : Ref sig .tc := ⟨.hbm, 859, rfl⟩
abbrev main_while0b_c_194 : Ref sig .tc := ⟨.hbm, 860, rfl⟩
abbrev main_while0b_v660 : Ref sig .tc := ⟨.hbm, 861, rfl⟩
abbrev main_while0b_v661 : Ref sig .tc := ⟨.hbm, 862, rfl⟩
abbrev main_while0b_v662 : Ref sig .tc := ⟨.hbm, 863, rfl⟩
abbrev main_while0b_v663 : Ref sig .tc := ⟨.hbm, 864, rfl⟩
abbrev main_while0b_v664 : Ref sig .tc := ⟨.hbm, 865, rfl⟩
abbrev main_while0b_c_195 : Ref sig .tc := ⟨.hbm, 866, rfl⟩
abbrev main_while0b_v665 : Ref sig .tc := ⟨.hbm, 867, rfl⟩
abbrev main_while0b_v666 : Ref sig .tc := ⟨.hbm, 868, rfl⟩
abbrev main_while0b_c_196 : Ref sig .tc := ⟨.hbm, 869, rfl⟩
abbrev main_while0b_v667 : Ref sig .tc := ⟨.hbm, 870, rfl⟩
abbrev main_while0b_v668 : Ref sig .tc := ⟨.hbm, 871, rfl⟩
abbrev main_while0b_v669 : Ref sig .tc := ⟨.hbm, 872, rfl⟩
abbrev main_while0b_v670 : Ref sig .tc := ⟨.hbm, 873, rfl⟩
abbrev main_while0b_v671 : Ref sig .tc := ⟨.hbm, 874, rfl⟩
abbrev main_while0b_c_197 : Ref sig .tc := ⟨.hbm, 875, rfl⟩
abbrev main_while0b_v672 : Ref sig .tc := ⟨.hbm, 876, rfl⟩
abbrev main_while0b_v673 : Ref sig .tc := ⟨.hbm, 877, rfl⟩
abbrev main_while0b_c_198 : Ref sig .tc := ⟨.hbm, 878, rfl⟩
abbrev main_while0b_v674 : Ref sig .tc := ⟨.hbm, 879, rfl⟩
abbrev main_while0b_v675 : Ref sig .tc := ⟨.hbm, 880, rfl⟩
abbrev main_while0b_v676 : Ref sig .tc := ⟨.hbm, 881, rfl⟩
abbrev main_while0b_v677 : Ref sig .tc := ⟨.hbm, 882, rfl⟩
abbrev main_while0b_v678 : Ref sig .tc := ⟨.hbm, 883, rfl⟩
abbrev main_while0b_c_199 : Ref sig .tc := ⟨.hbm, 884, rfl⟩
abbrev main_while0b_v679 : Ref sig .tc := ⟨.hbm, 885, rfl⟩
abbrev main_while0b_v680 : Ref sig .tc := ⟨.hbm, 886, rfl⟩
abbrev main_while0b_c_200 : Ref sig .tc := ⟨.hbm, 887, rfl⟩
abbrev main_while0b_v681 : Ref sig .tc := ⟨.hbm, 888, rfl⟩
abbrev main_while0b_v682 : Ref sig .tc := ⟨.hbm, 889, rfl⟩
abbrev main_while0b_v683 : Ref sig .tc := ⟨.hbm, 890, rfl⟩
abbrev main_while0b_v684 : Ref sig .tc := ⟨.hbm, 891, rfl⟩
abbrev main_while0b_v685 : Ref sig .tc := ⟨.hbm, 892, rfl⟩
abbrev main_while0b_v686 : Ref sig .tc := ⟨.hbm, 893, rfl⟩
abbrev main_while0b_v687 : Ref sig .tc := ⟨.hbm, 894, rfl⟩
abbrev main_while0b_v688 : Ref sig .tc := ⟨.hbm, 895, rfl⟩
abbrev main_while0b_c_201 : Ref sig .tc := ⟨.hbm, 896, rfl⟩
abbrev main_while0b_v689 : Ref sig .tc := ⟨.hbm, 897, rfl⟩
abbrev main_while0b_v690 : Ref sig .tc := ⟨.hbm, 898, rfl⟩
abbrev main_while0b_v691 : Ref sig .tc := ⟨.hbm, 899, rfl⟩
abbrev main_while0b_c_202 : Ref sig .tc := ⟨.hbm, 900, rfl⟩
abbrev main_while0b_v692 : Ref sig .tc := ⟨.hbm, 901, rfl⟩
abbrev main_while0b_v693 : Ref sig .tc := ⟨.hbm, 902, rfl⟩
abbrev main_while0b_c_203 : Ref sig .tc := ⟨.hbm, 903, rfl⟩
abbrev main_while0b_v694 : Ref sig .tc := ⟨.hbm, 904, rfl⟩
abbrev main_while0b_v695 : Ref sig .tc := ⟨.hbm, 905, rfl⟩
abbrev main_while0b_v696 : Ref sig .tc := ⟨.hbm, 906, rfl⟩
abbrev main_while0b_v697 : Ref sig .tc := ⟨.hbm, 907, rfl⟩
abbrev main_while0b_v698 : Ref sig .tc := ⟨.hbm, 908, rfl⟩
abbrev main_while0b_c_204 : Ref sig .tc := ⟨.hbm, 909, rfl⟩
abbrev main_while0b_v699 : Ref sig .tc := ⟨.hbm, 910, rfl⟩
abbrev main_while0b_v700 : Ref sig .tc := ⟨.hbm, 911, rfl⟩
abbrev main_while0b_c_205 : Ref sig .tc := ⟨.hbm, 912, rfl⟩
abbrev main_while0b_v701 : Ref sig .tc := ⟨.hbm, 913, rfl⟩
abbrev main_while0b_v702 : Ref sig .tc := ⟨.hbm, 914, rfl⟩
abbrev main_while0b_v703 : Ref sig .tc := ⟨.hbm, 915, rfl⟩
abbrev main_while0b_v704 : Ref sig .tc := ⟨.hbm, 916, rfl⟩
abbrev main_while0b_v705 : Ref sig .tc := ⟨.hbm, 917, rfl⟩
abbrev main_while0b_c_206 : Ref sig .tc := ⟨.hbm, 918, rfl⟩
abbrev main_while0b_v706 : Ref sig .tc := ⟨.hbm, 919, rfl⟩
abbrev main_while0b_v707 : Ref sig .tc := ⟨.hbm, 920, rfl⟩
abbrev main_while0b_c_207 : Ref sig .tc := ⟨.hbm, 921, rfl⟩
abbrev main_while0b_v708 : Ref sig .tc := ⟨.hbm, 922, rfl⟩
abbrev main_while0b_v709 : Ref sig .tc := ⟨.hbm, 923, rfl⟩
abbrev main_while0b_v710 : Ref sig .tc := ⟨.hbm, 924, rfl⟩
abbrev main_while0b_v711 : Ref sig .tc := ⟨.hbm, 925, rfl⟩
abbrev main_while0b_v712 : Ref sig .tc := ⟨.hbm, 926, rfl⟩
abbrev main_while0b_c_208 : Ref sig .tc := ⟨.hbm, 927, rfl⟩
abbrev main_while0b_v713 : Ref sig .tc := ⟨.hbm, 928, rfl⟩
abbrev main_while0b_v714 : Ref sig .tc := ⟨.hbm, 929, rfl⟩
abbrev main_while0b_c_209 : Ref sig .tc := ⟨.hbm, 930, rfl⟩
abbrev main_while0b_v715 : Ref sig .tc := ⟨.hbm, 931, rfl⟩
abbrev main_while0b_v716 : Ref sig .tc := ⟨.hbm, 932, rfl⟩
abbrev main_while0b_v717 : Ref sig .tc := ⟨.hbm, 933, rfl⟩
abbrev main_while0b_v718 : Ref sig .tc := ⟨.hbm, 934, rfl⟩
abbrev main_while0b_v719 : Ref sig .tc := ⟨.hbm, 935, rfl⟩
abbrev main_while0b_v720 : Ref sig .tc := ⟨.hbm, 936, rfl⟩
abbrev main_while0b_v721 : Ref sig .tc := ⟨.hbm, 937, rfl⟩
abbrev main_while0b_v722 : Ref sig .tc := ⟨.hbm, 938, rfl⟩
abbrev main_while0b_c_210 : Ref sig .tc := ⟨.hbm, 939, rfl⟩
abbrev main_while0b_v723 : Ref sig .tc := ⟨.hbm, 940, rfl⟩
abbrev main_while0b_v724 : Ref sig .tc := ⟨.hbm, 941, rfl⟩
abbrev main_while0b_v725 : Ref sig .tc := ⟨.hbm, 942, rfl⟩
abbrev main_while0b_c_211 : Ref sig .tc := ⟨.hbm, 943, rfl⟩
abbrev main_while0b_v726 : Ref sig .tc := ⟨.hbm, 944, rfl⟩
abbrev main_while0b_v727 : Ref sig .tc := ⟨.hbm, 945, rfl⟩
abbrev main_while0b_c_212 : Ref sig .tc := ⟨.hbm, 946, rfl⟩
abbrev main_while0b_v728 : Ref sig .tc := ⟨.hbm, 947, rfl⟩
abbrev main_while0b_v729 : Ref sig .tc := ⟨.hbm, 948, rfl⟩
abbrev main_while0b_v730 : Ref sig .tc := ⟨.hbm, 949, rfl⟩
abbrev main_while0b_v731 : Ref sig .tc := ⟨.hbm, 950, rfl⟩
abbrev main_while0b_v732 : Ref sig .tc := ⟨.hbm, 951, rfl⟩
abbrev main_while0b_c_213 : Ref sig .tc := ⟨.hbm, 952, rfl⟩
abbrev main_while0b_v733 : Ref sig .tc := ⟨.hbm, 953, rfl⟩
abbrev main_while0b_v734 : Ref sig .tc := ⟨.hbm, 954, rfl⟩
abbrev main_while0b_c_214 : Ref sig .tc := ⟨.hbm, 955, rfl⟩
abbrev main_while0b_v735 : Ref sig .tc := ⟨.hbm, 956, rfl⟩
abbrev main_while0b_v736 : Ref sig .tc := ⟨.hbm, 957, rfl⟩
abbrev main_while0b_v737 : Ref sig .tc := ⟨.hbm, 958, rfl⟩
abbrev main_while0b_v738 : Ref sig .tc := ⟨.hbm, 959, rfl⟩
abbrev main_while0b_v739 : Ref sig .tc := ⟨.hbm, 960, rfl⟩
abbrev main_while0b_c_215 : Ref sig .tc := ⟨.hbm, 961, rfl⟩
abbrev main_while0b_v740 : Ref sig .tc := ⟨.hbm, 962, rfl⟩
abbrev main_while0b_v741 : Ref sig .tc := ⟨.hbm, 963, rfl⟩
abbrev main_while0b_c_216 : Ref sig .tc := ⟨.hbm, 964, rfl⟩
abbrev main_while0b_v742 : Ref sig .tc := ⟨.hbm, 965, rfl⟩
abbrev main_while0b_v743 : Ref sig .tc := ⟨.hbm, 966, rfl⟩
abbrev main_while0b_v744 : Ref sig .tc := ⟨.hbm, 967, rfl⟩
abbrev main_while0b_v745 : Ref sig .tc := ⟨.hbm, 968, rfl⟩
abbrev main_while0b_v746 : Ref sig .tc := ⟨.hbm, 969, rfl⟩
abbrev main_while0b_c_217 : Ref sig .tc := ⟨.hbm, 970, rfl⟩
abbrev main_while0b_v747 : Ref sig .tc := ⟨.hbm, 971, rfl⟩
abbrev main_while0b_v748 : Ref sig .tc := ⟨.hbm, 972, rfl⟩
abbrev main_while0b_c_218 : Ref sig .tc := ⟨.hbm, 973, rfl⟩
abbrev main_while0b_v749 : Ref sig .tc := ⟨.hbm, 974, rfl⟩
abbrev main_while0b_v750 : Ref sig .tc := ⟨.hbm, 975, rfl⟩
abbrev main_while0b_v751 : Ref sig .tc := ⟨.hbm, 976, rfl⟩
abbrev main_while0b_v752 : Ref sig .tc := ⟨.hbm, 977, rfl⟩
abbrev main_while0b_v753 : Ref sig .tc := ⟨.hbm, 978, rfl⟩
abbrev main_while0b_v754 : Ref sig .tc := ⟨.hbm, 979, rfl⟩
abbrev main_while0b_v755 : Ref sig .tc := ⟨.hbm, 980, rfl⟩
abbrev main_while0b_v756 : Ref sig .tc := ⟨.hbm, 981, rfl⟩
abbrev main_while0b_c_219 : Ref sig .tc := ⟨.hbm, 982, rfl⟩
abbrev main_while0b_v757 : Ref sig .tc := ⟨.hbm, 983, rfl⟩
abbrev main_while0b_v758 : Ref sig .tc := ⟨.hbm, 984, rfl⟩
abbrev main_while0b_v759 : Ref sig .tc := ⟨.hbm, 985, rfl⟩
abbrev main_while0b_c_220 : Ref sig .tc := ⟨.hbm, 986, rfl⟩
abbrev main_while0b_v760 : Ref sig .tc := ⟨.hbm, 987, rfl⟩
abbrev main_while0b_v761 : Ref sig .tc := ⟨.hbm, 988, rfl⟩
abbrev main_while0b_c_221 : Ref sig .tc := ⟨.hbm, 989, rfl⟩
abbrev main_while0b_v762 : Ref sig .tc := ⟨.hbm, 990, rfl⟩
abbrev main_while0b_v763 : Ref sig .tc := ⟨.hbm, 991, rfl⟩
abbrev main_while0b_v764 : Ref sig .tc := ⟨.hbm, 992, rfl⟩
abbrev main_while0b_v765 : Ref sig .tc := ⟨.hbm, 993, rfl⟩
abbrev main_while0b_v766 : Ref sig .tc := ⟨.hbm, 994, rfl⟩
abbrev main_while0b_c_222 : Ref sig .tc := ⟨.hbm, 995, rfl⟩
abbrev main_while0b_v767 : Ref sig .tc := ⟨.hbm, 996, rfl⟩
abbrev main_while0b_v768 : Ref sig .tc := ⟨.hbm, 997, rfl⟩
abbrev main_while0b_c_223 : Ref sig .tc := ⟨.hbm, 998, rfl⟩
abbrev main_while0b_v769 : Ref sig .tc := ⟨.hbm, 999, rfl⟩
abbrev main_while0b_v770 : Ref sig .tc := ⟨.hbm, 1000, rfl⟩
abbrev main_while0b_v771 : Ref sig .tc := ⟨.hbm, 1001, rfl⟩
abbrev main_while0b_v772 : Ref sig .tc := ⟨.hbm, 1002, rfl⟩
abbrev main_while0b_v773 : Ref sig .tc := ⟨.hbm, 1003, rfl⟩
abbrev main_while0b_c_224 : Ref sig .tc := ⟨.hbm, 1004, rfl⟩
abbrev main_while0b_v774 : Ref sig .tc := ⟨.hbm, 1005, rfl⟩
abbrev main_while0b_v775 : Ref sig .tc := ⟨.hbm, 1006, rfl⟩
abbrev main_while0b_c_225 : Ref sig .tc := ⟨.hbm, 1007, rfl⟩
abbrev main_while0b_v776 : Ref sig .tc := ⟨.hbm, 1008, rfl⟩
abbrev main_while0b_v777 : Ref sig .tc := ⟨.hbm, 1009, rfl⟩
abbrev main_while0b_v778 : Ref sig .tc := ⟨.hbm, 1010, rfl⟩
abbrev main_while0b_v779 : Ref sig .tc := ⟨.hbm, 1011, rfl⟩
abbrev main_while0b_v780 : Ref sig .tc := ⟨.hbm, 1012, rfl⟩
abbrev main_while0b_c_226 : Ref sig .tc := ⟨.hbm, 1013, rfl⟩
abbrev main_while0b_v781 : Ref sig .tc := ⟨.hbm, 1014, rfl⟩
abbrev main_while0b_v782 : Ref sig .tc := ⟨.hbm, 1015, rfl⟩
abbrev main_while0b_c_227 : Ref sig .tc := ⟨.hbm, 1016, rfl⟩
abbrev main_while0b_v783 : Ref sig .tc := ⟨.hbm, 1017, rfl⟩
abbrev main_while0b_v784 : Ref sig .tc := ⟨.hbm, 1018, rfl⟩
abbrev main_while0b_v785 : Ref sig .tc := ⟨.hbm, 1019, rfl⟩
abbrev main_while0b_v786 : Ref sig .tc := ⟨.hbm, 1020, rfl⟩
abbrev main_while0b_v787 : Ref sig .tc := ⟨.hbm, 1021, rfl⟩
abbrev main_while0b_v788 : Ref sig .tc := ⟨.hbm, 1022, rfl⟩
abbrev main_while0b_v789 : Ref sig .tc := ⟨.hbm, 1023, rfl⟩
abbrev main_while0b_v790 : Ref sig .tc := ⟨.hbm, 1024, rfl⟩
abbrev main_while0b_c_228 : Ref sig .tc := ⟨.hbm, 1025, rfl⟩
abbrev main_while0b_v791 : Ref sig .tc := ⟨.hbm, 1026, rfl⟩
abbrev main_while0b_v792 : Ref sig .tc := ⟨.hbm, 1027, rfl⟩
abbrev main_while0b_v793 : Ref sig .tc := ⟨.hbm, 1028, rfl⟩
abbrev main_while0b_c_229 : Ref sig .tc := ⟨.hbm, 1029, rfl⟩
abbrev main_while0b_v794 : Ref sig .tc := ⟨.hbm, 1030, rfl⟩
abbrev main_while0b_v795 : Ref sig .tc := ⟨.hbm, 1031, rfl⟩
abbrev main_while0b_c_230 : Ref sig .tc := ⟨.hbm, 1032, rfl⟩
abbrev main_while0b_v796 : Ref sig .tc := ⟨.hbm, 1033, rfl⟩
abbrev main_while0b_v797 : Ref sig .tc := ⟨.hbm, 1034, rfl⟩
abbrev main_while0b_v798 : Ref sig .tc := ⟨.hbm, 1035, rfl⟩
abbrev main_while0b_cst_231 : Ref sig .tc := ⟨.hbm, 1036, rfl⟩
abbrev main_while0b_v799 : Ref sig .tc := ⟨.hbm, 1037, rfl⟩
abbrev main_while0b_v800 : Ref sig .tc := ⟨.hbm, 1038, rfl⟩
abbrev main_while0b_cst_232 : Ref sig .tc := ⟨.hbm, 1039, rfl⟩
abbrev main_while0b_v801 : Ref sig .tc := ⟨.hbm, 1040, rfl⟩
abbrev main_while0b_v802 : Ref sig .tc := ⟨.hbm, 1041, rfl⟩
abbrev main_while0b_v803 : Ref sig .tc := ⟨.hbm, 1042, rfl⟩
abbrev main_while0b_v804 : Ref sig .tc := ⟨.hbm, 1043, rfl⟩
abbrev main_while0b_c_233 : Ref sig .tc := ⟨.hbm, 1044, rfl⟩
abbrev main_while0b_v805 : Ref sig .tc := ⟨.hbm, 1045, rfl⟩
abbrev main_while0b_v806 : Ref sig .tc := ⟨.hbm, 1046, rfl⟩
abbrev main_while0b_c_234 : Ref sig .tc := ⟨.hbm, 1047, rfl⟩
abbrev main_while0b_v807 : Ref sig .tc := ⟨.hbm, 1048, rfl⟩
abbrev main_while0b_v808 : Ref sig .tc := ⟨.hbm, 1049, rfl⟩
abbrev main_while0b_v809 : Ref sig .tc := ⟨.hbm, 1050, rfl⟩
abbrev main_while0b_v810 : Ref sig .tc := ⟨.hbm, 1051, rfl⟩
abbrev main_while0b_v811 : Ref sig .tc := ⟨.hbm, 1052, rfl⟩
abbrev main_while0b_v812 : Ref sig .tc := ⟨.hbm, 1053, rfl⟩
abbrev main_while0b_c_235 : Ref sig .tc := ⟨.hbm, 1054, rfl⟩
abbrev main_while0b_v813 : Ref sig .tc := ⟨.hbm, 1055, rfl⟩
abbrev main_while0b_v814 : Ref sig .tc := ⟨.hbm, 1056, rfl⟩
abbrev main_while0b_c_236 : Ref sig .tc := ⟨.hbm, 1057, rfl⟩
abbrev main_while0b_v815 : Ref sig .tc := ⟨.hbm, 1058, rfl⟩
abbrev main_while0b_v816 : Ref sig .tc := ⟨.hbm, 1059, rfl⟩
abbrev main_while0b_v817 : Ref sig .tc := ⟨.hbm, 1060, rfl⟩
abbrev main_while0b_v818 : Ref sig .tc := ⟨.hbm, 1061, rfl⟩
abbrev main_while0b_v819 : Ref sig .tc := ⟨.hbm, 1062, rfl⟩
abbrev main_while0b_c_237 : Ref sig .tc := ⟨.hbm, 1063, rfl⟩
abbrev main_while0b_v820 : Ref sig .tc := ⟨.hbm, 1064, rfl⟩
abbrev main_while0b_v821 : Ref sig .tc := ⟨.hbm, 1065, rfl⟩
abbrev main_while0b_c_238 : Ref sig .tc := ⟨.hbm, 1066, rfl⟩
abbrev main_while0b_v822 : Ref sig .tc := ⟨.hbm, 1067, rfl⟩
abbrev main_while0b_v823 : Ref sig .tc := ⟨.hbm, 1068, rfl⟩
abbrev main_while0b_v824 : Ref sig .tc := ⟨.hbm, 1069, rfl⟩
abbrev main_while0b_v825 : Ref sig .tc := ⟨.hbm, 1070, rfl⟩
abbrev main_while0b_v826 : Ref sig .tc := ⟨.hbm, 1071, rfl⟩
abbrev main_while0b_c_239 : Ref sig .tc := ⟨.hbm, 1072, rfl⟩
abbrev main_while0b_v827 : Ref sig .tc := ⟨.hbm, 1073, rfl⟩
abbrev main_while0b_v828 : Ref sig .tc := ⟨.hbm, 1074, rfl⟩
abbrev main_while0b_c_240 : Ref sig .tc := ⟨.hbm, 1075, rfl⟩
abbrev main_while0b_v829 : Ref sig .tc := ⟨.hbm, 1076, rfl⟩
abbrev main_while0b_v830 : Ref sig .tc := ⟨.hbm, 1077, rfl⟩
abbrev main_while0b_v831 : Ref sig .tc := ⟨.hbm, 1078, rfl⟩
abbrev main_while0b_v832 : Ref sig .tc := ⟨.hbm, 1079, rfl⟩
abbrev main_while0b_v833 : Ref sig .tc := ⟨.hbm, 1080, rfl⟩
abbrev main_while0b_c_241 : Ref sig .tc := ⟨.hbm, 1081, rfl⟩
abbrev main_while0b_v834 : Ref sig .tc := ⟨.hbm, 1082, rfl⟩
abbrev main_while0b_v835 : Ref sig .tc := ⟨.hbm, 1083, rfl⟩
abbrev main_while0b_c_242 : Ref sig .tc := ⟨.hbm, 1084, rfl⟩
abbrev main_while0b_v836 : Ref sig .tc := ⟨.hbm, 1085, rfl⟩
abbrev main_while0b_v837 : Ref sig .tc := ⟨.hbm, 1086, rfl⟩
abbrev main_while0b_v838 : Ref sig .tc := ⟨.hbm, 1087, rfl⟩
abbrev main_while0b_v839 : Ref sig .tc := ⟨.hbm, 1088, rfl⟩
abbrev main_while0b_v840 : Ref sig .tc := ⟨.hbm, 1089, rfl⟩
abbrev main_while0b_v841 : Ref sig .tc := ⟨.hbm, 1090, rfl⟩
abbrev main_while0b_v842 : Ref sig .tc := ⟨.hbm, 1091, rfl⟩
abbrev main_while0b_v843 : Ref sig .tc := ⟨.hbm, 1092, rfl⟩
abbrev main_while0b_c_243 : Ref sig .tc := ⟨.hbm, 1093, rfl⟩
abbrev main_while0b_v844 : Ref sig .tc := ⟨.hbm, 1094, rfl⟩
abbrev main_while0b_v845 : Ref sig .tc := ⟨.hbm, 1095, rfl⟩
abbrev main_while0b_v846 : Ref sig .tc := ⟨.hbm, 1096, rfl⟩
abbrev main_while0b_c_244 : Ref sig .tc := ⟨.hbm, 1097, rfl⟩
abbrev main_while0b_v847 : Ref sig .tc := ⟨.hbm, 1098, rfl⟩
abbrev main_while0b_v848 : Ref sig .tc := ⟨.hbm, 1099, rfl⟩
abbrev main_while0b_c_245 : Ref sig .tc := ⟨.hbm, 1100, rfl⟩
abbrev main_while0b_v849 : Ref sig .tc := ⟨.hbm, 1101, rfl⟩
abbrev main_while0b_v850 : Ref sig .tc := ⟨.hbm, 1102, rfl⟩
abbrev main_while0b_v851 : Ref sig .tc := ⟨.hbm, 1103, rfl⟩
abbrev main_while0b_v852 : Ref sig .tc := ⟨.hbm, 1104, rfl⟩
abbrev main_while0b_v853 : Ref sig .tc := ⟨.hbm, 1105, rfl⟩
abbrev main_while0b_c_246 : Ref sig .tc := ⟨.hbm, 1106, rfl⟩
abbrev main_while0b_v854 : Ref sig .tc := ⟨.hbm, 1107, rfl⟩
abbrev main_while0b_v855 : Ref sig .tc := ⟨.hbm, 1108, rfl⟩
abbrev main_while0b_c_247 : Ref sig .tc := ⟨.hbm, 1109, rfl⟩
abbrev main_while0b_v856 : Ref sig .tc := ⟨.hbm, 1110, rfl⟩
abbrev main_while0b_v857 : Ref sig .tc := ⟨.hbm, 1111, rfl⟩
abbrev main_while0b_v858 : Ref sig .tc := ⟨.hbm, 1112, rfl⟩
abbrev main_while0b_v859 : Ref sig .tc := ⟨.hbm, 1113, rfl⟩
abbrev main_while0b_v860 : Ref sig .tc := ⟨.hbm, 1114, rfl⟩
abbrev main_while0b_c_248 : Ref sig .tc := ⟨.hbm, 1115, rfl⟩
abbrev main_while0b_v861 : Ref sig .tc := ⟨.hbm, 1116, rfl⟩
abbrev main_while0b_v862 : Ref sig .tc := ⟨.hbm, 1117, rfl⟩
abbrev main_while0b_c_249 : Ref sig .tc := ⟨.hbm, 1118, rfl⟩
abbrev main_while0b_v863 : Ref sig .tc := ⟨.hbm, 1119, rfl⟩
abbrev main_while0b_v864 : Ref sig .tc := ⟨.hbm, 1120, rfl⟩
abbrev main_while0b_v865 : Ref sig .tc := ⟨.hbm, 1121, rfl⟩
abbrev main_while0b_v866 : Ref sig .tc := ⟨.hbm, 1122, rfl⟩
abbrev main_while0b_v867 : Ref sig .tc := ⟨.hbm, 1123, rfl⟩
abbrev main_while0b_c_250 : Ref sig .tc := ⟨.hbm, 1124, rfl⟩
abbrev main_while0b_v868 : Ref sig .tc := ⟨.hbm, 1125, rfl⟩
abbrev main_while0b_v869 : Ref sig .tc := ⟨.hbm, 1126, rfl⟩
abbrev main_while0b_c_251 : Ref sig .tc := ⟨.hbm, 1127, rfl⟩
abbrev main_while0b_v870 : Ref sig .tc := ⟨.hbm, 1128, rfl⟩
abbrev main_while0b_v871 : Ref sig .tc := ⟨.hbm, 1129, rfl⟩
abbrev main_while0b_v872 : Ref sig .tc := ⟨.hbm, 1130, rfl⟩
abbrev main_while0b_v873 : Ref sig .tc := ⟨.hbm, 1131, rfl⟩
abbrev main_while0b_v874 : Ref sig .tc := ⟨.hbm, 1132, rfl⟩
abbrev main_while0b_v875 : Ref sig .tc := ⟨.hbm, 1133, rfl⟩
abbrev main_while0b_v876 : Ref sig .tc := ⟨.hbm, 1134, rfl⟩
abbrev main_while0b_v877 : Ref sig .tc := ⟨.hbm, 1135, rfl⟩
abbrev main_while0b_c_252 : Ref sig .tc := ⟨.hbm, 1136, rfl⟩
abbrev main_while0b_v878 : Ref sig .tc := ⟨.hbm, 1137, rfl⟩
abbrev main_while0b_v879 : Ref sig .tc := ⟨.hbm, 1138, rfl⟩
abbrev main_while0b_v880 : Ref sig .tc := ⟨.hbm, 1139, rfl⟩
abbrev main_while0b_c_253 : Ref sig .tc := ⟨.hbm, 1140, rfl⟩
abbrev main_while0b_v881 : Ref sig .tc := ⟨.hbm, 1141, rfl⟩
abbrev main_while0b_v882 : Ref sig .tc := ⟨.hbm, 1142, rfl⟩
abbrev main_while0b_c_254 : Ref sig .tc := ⟨.hbm, 1143, rfl⟩
abbrev main_while0b_v883 : Ref sig .tc := ⟨.hbm, 1144, rfl⟩
abbrev main_while0b_v884 : Ref sig .tc := ⟨.hbm, 1145, rfl⟩
abbrev main_while0b_v885 : Ref sig .tc := ⟨.hbm, 1146, rfl⟩
abbrev main_while0b_v886 : Ref sig .tc := ⟨.hbm, 1147, rfl⟩
abbrev main_while0b_v887 : Ref sig .tc := ⟨.hbm, 1148, rfl⟩
abbrev main_while0b_c_255 : Ref sig .tc := ⟨.hbm, 1149, rfl⟩
abbrev main_while0b_v888 : Ref sig .tc := ⟨.hbm, 1150, rfl⟩
abbrev main_while0b_v889 : Ref sig .tc := ⟨.hbm, 1151, rfl⟩
abbrev main_while0b_c_256 : Ref sig .tc := ⟨.hbm, 1152, rfl⟩
abbrev main_while0b_v890 : Ref sig .tc := ⟨.hbm, 1153, rfl⟩
abbrev main_while0b_v891 : Ref sig .tc := ⟨.hbm, 1154, rfl⟩
abbrev main_while0b_v892 : Ref sig .tc := ⟨.hbm, 1155, rfl⟩
abbrev main_while0b_v893 : Ref sig .tc := ⟨.hbm, 1156, rfl⟩
abbrev main_while0b_v894 : Ref sig .tc := ⟨.hbm, 1157, rfl⟩
abbrev main_while0b_c_257 : Ref sig .tc := ⟨.hbm, 1158, rfl⟩
abbrev main_while0b_v895 : Ref sig .tc := ⟨.hbm, 1159, rfl⟩
abbrev main_while0b_v896 : Ref sig .tc := ⟨.hbm, 1160, rfl⟩
abbrev main_while0b_c_258 : Ref sig .tc := ⟨.hbm, 1161, rfl⟩
abbrev main_while0b_v897 : Ref sig .tc := ⟨.hbm, 1162, rfl⟩
abbrev main_while0b_v898 : Ref sig .tc := ⟨.hbm, 1163, rfl⟩
abbrev main_while0b_v899 : Ref sig .tc := ⟨.hbm, 1164, rfl⟩
abbrev main_while0b_v900 : Ref sig .tc := ⟨.hbm, 1165, rfl⟩
abbrev main_while0b_v901 : Ref sig .tc := ⟨.hbm, 1166, rfl⟩
abbrev main_while0b_c_259 : Ref sig .tc := ⟨.hbm, 1167, rfl⟩
abbrev main_while0b_v902 : Ref sig .tc := ⟨.hbm, 1168, rfl⟩
abbrev main_while0b_v903 : Ref sig .tc := ⟨.hbm, 1169, rfl⟩
abbrev main_while0b_c_260 : Ref sig .tc := ⟨.hbm, 1170, rfl⟩
abbrev main_while0b_v904 : Ref sig .tc := ⟨.hbm, 1171, rfl⟩
abbrev main_while0b_v905 : Ref sig .tc := ⟨.hbm, 1172, rfl⟩
abbrev main_while0b_v906 : Ref sig .tc := ⟨.hbm, 1173, rfl⟩
abbrev main_while0b_v907 : Ref sig .tc := ⟨.hbm, 1174, rfl⟩
abbrev main_while0b_v908 : Ref sig .tc := ⟨.hbm, 1175, rfl⟩
abbrev main_while0b_v909 : Ref sig .tc := ⟨.hbm, 1176, rfl⟩
abbrev main_while0b_v910 : Ref sig .tc := ⟨.hbm, 1177, rfl⟩
abbrev main_while0b_v911 : Ref sig .tc := ⟨.hbm, 1178, rfl⟩
abbrev main_while0b_c_261 : Ref sig .tc := ⟨.hbm, 1179, rfl⟩
abbrev main_while0b_v912 : Ref sig .tc := ⟨.hbm, 1180, rfl⟩
abbrev main_while0b_v913 : Ref sig .tc := ⟨.hbm, 1181, rfl⟩
abbrev main_while0b_v914 : Ref sig .tc := ⟨.hbm, 1182, rfl⟩
abbrev main_while0b_c_262 : Ref sig .tc := ⟨.hbm, 1183, rfl⟩
abbrev main_while0b_v915 : Ref sig .tc := ⟨.hbm, 1184, rfl⟩
abbrev main_while0b_v916 : Ref sig .tc := ⟨.hbm, 1185, rfl⟩
abbrev main_while0b_c_263 : Ref sig .tc := ⟨.hbm, 1186, rfl⟩
abbrev main_while0b_v917 : Ref sig .tc := ⟨.hbm, 1187, rfl⟩
abbrev main_while0b_v918 : Ref sig .tc := ⟨.hbm, 1188, rfl⟩
abbrev main_while0b_v919 : Ref sig .tc := ⟨.hbm, 1189, rfl⟩
abbrev main_while0b_v920 : Ref sig .tc := ⟨.hbm, 1190, rfl⟩
abbrev main_while0b_v921 : Ref sig .tc := ⟨.hbm, 1191, rfl⟩
abbrev main_while0b_c_264 : Ref sig .tc := ⟨.hbm, 1192, rfl⟩
abbrev main_while0b_v922 : Ref sig .tc := ⟨.hbm, 1193, rfl⟩
abbrev main_while0b_v923 : Ref sig .tc := ⟨.hbm, 1194, rfl⟩
abbrev main_while0b_c_265 : Ref sig .tc := ⟨.hbm, 1195, rfl⟩
abbrev main_while0b_v924 : Ref sig .tc := ⟨.hbm, 1196, rfl⟩
abbrev main_while0b_v925 : Ref sig .tc := ⟨.hbm, 1197, rfl⟩
abbrev main_while0b_v926 : Ref sig .tc := ⟨.hbm, 1198, rfl⟩
abbrev main_while0b_v927 : Ref sig .tc := ⟨.hbm, 1199, rfl⟩
abbrev main_while0b_v928 : Ref sig .tc := ⟨.hbm, 1200, rfl⟩
abbrev main_while0b_c_266 : Ref sig .tc := ⟨.hbm, 1201, rfl⟩
abbrev main_while0b_v929 : Ref sig .tc := ⟨.hbm, 1202, rfl⟩
abbrev main_while0b_v930 : Ref sig .tc := ⟨.hbm, 1203, rfl⟩
abbrev main_while0b_c_267 : Ref sig .tc := ⟨.hbm, 1204, rfl⟩
abbrev main_while0b_v931 : Ref sig .tc := ⟨.hbm, 1205, rfl⟩
abbrev main_while0b_v932 : Ref sig .tc := ⟨.hbm, 1206, rfl⟩
abbrev main_while0b_v933 : Ref sig .tc := ⟨.hbm, 1207, rfl⟩
abbrev main_while0b_v934 : Ref sig .tc := ⟨.hbm, 1208, rfl⟩
abbrev main_while0b_v935 : Ref sig .tc := ⟨.hbm, 1209, rfl⟩
abbrev main_while0b_c_268 : Ref sig .tc := ⟨.hbm, 1210, rfl⟩
abbrev main_while0b_v936 : Ref sig .tc := ⟨.hbm, 1211, rfl⟩
abbrev main_while0b_v937 : Ref sig .tc := ⟨.hbm, 1212, rfl⟩
abbrev main_while0b_c_269 : Ref sig .tc := ⟨.hbm, 1213, rfl⟩
abbrev main_while0b_v938 : Ref sig .tc := ⟨.hbm, 1214, rfl⟩
abbrev main_while0b_v939 : Ref sig .tc := ⟨.hbm, 1215, rfl⟩
abbrev main_while0b_v940 : Ref sig .tc := ⟨.hbm, 1216, rfl⟩
abbrev main_while0b_v941 : Ref sig .tc := ⟨.hbm, 1217, rfl⟩
abbrev main_while0b_v942 : Ref sig .tc := ⟨.hbm, 1218, rfl⟩
abbrev main_while0b_v943 : Ref sig .tc := ⟨.hbm, 1219, rfl⟩
abbrev main_while0b_v944 : Ref sig .tc := ⟨.hbm, 1220, rfl⟩
abbrev main_while0b_v945 : Ref sig .tc := ⟨.hbm, 1221, rfl⟩
abbrev main_while0b_c_270 : Ref sig .tc := ⟨.hbm, 1222, rfl⟩
abbrev main_while0b_v946 : Ref sig .tc := ⟨.hbm, 1223, rfl⟩
abbrev main_while0b_v947 : Ref sig .tc := ⟨.hbm, 1224, rfl⟩
abbrev main_while0b_v948 : Ref sig .tc := ⟨.hbm, 1225, rfl⟩
abbrev main_while0b_c_271 : Ref sig .tc := ⟨.hbm, 1226, rfl⟩
abbrev main_while0b_v949 : Ref sig .tc := ⟨.hbm, 1227, rfl⟩
abbrev main_while0b_v950 : Ref sig .tc := ⟨.hbm, 1228, rfl⟩
abbrev main_while0b_c_272 : Ref sig .tc := ⟨.hbm, 1229, rfl⟩
abbrev main_while0b_v951 : Ref sig .tc := ⟨.hbm, 1230, rfl⟩
abbrev main_while0b_v952 : Ref sig .tc := ⟨.hbm, 1231, rfl⟩
abbrev main_while0b_v953 : Ref sig .tc := ⟨.hbm, 1232, rfl⟩
abbrev main_while0b_v954 : Ref sig .tc := ⟨.hbm, 1233, rfl⟩
abbrev main_while0b_v955 : Ref sig .tc := ⟨.hbm, 1234, rfl⟩
abbrev main_while0b_c_273 : Ref sig .tc := ⟨.hbm, 1235, rfl⟩
abbrev main_while0b_v956 : Ref sig .tc := ⟨.hbm, 1236, rfl⟩
abbrev main_while0b_v957 : Ref sig .tc := ⟨.hbm, 1237, rfl⟩
abbrev main_while0b_c_274 : Ref sig .tc := ⟨.hbm, 1238, rfl⟩
abbrev main_while0b_v958 : Ref sig .tc := ⟨.hbm, 1239, rfl⟩
abbrev main_while0b_v959 : Ref sig .tc := ⟨.hbm, 1240, rfl⟩
abbrev main_while0b_v960 : Ref sig .tc := ⟨.hbm, 1241, rfl⟩
abbrev main_while0b_v961 : Ref sig .tc := ⟨.hbm, 1242, rfl⟩
abbrev main_while0b_v962 : Ref sig .tc := ⟨.hbm, 1243, rfl⟩
abbrev main_while0b_c_275 : Ref sig .tc := ⟨.hbm, 1244, rfl⟩
abbrev main_while0b_v963 : Ref sig .tc := ⟨.hbm, 1245, rfl⟩
abbrev main_while0b_v964 : Ref sig .tc := ⟨.hbm, 1246, rfl⟩
abbrev main_while0b_c_276 : Ref sig .tc := ⟨.hbm, 1247, rfl⟩
abbrev main_while0b_v965 : Ref sig .tc := ⟨.hbm, 1248, rfl⟩
abbrev main_while0b_v966 : Ref sig .tc := ⟨.hbm, 1249, rfl⟩
abbrev main_while0b_v967 : Ref sig .tc := ⟨.hbm, 1250, rfl⟩
abbrev main_while0b_v968 : Ref sig .tc := ⟨.hbm, 1251, rfl⟩
abbrev main_while0b_v969 : Ref sig .tc := ⟨.hbm, 1252, rfl⟩
abbrev main_while0b_c_277 : Ref sig .tc := ⟨.hbm, 1253, rfl⟩
abbrev main_while0b_v970 : Ref sig .tc := ⟨.hbm, 1254, rfl⟩
abbrev main_while0b_v971 : Ref sig .tc := ⟨.hbm, 1255, rfl⟩
abbrev main_while0b_c_278 : Ref sig .tc := ⟨.hbm, 1256, rfl⟩
abbrev main_while0b_v972 : Ref sig .tc := ⟨.hbm, 1257, rfl⟩
abbrev main_while0b_v973 : Ref sig .tc := ⟨.hbm, 1258, rfl⟩
abbrev main_while0b_v974 : Ref sig .tc := ⟨.hbm, 1259, rfl⟩
abbrev main_while0b_v975 : Ref sig .tc := ⟨.hbm, 1260, rfl⟩
abbrev main_while0b_v976 : Ref sig .tc := ⟨.hbm, 1261, rfl⟩
abbrev main_while0b_v977 : Ref sig .tc := ⟨.hbm, 1262, rfl⟩
abbrev main_while0b_v978 : Ref sig .tc := ⟨.hbm, 1263, rfl⟩
abbrev main_while0b_v979 : Ref sig .tc := ⟨.hbm, 1264, rfl⟩
abbrev main_while0b_c_279 : Ref sig .tc := ⟨.hbm, 1265, rfl⟩
abbrev main_while0b_v980 : Ref sig .tc := ⟨.hbm, 1266, rfl⟩
abbrev main_while0b_v981 : Ref sig .tc := ⟨.hbm, 1267, rfl⟩
abbrev main_while0b_v982 : Ref sig .tc := ⟨.hbm, 1268, rfl⟩
abbrev main_while0b_c_280 : Ref sig .tc := ⟨.hbm, 1269, rfl⟩
abbrev main_while0b_v983 : Ref sig .tc := ⟨.hbm, 1270, rfl⟩
abbrev main_while0b_v984 : Ref sig .tc := ⟨.hbm, 1271, rfl⟩
abbrev main_while0b_c_281 : Ref sig .tc := ⟨.hbm, 1272, rfl⟩
abbrev main_while0b_v985 : Ref sig .tc := ⟨.hbm, 1273, rfl⟩
abbrev main_while0b_v986 : Ref sig .tc := ⟨.hbm, 1274, rfl⟩
abbrev main_while0b_v987 : Ref sig .tc := ⟨.hbm, 1275, rfl⟩
abbrev main_while0b_cst_282 : Ref sig .tc := ⟨.hbm, 1276, rfl⟩
abbrev main_while0b_v988 : Ref sig .tc := ⟨.hbm, 1277, rfl⟩
abbrev main_while0b_v989 : Ref sig .tc := ⟨.hbm, 1278, rfl⟩
abbrev main_while0b_v990 : Ref sig .tc := ⟨.hbm, 1279, rfl⟩
abbrev main_while0b_cst_283 : Ref sig .tc := ⟨.hbm, 1280, rfl⟩
abbrev main_while0b_v991 : Ref sig .tc := ⟨.hbm, 1281, rfl⟩
abbrev main_while0b_v992 : Ref sig .tc := ⟨.hbm, 1282, rfl⟩
abbrev main_while0b_cst_284 : Ref sig .tc := ⟨.hbm, 1283, rfl⟩
abbrev main_while0b_v993 : Ref sig .tc := ⟨.hbm, 1284, rfl⟩
abbrev main_while0b_v994 : Ref sig .tc := ⟨.hbm, 1285, rfl⟩
abbrev main_while0b_v995 : Ref sig .tc := ⟨.hbm, 1286, rfl⟩
abbrev main_while0b_v996 : Ref sig .tc := ⟨.hbm, 1287, rfl⟩
abbrev main_while0b_v997 : Ref sig .tc := ⟨.hbm, 1288, rfl⟩
abbrev main_while0b_v998 : Ref sig .tc := ⟨.hbm, 1289, rfl⟩
abbrev main_while0b_cst_285 : Ref sig .tc := ⟨.hbm, 1290, rfl⟩
abbrev main_while0b_v999 : Ref sig .tc := ⟨.hbm, 1291, rfl⟩
abbrev main_while0b_v1000 : Ref sig .tc := ⟨.hbm, 1292, rfl⟩
abbrev main_while0b_v1001 : Ref sig .tc := ⟨.hbm, 1293, rfl⟩
abbrev main_while0b_v1002 : Ref sig .tc := ⟨.hbm, 1294, rfl⟩
abbrev main_while0b_v1003 : Ref sig .tc := ⟨.hbm, 1295, rfl⟩
abbrev main_while0b_v1004 : Ref sig .tc := ⟨.hbm, 1296, rfl⟩
abbrev main_while0b_v1005 : Ref sig .tc := ⟨.hbm, 1297, rfl⟩
abbrev main_while0b_v1006 : Ref sig .tc := ⟨.hbm, 1298, rfl⟩
abbrev main_while0b_v1007 : Ref sig .tc := ⟨.hbm, 1299, rfl⟩
abbrev main_while0b_v1008 : Ref sig .tc := ⟨.hbm, 1300, rfl⟩
abbrev main_while0b_v1009 : Ref sig .tc := ⟨.hbm, 1301, rfl⟩
abbrev main_while0b_v1010 : Ref sig .tc := ⟨.hbm, 1302, rfl⟩
abbrev main_while0b_cst_286 : Ref sig .tc := ⟨.hbm, 1303, rfl⟩
abbrev main_while0b_v1011 : Ref sig .tc := ⟨.hbm, 1304, rfl⟩
abbrev main_while0b_v1012 : Ref sig .tc := ⟨.hbm, 1305, rfl⟩
abbrev main_while0b_cst_287 : Ref sig .tc := ⟨.hbm, 1306, rfl⟩
abbrev main_while0b_v1013 : Ref sig .tc := ⟨.hbm, 1307, rfl⟩
abbrev main_while0b_v1014 : Ref sig .tc := ⟨.hbm, 1308, rfl⟩
abbrev main_while0b_cst_288 : Ref sig .tc := ⟨.hbm, 1309, rfl⟩
abbrev main_while0b_v1015 : Ref sig .tc := ⟨.hbm, 1310, rfl⟩
abbrev main_while0b_v1016 : Ref sig .tc := ⟨.hbm, 1311, rfl⟩
abbrev main_while0b_cst_289 : Ref sig .tc := ⟨.hbm, 1312, rfl⟩
abbrev main_while0b_v1017 : Ref sig .tc := ⟨.hbm, 1313, rfl⟩
abbrev main_while0b_v1018 : Ref sig .tc := ⟨.hbm, 1314, rfl⟩
abbrev main_while0b_cst_290 : Ref sig .tc := ⟨.hbm, 1315, rfl⟩
abbrev main_while0b_v1019 : Ref sig .tc := ⟨.hbm, 1316, rfl⟩
abbrev main_while0b_v1020 : Ref sig .tc := ⟨.hbm, 1317, rfl⟩
abbrev main_while0b_cst_291 : Ref sig .tc := ⟨.hbm, 1318, rfl⟩
abbrev main_while0b_v1021 : Ref sig .tc := ⟨.hbm, 1319, rfl⟩
abbrev main_while0b_v1022 : Ref sig .tc := ⟨.hbm, 1320, rfl⟩
abbrev main_while0b_cst_292 : Ref sig .tc := ⟨.hbm, 1321, rfl⟩
abbrev main_while0b_v1023 : Ref sig .tc := ⟨.hbm, 1322, rfl⟩
abbrev main_while0b_v1024 : Ref sig .tc := ⟨.hbm, 1323, rfl⟩
abbrev main_while0b_v1025 : Ref sig .tc := ⟨.hbm, 1324, rfl⟩
abbrev main_while0b_cst_293 : Ref sig .tc := ⟨.hbm, 1325, rfl⟩
abbrev main_while0b_v1026 : Ref sig .tc := ⟨.hbm, 1326, rfl⟩
abbrev main_while0b_v1027 : Ref sig .tc := ⟨.hbm, 1327, rfl⟩
abbrev main_while0b_cst_294 : Ref sig .tc := ⟨.hbm, 1328, rfl⟩
abbrev main_while0b_v1028 : Ref sig .tc := ⟨.hbm, 1329, rfl⟩
abbrev main_while0b_v1029 : Ref sig .tc := ⟨.hbm, 1330, rfl⟩
abbrev main_while0b_v1030 : Ref sig .tc := ⟨.hbm, 1331, rfl⟩
abbrev main_while0b_cst_295 : Ref sig .tc := ⟨.hbm, 1332, rfl⟩
abbrev main_while0b_v1031 : Ref sig .tc := ⟨.hbm, 1333, rfl⟩
abbrev main_while0b_v1032 : Ref sig .tc := ⟨.hbm, 1334, rfl⟩
abbrev main_while0b_cst_296 : Ref sig .tc := ⟨.hbm, 1335, rfl⟩
abbrev main_while0b_v1033 : Ref sig .tc := ⟨.hbm, 1336, rfl⟩
abbrev main_while0b_v1034 : Ref sig .tc := ⟨.hbm, 1337, rfl⟩
abbrev main_while0b_v1035 : Ref sig .tc := ⟨.hbm, 1338, rfl⟩
abbrev main_while0b_cst_297 : Ref sig .tc := ⟨.hbm, 1339, rfl⟩
abbrev main_while0b_v1036 : Ref sig .tc := ⟨.hbm, 1340, rfl⟩
abbrev main_while0b_v1037 : Ref sig .tc := ⟨.hbm, 1341, rfl⟩
abbrev main_while0b_cst_298 : Ref sig .tc := ⟨.hbm, 1342, rfl⟩
abbrev main_while0b_v1038 : Ref sig .tc := ⟨.hbm, 1343, rfl⟩
abbrev main_while0b_v1039 : Ref sig .tc := ⟨.hbm, 1344, rfl⟩
abbrev main_while0b_v1040 : Ref sig .tc := ⟨.hbm, 1345, rfl⟩
abbrev main_while0b_cst_299 : Ref sig .tc := ⟨.hbm, 1346, rfl⟩
abbrev main_while0b_v1041 : Ref sig .tc := ⟨.hbm, 1347, rfl⟩
abbrev main_while0b_v1042 : Ref sig .tc := ⟨.hbm, 1348, rfl⟩
abbrev main_while0b_cst_300 : Ref sig .tc := ⟨.hbm, 1349, rfl⟩
abbrev main_while0b_v1043 : Ref sig .tc := ⟨.hbm, 1350, rfl⟩
abbrev main_while0b_v1044 : Ref sig .tc := ⟨.hbm, 1351, rfl⟩
abbrev main_while0b_v1045 : Ref sig .tc := ⟨.hbm, 1352, rfl⟩
abbrev main_while0b_cst_301 : Ref sig .tc := ⟨.hbm, 1353, rfl⟩
abbrev main_while0b_v1046 : Ref sig .tc := ⟨.hbm, 1354, rfl⟩
abbrev main_while0b_v1047 : Ref sig .tc := ⟨.hbm, 1355, rfl⟩
abbrev main_while0b_v1048 : Ref sig .tc := ⟨.hbm, 1356, rfl⟩
abbrev main_while0b_cst_302 : Ref sig .tc := ⟨.hbm, 1357, rfl⟩
abbrev main_while0b_v1049 : Ref sig .tc := ⟨.hbm, 1358, rfl⟩
abbrev main_while0b_v1050 : Ref sig .tc := ⟨.hbm, 1359, rfl⟩
abbrev main_while0b_cst_303 : Ref sig .tc := ⟨.hbm, 1360, rfl⟩
abbrev main_while0b_v1051 : Ref sig .tc := ⟨.hbm, 1361, rfl⟩
abbrev main_while0b_v1052 : Ref sig .tc := ⟨.hbm, 1362, rfl⟩
abbrev main_while0b_cst_304 : Ref sig .tc := ⟨.hbm, 1363, rfl⟩
abbrev main_while0b_v1053 : Ref sig .tc := ⟨.hbm, 1364, rfl⟩
abbrev main_while0b_v1054 : Ref sig .tc := ⟨.hbm, 1365, rfl⟩
abbrev main_while0b_v1055 : Ref sig .tc := ⟨.hbm, 1366, rfl⟩
abbrev main_while0b_v1056 : Ref sig .tc := ⟨.hbm, 1367, rfl⟩
abbrev main_while0b_v1057 : Ref sig .tc := ⟨.hbm, 1368, rfl⟩
abbrev main_while0b_cst_305 : Ref sig .tc := ⟨.hbm, 1369, rfl⟩
abbrev main_while0b_v1058 : Ref sig .tc := ⟨.hbm, 1370, rfl⟩
abbrev main_while0b_v1059 : Ref sig .tc := ⟨.hbm, 1371, rfl⟩
abbrev main_while0b_v1060 : Ref sig .tc := ⟨.hbm, 1372, rfl⟩
abbrev main_while0b_v1061 : Ref sig .tc := ⟨.hbm, 1373, rfl⟩
abbrev main_while0b_v1062 : Ref sig .tc := ⟨.hbm, 1374, rfl⟩
abbrev main_while0b_cst_306 : Ref sig .tc := ⟨.hbm, 1375, rfl⟩
abbrev main_while0b_v1063 : Ref sig .tc := ⟨.hbm, 1376, rfl⟩
abbrev main_while0b_v1064 : Ref sig .tc := ⟨.hbm, 1377, rfl⟩
abbrev main_while0b_v1065 : Ref sig .tc := ⟨.hbm, 1378, rfl⟩
abbrev main_while0b_v1066 : Ref sig .tc := ⟨.hbm, 1379, rfl⟩
abbrev main_while0b_cst_307 : Ref sig .tc := ⟨.hbm, 1380, rfl⟩
abbrev main_while0b_v1067 : Ref sig .tc := ⟨.hbm, 1381, rfl⟩
abbrev main_while0b_v1068 : Ref sig .tc := ⟨.hbm, 1382, rfl⟩
abbrev main_while0b_cst_308 : Ref sig .tc := ⟨.hbm, 1383, rfl⟩
abbrev main_while0b_v1069 : Ref sig .tc := ⟨.hbm, 1384, rfl⟩
abbrev main_while0b_v1070 : Ref sig .tc := ⟨.hbm, 1385, rfl⟩
abbrev main_while0b_v1071 : Ref sig .tc := ⟨.hbm, 1386, rfl⟩
abbrev main_while0b_v1072 : Ref sig .tc := ⟨.hbm, 1387, rfl⟩
abbrev main_while0b_v1073 : Ref sig .tc := ⟨.hbm, 1388, rfl⟩
abbrev main_while0b_v1074 : Ref sig .tc := ⟨.hbm, 1389, rfl⟩
abbrev main_while0b_v1075 : Ref sig .tc := ⟨.hbm, 1390, rfl⟩
abbrev main_while0b_v1076 : Ref sig .tc := ⟨.hbm, 1391, rfl⟩
abbrev main_while0b_v1077 : Ref sig .tc := ⟨.hbm, 1392, rfl⟩
abbrev main_while0b_v1078 : Ref sig .tc := ⟨.hbm, 1393, rfl⟩
abbrev main_while0b_c_309 : Ref sig .tc := ⟨.hbm, 1394, rfl⟩
abbrev main_while0b_v1079 : Ref sig .tc := ⟨.hbm, 1395, rfl⟩
abbrev main_while0b_c_310 : Ref sig .tc := ⟨.hbm, 1396, rfl⟩
abbrev main_while0b_v1080 : Ref sig .tc := ⟨.hbm, 1397, rfl⟩
abbrev main_while0b_c_311 : Ref sig .tc := ⟨.hbm, 1398, rfl⟩
abbrev main_while0b_v1081 : Ref sig .tc := ⟨.hbm, 1399, rfl⟩
abbrev main_while0b_v1082 : Ref sig .tc := ⟨.hbm, 1400, rfl⟩
abbrev main_while0b_v1083 : Ref sig .tc := ⟨.hbm, 1401, rfl⟩
abbrev main_while0b_v1084 : Ref sig .tc := ⟨.hbm, 1402, rfl⟩
abbrev main_while0b_v1085 : Ref sig .tc := ⟨.hbm, 1403, rfl⟩
abbrev main_while0b_v1086 : Ref sig .tc := ⟨.hbm, 1404, rfl⟩
abbrev main_while0b_v1087 : Ref sig .tc := ⟨.hbm, 1405, rfl⟩
abbrev main_while0b_v1088 : Ref sig .tc := ⟨.hbm, 1406, rfl⟩
abbrev main_while0b_v1089 : Ref sig .tc := ⟨.hbm, 1407, rfl⟩
abbrev main_while0b_cst_312 : Ref sig .tc := ⟨.hbm, 1408, rfl⟩
abbrev main_while0b_v1090 : Ref sig .tc := ⟨.hbm, 1409, rfl⟩
abbrev main_while0b_v1091 : Ref sig .tc := ⟨.hbm, 1410, rfl⟩
abbrev main_while0b_v1092 : Ref sig .tc := ⟨.hbm, 1411, rfl⟩
abbrev main_while0b_c_313 : Ref sig .tc := ⟨.hbm, 1412, rfl⟩
abbrev main_while0b_v1093 : Ref sig .tc := ⟨.hbm, 1413, rfl⟩
abbrev main_while0b_v1094 : Ref sig .tc := ⟨.hbm, 1414, rfl⟩
abbrev main_while0b_v1095 : Ref sig .tc := ⟨.hbm, 1415, rfl⟩
abbrev main_while0b_v1096 : Ref sig .tc := ⟨.hbm, 1416, rfl⟩
abbrev main_while0b_cst_314 : Ref sig .tc := ⟨.hbm, 1417, rfl⟩
abbrev main_while0b_v1097 : Ref sig .tc := ⟨.hbm, 1418, rfl⟩
abbrev main_while0b_v1098 : Ref sig .tc := ⟨.hbm, 1419, rfl⟩
abbrev main_while0b_c_315 : Ref sig .tc := ⟨.hbm, 1420, rfl⟩
abbrev main_while0b_call5_v0 : Ref sig .tc := ⟨.hbm, 1421, rfl⟩
abbrev main_while0b_call5_v1 : Ref sig .tc := ⟨.hbm, 1422, rfl⟩
abbrev main_while0b_v1099 : Ref sig .tc := ⟨.hbm, 1423, rfl⟩
abbrev main_while0b_c_316 : Ref sig .tc := ⟨.hbm, 1424, rfl⟩
abbrev main_while0b_v1100 : Ref sig .tc := ⟨.hbm, 1425, rfl⟩
abbrev main_c_10 : Ref sig .tc := ⟨.hbm, 1426, rfl⟩
abbrev main_v9 : Ref sig .tc := ⟨.hbm, 1427, rfl⟩
abbrev main_v10 : Ref sig .tc := ⟨.hbm, 1428, rfl⟩

abbrev nD : Nat := 1
abbrev τ : Topo := Topo.v7x

variable {F : FTy → Type} [FloatOps F]

abbrev main_while0_count : Scf.Loop 32 := ⟨0#32, 64#32, 1#32⟩
-- ==== Proof.WordMax.lean ====
/-
  The greatest of a family of small words: signed maximum from the least word, over a nonempty family of words that are small as
  unsigned numbers, is the family's maximum.
-/
module

public import Idealize.ShloMosaic.PureOps.Reduce
public import Mathlib.Data.Finset.Lattice.Fold

@[expose] public section

namespace Cert.Proof

open Idealize.ShloMosaic

/-- The signed maximum of two small words is the greater. -/
theorem toNat_maxsi {a b : BitVec 32} (ha : a.toNat < 2 ^ 31) (hb : b.toNat < 2 ^ 31) : (IntOp.maxsi a b).toNat = max a.toNat b.toNat := by
  simp only [IntOp.maxsi, BitVec.slt, decide_eq_true_eq, BitVec.toInt_eq_toNat_cond]
  split_ifs <;> omega

/-- The signed maximum of a small word and the least word is the small word. -/
theorem maxsi_least {a : BitVec 32} (ha : a.toNat < 2 ^ 31) : IntOp.maxsi a 2147483648#32 = a := by
  simp only [IntOp.maxsi, BitVec.slt, decide_eq_true_eq, BitVec.toInt_eq_toNat_cond, BitVec.toNat_ofNat]
  split_ifs <;> first | rfl | omega

/-- The signed maximum over a nonempty family of words at most `n`. -/
theorem toNat_fold_maxsi {ι : Type} (S : Finset ι) (hS : S.Nonempty) (x : ι → BitVec 32) (n : ℕ) (hn : n < 2 ^ 31) (hx : ∀ i ∈ S, (x i).toNat ≤ n) :
    (S.fold IntOp.maxsi 2147483648#32 x).toNat = S.sup fun i => (x i).toNat := by
  induction hS using Finset.Nonempty.cons_induction with
  | singleton a =>
    rw [Finset.fold_singleton, Finset.sup_singleton, maxsi_least (by have := hx a (Finset.mem_singleton_self a); omega)]
  | cons a S ha hS ih =>
    have h1 := hx a (Finset.mem_cons_self a S)
    have h2 := ih fun i hi => hx i (Finset.mem_cons_of_mem hi)
    have h3 : (S.sup fun i => (x i).toNat) ≤ n := Finset.sup_le fun i hi => hx i (Finset.mem_cons_of_mem hi)
    rw [Finset.fold_cons, Finset.sup_cons, toNat_maxsi (by omega) (by omega), h2]

end Cert.Proof
-- ==== Proof.Rules.lean ====
/-
  Rules for loads and stores over a memref that is owned (`owns`: the contents are what the view reads), for any memref:
  a load answers with the contents under the rectangle, a store over a rectangle that is the whole shape leaves the stored value.
-/
module

public import Idealize.ShloMosaic.Lib.Memref
public import Idealize.ShloMosaic.Rules.Step
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}
variable {Ix : Type} [DecidableEq Ix] {Name : Type} [DecidableEq Name] {U : Type} [URA U] {Lvl : Type} [Preorder Lvl]

variable {Λ : Labels} {defs : Defs nD τ sig Val Λ} (𝒱 : Variants) (c : Thread nD τ) (bd : Option 𝒱.V) (E : Set Name)
variable {α : Type} {Q : α → sProp (MT nD τ sig Ix Val Name U Lvl)} {s : Shape} {e : EltTy}

/-- A load from an owned memref answers with its contents under the load's rectangle. -/
theorem wp_load_owned {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp (MT nD τ sig Ix Val Name U Lvl)) ⊢ iprop((owns c m q X -∗ wp frame (wpE defs 𝒱 c bd) E (k fun x => X (r.idx x)) Q)
      -∗ wp frame (wpE defs 𝒱 c bd) E (.op (.load m r hl) k) Q) := by
  have hS : m.view.setOn r.set ⊆ m.view.set := by
    rw [← View.setOn_univ]; exact Finset.map_subset_map.mpr (Finset.subset_univ _)
  unfold owns
  iintro ⟨%f, %hf, H⟩ Hk
  subst hf
  iapply (wp_load 𝒱 c bd E (m := m) (q := q) (f := f) hS) $$ H
  iintro H
  iapply Hk
  iexists f; isplitr
  · ipureintro; rfl
  · iexact H

/-- The same, the answer under a name of its own. -/
theorem wp_load_as {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e}
    (Y : r.shape.Idx → Val e) (hY : ∀ x, X (r.idx x) = Y x) :
    (owns c m q X : sProp (MT nD τ sig Ix Val Name U Lvl)) ⊢ iprop((owns c m q X -∗ wp frame (wpE defs 𝒱 c bd) E (k Y) Q)
      -∗ wp frame (wpE defs 𝒱 c bd) E (.op (.load m r hl) k) Q) := by
  rw [show Y = fun x => X (r.idx x) from funext fun x => (hY x).symm]
  exact wp_load_owned 𝒱 c bd E

/-- A store over a rectangle that covers the shape element by element leaves the memref owned at the stored value. -/
theorem wp_store_owned {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} (X' : s.Idx → Val e)
    (hX : ∀ y, ∃ x, r.emb x = y ∧ X' y = w x) :
    (owns c m fullShare X : sProp (MT nD τ sig Ix Val Name U Lvl)) ⊢ iprop((owns c m fullShare X' -∗ wp frame (wpE defs 𝒱 c bd) E (k ⟨⟩) Q)
      -∗ wp frame (wpE defs 𝒱 c bd) E (.op (.store m r w Finset.univ hx hm) k) Q) := by
  have hS : (m.access r).setOn Finset.univ ⊆ m.view.set := by
    rw [View.setOn_univ, show (m.access r).set = m.view.setOn r.set from View.set_slice _ _, ← View.setOn_univ]
    exact Finset.map_subset_map.mpr (Finset.subset_univ _)
  unfold owns
  iintro ⟨%f, -, H⟩ Hk
  iapply (wp_store 𝒱 c bd E (m := m) (f := f) hS) $$ H
  iintro H
  iapply Hk
  iexists _; isplitr
  swap; · iexact H
  ipureintro
  funext y
  obtain ⟨x, rfl, h⟩ := hX y
  rw [h]
  exact View.read_slice_write_emb (v := m.view) r f w (Finset.mem_univ x)

/-! ## Words of a table -/

/-- Word `n` of a table of `N` words. -/
def word {N : ℕ} [NeZero N] {e : EltTy} (X : (⟨1, ![N]⟩ : Shape).Idx → Val e) (n : ℕ) : Val e :=
  X fun _ => ⟨n % N, by
    rename_i a
    obtain rfl : a = 0 := Subsingleton.elim _ _
    exact Nat.mod_lt _ (Nat.pos_of_ne_zero (NeZero.ne N))⟩

/-- The element under a one-word rectangle is the table's word at the rectangle's offset. -/
theorem word_at {N : ℕ} [NeZero N] {e : EltTy} (X : (⟨1, ![N]⟩ : Shape).Idx → Val e) {off : Fin 1 → ℕ}
    (inb : ∀ a, off a + (⟨1, ![1]⟩ : Shape).size a ≤ (⟨1, ![N]⟩ : Shape).size a)
    (x : (Rect.unit (s := (⟨1, ![N]⟩ : Shape)) off (⟨1, ![1]⟩ : Shape).size inb).shape.Idx) (n : ℕ) (h : off 0 = n) :
    X ((Rect.unit (s := (⟨1, ![N]⟩ : Shape)) off (⟨1, ![1]⟩ : Shape).size inb).toLoadRect.idx x) = word X n := by
  have hi := inb 0
  have hx : (x 0).val < 1 := (x 0).isLt
  have hi' : off 0 + 1 ≤ N := hi
  unfold word
  congr 1
  funext a
  obtain rfl : a = 0 := Subsingleton.elim _ _
  apply Fin.ext
  show off 0 + 1 * (x 0).val = n % N
  rw [← h, Nat.mod_eq_of_lt (by omega)]
  omega

/-- A one-word load from an owned table answers with the word at the load's place. -/
theorem wp_word_at {N : ℕ} [NeZero N] {cs : CoreSpace} {m : Memref sig c.2.kind cs (⟨1, ![N]⟩ : Shape) e} {off : Fin 1 → ℕ}
    {inb : ∀ a, off a + (⟨1, ![1]⟩ : Shape).size a ≤ (⟨1, ![N]⟩ : Shape).size a}
    {hl : m.view.LoadsAt (Rect.unit (s := (⟨1, ![N]⟩ : Shape)) off (⟨1, ![1]⟩ : Shape).size inb).toLoadRect}
    {k : ((Rect.unit (s := (⟨1, ![N]⟩ : Shape)) off (⟨1, ![1]⟩ : Shape).size inb).toLoadRect.shape.Idx → Val e) → Prog (TpuEff nD τ sig Val Λ c.2) α}
    {q : PosShare TreeShare} {X : (⟨1, ![N]⟩ : Shape).Idx → Val e} (n : ℕ) (h : off 0 = n) :
    (owns c m q X : sProp (MT nD τ sig Ix Val Name U Lvl)) ⊢ iprop((owns c m q X -∗ wp frame (wpE defs 𝒱 c bd) E (k fun _ => word X n) Q)
      -∗ wp frame (wpE defs 𝒱 c bd) E (.op (.load m (Rect.unit (s := (⟨1, ![N]⟩ : Shape)) off (⟨1, ![1]⟩ : Shape).size inb).toLoadRect hl) k) Q) := by
  rw [show (fun _ => word X n) = fun x => X ((Rect.unit (s := (⟨1, ![N]⟩ : Shape)) off (⟨1, ![1]⟩ : Shape).size inb).toLoadRect.idx x) from
    funext fun x => (word_at X inb x n h).symm]
  exact wp_load_owned 𝒱 c bd E

/-! ## A loop with a test ahead of each trip -/

/-- From counter `j` and state `s`: while the test passes, and at most `n` times, take the step and count. -/
def iter {S : Type} (b : ℕ → S → BitVec 1) (f : ℕ → S → S) : ℕ → ℕ → S → ℕ × S
  | 0, j, s => (j, s)
  | n + 1, j, s => if b j s = 1#1 then iter b f n (j + 1) (f j s) else (j, s)

/-- Adding one to a counter's word is the next counter's word. -/
theorem addi_one (j : ℕ) : Scalar.addi (BitVec.ofNat 32 j) 1#32 = BitVec.ofNat 32 (j + 1) := by
  show BitVec.ofNat 32 j + BitVec.ofNat 32 1 = _
  rw [BitVec.ofNat_add]

/-- A signed comparison of a small counter with a small bound that passes means the counter is below the bound. -/
theorem lt_of_slt (j : ℕ) (hj : j ≤ 40) (v : BitVec 32) (hv : v.toNat ≤ 40) (h : Scalar.cmpi .slt (BitVec.ofNat 32 j) v = 1#1) :
    j < v.toNat := by
  have hs : (BitVec.ofNat 32 j).slt v = true := by
    simp only [Scalar.cmpi, IntOp.cmpi] at h
    cases hb : (BitVec.ofNat 32 j).slt v
    · rw [hb] at h; exact absurd h (by decide)
    · rfl
  simp only [BitVec.slt, decide_eq_true_eq, BitVec.toInt_eq_toNat_cond, BitVec.toNat_ofNat] at hs
  split at hs <;> split at hs <;> omega

/-- A test `j < cap` and something else that passes means the counter is below the cap. -/
theorem lt_of_andi_slt (cap : ℕ) (hc : cap ≤ 1000) (j : ℕ) (hj : j ≤ cap) (b : BitVec 1)
    (h : Scalar.andi (Scalar.cmpi .slt (BitVec.ofNat 32 j) (BitVec.ofNat 32 cap)) b = 1#1) : j < cap := by
  have hs : (BitVec.ofNat 32 j).slt (BitVec.ofNat 32 cap) = true := by
    simp only [Scalar.andi, IntOp.andi, Scalar.cmpi, IntOp.cmpi] at h
    cases hb : (BitVec.ofNat 32 j).slt (BitVec.ofNat 32 cap)
    · rw [hb] at h; revert h; generalize b = b; revert b; decide
    · rfl
  simp only [BitVec.slt, decide_eq_true_eq, BitVec.toInt_eq_toNat_cond, BitVec.toNat_ofNat] at hs
  split at hs <;> split at hs <;> omega

end Cert.Proof

end
-- ==== Proof.KernelIdeal.Steps.lean ====
/-
  The kernel's loops as functions of the values they read: what one trip of each loop computes from the table's words it loads,
  the tests ahead of a trip, and the loops as iterations of the trips. Generic in the float values.
-/
module

public import proofs.«01_k».proof.Proof.Rules
public import proofs.«01_k».proof.Proof.Gen.KernelIdeal.Skeleton
public import Idealize.ShloMosaic.Lib.Rounds
public import Idealize.ShloMosaic.Lib.Pipeline.Sound

@[expose] public section

noncomputable section

-- the branches of a proof share their simp sets

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Knuth's loop over the first eight rows -/

/-- The uniform numbers of one trip: drawn at the places `v18` with the key words `w0`, `w1`. -/
def uni1 (v18 : IVec S8x2048 32) (w0 w1 : Elt F .i32) : FVec F S8x2048 .f32 :=
  let v88 : BitVec 32 := Scalar.xori (Scalar.xori w0 w1) 466688986#32
  let v119 := k0_pay41 v18 w0 w1
  let v121 := k0_pay42 v18 w0 w1
  let v164 := k0_pay53 w0 v88 v119 v121
  let v165 := k0_pay54 w0 v88 v119 v121
  let v167 := k0_pay55 w0 v88 v119 v121
  let v211 := k0_pay66 w0 w1 v164 v165 v167 17#32
  let v212 := k0_pay67 w0 w1 v164 v165 v167 17#32
  let v214 := k0_pay68 w0 w1 v164 v165 v167 17#32
  k0_pay69 w0 w1 v88 v211 v212 v214 8#32

/-- The test ahead of trip `j`: below the cap, and some pixel still runs. -/
def kTest1 (v17 : FVec F S8x2048 .f32) (j : ℕ) (s : IVec S8x2048 32 × FVec F S8x2048 .f32) : BitVec 1 :=
  Scalar.andi (Scalar.cmpi .slt (BitVec.ofNat 32 j) 64#32) (Scalar.cmpf .ogt (k0_pay10 v17 s.2) (Scalar.ofBits .f32 0x00000000#32))

/-- A trip with the key words `w0`, `w1`: count the pixels that run, and add the logarithm of the trip's uniform numbers. -/
def kStep1 (v17 : FVec F S8x2048 .f32) (v18 : IVec S8x2048 32) (w0 w1 : Elt F .i32)
    (s : IVec S8x2048 32 × FVec F S8x2048 .f32) : IVec S8x2048 32 × FVec F S8x2048 .f32 :=
  (k0_pay32 v17 s.1 s.2, k0_pay11 s.2 (uni1 v18 w0 w1))

/-! ## Knuth's loop over the second eight rows -/

/-- The uniform numbers of one trip: drawn at the places `v18` with the key words `w0`, `w1`. -/
def uni2 (v18 : IVec S8x2048 32) (w0 w1 : Elt F .i32) : FVec F S8x2048 .f32 :=
  let v88 : BitVec 32 := Scalar.xori (Scalar.xori w0 w1) 466688986#32
  let v119 := k0_pay79 v18 w0 w1
  let v121 := k0_pay80 v18 w0 w1
  let v164 := k0_pay91 w0 v88 v119 v121
  let v165 := k0_pay92 w0 v88 v119 v121
  let v167 := k0_pay93 w0 v88 v119 v121
  let v211 := k0_pay104 w0 w1 v164 v165 v167 17#32
  let v212 := k0_pay105 w0 w1 v164 v165 v167 17#32
  let v214 := k0_pay106 w0 w1 v164 v165 v167 17#32
  k0_pay107 w0 w1 v88 v211 v212 v214 8#32

/-- The test ahead of trip `j`: below the cap, and some pixel still runs. -/
def kTest2 (v17 : FVec F S8x2048 .f32) (j : ℕ) (s : IVec S8x2048 32 × FVec F S8x2048 .f32) : BitVec 1 :=
  Scalar.andi (Scalar.cmpi .slt (BitVec.ofNat 32 j) 64#32) (Scalar.cmpf .ogt (k0_pay12 v17 s.2) (Scalar.ofBits .f32 0x00000000#32))

/-- A trip with the key words `w0`, `w1`: count the pixels that run, and add the logarithm of the trip's uniform numbers. -/
def kStep2 (v17 : FVec F S8x2048 .f32) (v18 : IVec S8x2048 32) (w0 w1 : Elt F .i32)
    (s : IVec S8x2048 32 × FVec F S8x2048 .f32) : IVec S8x2048 32 × FVec F S8x2048 .f32 :=
  (k0_pay70 v17 s.1 s.2, k0_pay13 s.2 (uni2 v18 w0 w1))

/-! ## The rejection loop of the first pass -/

/-- The first uniform numbers of a trip (the proposal's), at the places `v7`, key words `w0`, `w1`. -/
def uniU (v7 : IVec S16x2048 32) (w0 w1 : Elt F .i32) : FVec F S16x2048 .f32 :=
  let v92 : BitVec 32 := Scalar.xori (Scalar.xori w0 w1) 466688986#32
  let v116 := k0_pay114 v7 w0 w1
  let v117 := k0_pay115 v7 w0 w1
  let v119 := k0_pay116 v7 w0 w1
  let v162 := k0_pay126 w0 w1 v92 v116 v117 v119
  let v164 := k0_pay127 w0 w1 v92 v116 v117 v119
  let v166 := k0_pay128 w0 w1 v92 v116 v117 v119
  let v209 := k0_pay140 w0 w1 v162 v164 v166
  let v211 := k0_pay141 w0 w1 v162 v164 v166
  let v213 := k0_pay142 w0 w1 v162 v164 v166
  k0_pay144 (k0_pay143 w0 w1 v92 v209 v211 v213)

/-- The second uniform numbers of a trip, at key words `w2`, `w3`. -/
def uniV (v7 : IVec S16x2048 32) (w2 w3 : Elt F .i32) : FVec F S16x2048 .f32 :=
  let v272 : BitVec 32 := Scalar.xori (Scalar.xori w2 w3) 466688986#32
  let v303 := k0_pay153 v7 w2 w3
  let v305 := k0_pay154 v7 w2 w3
  let v307 := k0_pay155 w2 w3
  let v349 := k0_pay167 w2 v272 v303 v305 v307
  let v354 := k0_pay168 w2 v272 v303 v305 v307
  let v396 := k0_pay180 w2 w3 v349 v354
  let v401 := k0_pay181 w2 w3 v349 v354
  k0_pay182 w2 w3 v272 v396 v401

/-- The test ahead of trip `j`: below the cap, and some pixel has not accepted. -/
def rTest (j : ℕ) (s : IVec S16x2048 32 × FVec F S16x2048 .f32) : BitVec 1 :=
  Scalar.andi (Scalar.cmpi .slt (BitVec.ofNat 32 j) 40#32) (Scalar.cmpf .ogt (k0_pay14 (F := F) s.1) (Scalar.ofBits .f32 0x00000000#32))

/-- The proposal of a trip from its first uniform numbers (before rounding down it is a count). -/
def prop (v44 v40 v35 u : FVec F S16x2048 .f32) : FVec F S16x2048 .f32 := k0_pay184 v44 v40 v35 u

/-- Which pixels take the trip's proposal (accepted and not rejected), from the two uniform numbers. -/
def takes (v44 v40 v35 v50 v57 v56 u v : FVec F S16x2048 .f32) : IVec S16x2048 1 :=
  k0_pay190 v56 v (k0_pay183 u) (prop v44 v40 v35 u) (k0_pay185 v44 v40 v50 u v) (k0_pay186 v44 v40 v35 v57 u) (k0_pay187 v44 v40 v35 u) (k0_pay188 v44 v40 v35 u) (k0_pay189 (F := F))

/-- Trip `j` with its four key words: the first round that took a proposal, and the proposal taken. -/
def rStep (v7 : IVec S16x2048 32) (v44 v40 v35 v50 v57 v56 : FVec F S16x2048 .f32) (j : BitVec 32) (w0 w1 w2 w3 : Elt F .i32)
    (s : IVec S16x2048 32 × FVec F S16x2048 .f32) : IVec S16x2048 32 × FVec F S16x2048 .f32 :=
  let u := uniU v7 w0 w1
  let t := takes v44 v40 v35 v50 v57 v56 u (uniV v7 w2 w3)
  (k0_pay15 j s.1 t, k0_pay16 s.2 (prop v44 v40 v35 u) t)

/-! ## The loop of the second pass -/

/-- The first uniform numbers of a trip of the second pass. -/
def uniU' (v7 : IVec S16x2048 32) (w0 w1 : Elt F .i32) : FVec F S16x2048 .f32 :=
  let v68 : BitVec 32 := Scalar.xori (Scalar.xori w0 w1) 466688986#32
  let v111 := k1_pay23 v7 w0 w1
  let v112 := k1_pay24 v7 w0 w1
  let v158 := k1_pay35 w0 v68 v111 v112 29#32
  let v159 := k1_pay36 w0 v68 v111 v112 29#32
  let v203 := k1_pay45 w0 w1 v68 v158 v159 6#32
  let v204 := k1_pay46 w0 w1 v68 v158 v159 6#32
  let v206 := k1_pay47 w0 w1 v68 v158 v159 6#32
  k1_pay48 w0 v68 v203 v204 v206 19#32

/-- A trip of the second pass with its four key words: a pixel that takes the trip's proposal has it written over. -/
def bStep (v10 : FVec F S16x2048 .f32) (v7 : IVec S16x2048 32) (v17 : IVec S16x2048 1) (w0 w1 w2 w3 : Elt F .i32)
    (s : IVec S16x2048 32) : IVec S16x2048 32 :=
  let v246 := uniU' v7 w0 w1
  let v248 : BitVec 32 := Scalar.xori (Scalar.xori w2 w3) 466688986#32
  let v251 := k1_pay49 v7 w3
  let v252 := k1_pay50 v7 w2 w3
  let v298 := k1_pay62 w3 v248 v251 v252 k1_pay51
  let v299 := k1_pay63 w3 v248 v251 v252 k1_pay51
  let v345 := k1_pay75 w2 v248 v298 v299 k1_pay64
  let v347 := k1_pay76 w2 v248 v298 v299 k1_pay64
  let v390 := k1_pay87 w3 v248 v345 v347 3#32
  let v391 := k1_pay88 w3 v248 v345 v347 3#32
  let v393 := k1_pay89 w3 v248 v345 v347 3#32
  let v34 := k1_pay8 v10
  let v38 := k1_pay9 v10
  let v436 := k1_pay93 (k1_pay7 v10) v34 v38 v246
  k1_pay6 v17 s (k1_pay11 v10) (k1_pay91 w2 v248 v390 v391 v393 k1_pay90) (k1_pay92 v246) v436
    (k1_pay94 v34 v38 (k1_pay10 v10) w2 v246 v248 v390 v391 v393 k1_pay90)
    (k1_pay95 (k1_pay7 v10) (k1_pay12 v10) v436 (Scalar.ofBits .f32 0x00000000#32)) (k1_pay96 v436) (k1_pay97 v436) (k1_pay98 v436)

/-! ## The loops' bodies are these trips -/

/-- Knuth's first loop: the test, the two key words, the trip. -/
theorem while1_eq (i : grid0.Coords) (v17 : FVec F S8x2048 .f32) (arg1 : Memref sig .tc .smem S128 .i32) (harg1 : arg1.IsWhole)
    (v18 : IVec S8x2048 32) (j : ℕ) (s : IVec S8x2048 32 × FVec F S8x2048 .f32) :
    cc0_while1 i v17 arg1 harg1 v18 (BitVec.ofNat 32 j) s.1 s.2 =
      (if kTest1 v17 j s = 1#1 then do
        have h : k0_chk1 (BitVec.ofNat 32 j) := (← Prog.lift (TpuEff.assume (k0_chk1 (BitVec.ofNat 32 j)) (k0_chk1.dec (BitVec.ofNat 32 j)))).down
        let w0 : Elt F .i32 ← smemLoad arg1 (Rect.unit (s := S128) (k0_off1 (BitVec.ofNat 32 j)) S1.size (k0_off1_inb _ h)) numel1_S1 rfl
        let w1 : Elt F .i32 ← smemLoad arg1 (Rect.unit (s := S128) (k0_off2 (BitVec.ofNat 32 j)) S1.size (k0_off2_inb _ h)) numel1_S1 rfl
        Prog.lift (.call (2 : (Λ₀ F).Label) ⟨i, v17, arg1, harg1, v18, Scalar.addi (BitVec.ofNat 32 j) 1#32,
          (kStep1 v17 v18 w0 w1 s).1, (kStep1 v17 v18 w0 w1 s).2⟩)
      else pure (BitVec.ofNat 32 j, s) :
        Prog (TpuEff nD τ sig (Elt F) (Λ₀ F) .tc) (BitVec 32 × IVec S8x2048 32 × FVec F S8x2048 .f32)) := by
  simp only [cc0_while1_eq_skeleton, cc0_while1_skel, k0_part2_eq_skeleton, k0_part2_skel, k0_part3_eq_skeleton, k0_part3_skel, k0_part4_eq_skeleton, k0_part4_skel, k0_part5_eq_skeleton, k0_part5_skel]
  rfl

/-- Knuth's second loop: the test, the two key words, the trip. -/
theorem while2_eq (i : grid0.Coords) (v17 : FVec F S8x2048 .f32) (arg1 : Memref sig .tc .smem S128 .i32) (harg1 : arg1.IsWhole)
    (v18 : IVec S8x2048 32) (j : ℕ) (s : IVec S8x2048 32 × FVec F S8x2048 .f32) :
    cc0_while2 i v17 arg1 harg1 v18 (BitVec.ofNat 32 j) s.1 s.2 =
      (if kTest2 v17 j s = 1#1 then do
        have h : k0_chk2 (BitVec.ofNat 32 j) := (← Prog.lift (TpuEff.assume (k0_chk2 (BitVec.ofNat 32 j)) (k0_chk2.dec (BitVec.ofNat 32 j)))).down
        let w0 : Elt F .i32 ← smemLoad arg1 (Rect.unit (s := S128) (k0_off3 (BitVec.ofNat 32 j)) S1.size (k0_off3_inb _ h)) numel1_S1 rfl
        let w1 : Elt F .i32 ← smemLoad arg1 (Rect.unit (s := S128) (k0_off4 (BitVec.ofNat 32 j)) S1.size (k0_off4_inb _ h)) numel1_S1 rfl
        Prog.lift (.call (3 : (Λ₀ F).Label) ⟨i, v17, arg1, harg1, v18, Scalar.addi (BitVec.ofNat 32 j) 1#32,
          (kStep2 v17 v18 w0 w1 s).1, (kStep2 v17 v18 w0 w1 s).2⟩)
      else pure (BitVec.ofNat 32 j, s) :
        Prog (TpuEff nD τ sig (Elt F) (Λ₀ F) .tc) (BitVec 32 × IVec S8x2048 32 × FVec F S8x2048 .f32)) := by
  simp only [cc0_while2_eq_skeleton, cc0_while2_skel, k0_part6_eq_skeleton, k0_part6_skel, k0_part7_eq_skeleton, k0_part7_skel, k0_part8_eq_skeleton, k0_part8_skel, k0_part9_eq_skeleton, k0_part9_skel]
  rfl

/-- The first pass's rejection loop: the test, the four key words, the trip. -/
theorem while3_eq (i : grid0.Coords) (arg2 : Memref sig .tc .smem S160 .i32) (harg2 : arg2.IsWhole) (v7 : IVec S16x2048 32)
    (v44 v40 v35 v50 v57 v56 : FVec F S16x2048 .f32) (j : ℕ) (s : IVec S16x2048 32 × FVec F S16x2048 .f32) :
    cc0_while3 i arg2 harg2 v7 v44 v40 v35 v50 v57 v56 (BitVec.ofNat 32 j) s.1 s.2 =
      (if rTest j s = 1#1 then do
        have h : k0_chk3 (BitVec.ofNat 32 j) := (← Prog.lift (TpuEff.assume (k0_chk3 (BitVec.ofNat 32 j)) (k0_chk3.dec (BitVec.ofNat 32 j)))).down
        let w0 : Elt F .i32 ← smemLoad arg2 (Rect.unit (s := S160) (k0_off5 (BitVec.ofNat 32 j)) S1.size (k0_off5_inb _ h)) numel1_S1 rfl
        let w1 : Elt F .i32 ← smemLoad arg2 (Rect.unit (s := S160) (k0_off6 (BitVec.ofNat 32 j) 1#32) S1.size (k0_off6_inb _ h 0)) numel1_S1 rfl
        let w2 : Elt F .i32 ← smemLoad arg2 (Rect.unit (s := S160) (k0_off6 (BitVec.ofNat 32 j) 2#32) S1.size (k0_off6_inb _ h 1)) numel1_S1 rfl
        let w3 : Elt F .i32 ← smemLoad arg2 (Rect.unit (s := S160) (k0_off6 (BitVec.ofNat 32 j) 3#32) S1.size (k0_off6_inb _ h 2)) numel1_S1 rfl
        Prog.lift (.call (4 : (Λ₀ F).Label) ⟨i, arg2, harg2, v7, v44, v40, v35, v50, v57, v56, Scalar.addi (BitVec.ofNat 32 j) 1#32,
          (rStep v7 v44 v40 v35 v50 v57 v56 (BitVec.ofNat 32 j) w0 w1 w2 w3 s).1, (rStep v7 v44 v40 v35 v50 v57 v56 (BitVec.ofNat 32 j) w0 w1 w2 w3 s).2⟩)
      else pure (BitVec.ofNat 32 j, s) :
        Prog (TpuEff nD τ sig (Elt F) (Λ₀ F) .tc) (BitVec 32 × IVec S16x2048 32 × FVec F S16x2048 .f32)) := by
  simp only [cc0_while3_eq_skeleton, cc0_while3_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel]
  rfl

/-- The second pass's loop: the test, the four key words, the trip. -/
theorem while4_eq (i : grid1.Coords) (v13 : BitVec 32) (v10 : FVec F S16x2048 .f32) (arg1 : Memref sig .tc .smem S160 .i32) (harg1 : arg1.IsWhole)
    (v7 : IVec S16x2048 32) (v17 : IVec S16x2048 1) (j : ℕ) (s : IVec S16x2048 32) :
    cc1_while1 (F := F) i v13 v10 arg1 harg1 v7 v17 (BitVec.ofNat 32 j) s =
      (if Scalar.cmpi .slt (BitVec.ofNat 32 j) v13 = 1#1 then do
        have h : k1_chk1 (BitVec.ofNat 32 j) := (← Prog.lift (TpuEff.assume (k1_chk1 (BitVec.ofNat 32 j)) (k1_chk1.dec (BitVec.ofNat 32 j)))).down
        let w0 : Elt F .i32 ← smemLoad arg1 (Rect.unit (s := S160) (k1_off2 (BitVec.ofNat 32 j)) S1.size (k1_off2_inb _ h)) numel1_S1 rfl
        let w1 : Elt F .i32 ← smemLoad arg1 (Rect.unit (s := S160) (k1_off3 (BitVec.ofNat 32 j) 1#32) S1.size (k1_off3_inb _ h 0)) numel1_S1 rfl
        let w2 : Elt F .i32 ← smemLoad arg1 (Rect.unit (s := S160) (k1_off3 (BitVec.ofNat 32 j) 2#32) S1.size (k1_off3_inb _ h 1)) numel1_S1 rfl
        let w3 : Elt F .i32 ← smemLoad arg1 (Rect.unit (s := S160) (k1_off3 (BitVec.ofNat 32 j) 3#32) S1.size (k1_off3_inb _ h 2)) numel1_S1 rfl
        Prog.lift (.call (5 : (Λ₀ F).Label) ⟨i, v13, v10, arg1, harg1, v7, v17, Scalar.addi (BitVec.ofNat 32 j) 1#32,
          bStep v10 v7 v17 w0 w1 w2 w3 s⟩)
      else pure (BitVec.ofNat 32 j, s) :
        Prog (TpuEff nD τ sig (Elt F) (Λ₀ F) .tc) (BitVec 32 × IVec S16x2048 32)) := by
  simp only [cc1_while1_eq_skeleton, cc1_while1_skel, k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel]
  rfl

end Cert.Proof.KernelIdeal

end
-- ==== Proof.KernelIdeal.Loops.lean ====
/-
  The kernel's loops run: each loop's label, called on any table it holds, returns what iterating the trips gives. Generic in the
  float values. The index checks hold because the counter stays below the loop's cap.
-/
module

public import proofs.«01_k».proof.Proof.Rules
public import proofs.«01_k».proof.Proof.Gen.KernelIdeal.Skeleton
public import Idealize.ShloMosaic.Lib.Rounds
public import Idealize.ShloMosaic.Lib.Pipeline.Sound
public import proofs.«01_k».proof.Proof.KernelIdeal.Steps

@[expose] public section

noncomputable section

-- the branches of a proof share their simp sets

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the rounds library's, for the pipeline's cells -/

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- Labels are entered at a number of trips still possible. -/
abbrev 𝒱₀ : Variants := Variants.nat

/-! ## Counters -/

/-- The checks of a trip's table places, at each counter below the cap, and the places. -/
theorem chk1 : ∀ j < 64, k0_chk1 (BitVec.ofNat 32 j) := by decide
theorem chk2 : ∀ j < 64, k0_chk2 (BitVec.ofNat 32 j) := by decide
theorem chk3 : ∀ j < 40, k0_chk3 (BitVec.ofNat 32 j) := by decide
theorem chk4 : ∀ j < 40, k1_chk1 (BitVec.ofNat 32 j) := by decide
theorem off1 : ∀ j < 64, k0_off1 (BitVec.ofNat 32 j) 0 = 2 * j := by decide
theorem off2 : ∀ j < 64, k0_off2 (BitVec.ofNat 32 j) 0 = 2 * j + 1 := by decide
theorem off3 : ∀ j < 64, k0_off3 (BitVec.ofNat 32 j) 0 = 2 * j := by decide
theorem off4 : ∀ j < 64, k0_off4 (BitVec.ofNat 32 j) 0 = 2 * j + 1 := by decide
theorem off5 : ∀ j < 40, k0_off5 (BitVec.ofNat 32 j) 0 = 4 * j := by decide
theorem off6_1 : ∀ j < 40, k0_off6 (BitVec.ofNat 32 j) 1#32 0 = 4 * j + 1 := by decide
theorem off6_2 : ∀ j < 40, k0_off6 (BitVec.ofNat 32 j) 2#32 0 = 4 * j + 2 := by decide
theorem off6_3 : ∀ j < 40, k0_off6 (BitVec.ofNat 32 j) 3#32 0 = 4 * j + 3 := by decide
theorem off7 : ∀ j < 40, k1_off2 (BitVec.ofNat 32 j) 0 = 4 * j := by decide
theorem off7_1 : ∀ j < 40, k1_off3 (BitVec.ofNat 32 j) 1#32 0 = 4 * j + 1 := by decide
theorem off7_2 : ∀ j < 40, k1_off3 (BitVec.ofNat 32 j) 2#32 0 = 4 * j + 2 := by decide
theorem off7_3 : ∀ j < 40, k1_off3 (BitVec.ofNat 32 j) 3#32 0 = 4 * j + 3 := by decide

/-! ## Knuth's loop over the first eight rows -/

/-- The loop with at most `k` trips from trip `j`. -/
def loop1 (v17 : FVec F S8x2048 .f32) (v18 : IVec S8x2048 32) (X : Vec F S128 .i32) (k j : ℕ) (s : (IVec S8x2048 32 × FVec F S8x2048 .f32)) : ℕ × (IVec S8x2048 32 × FVec F S8x2048 .f32) :=
  iter (kTest1 v17) (fun j s => kStep1 v17 v18 (word (Val := Elt F) (e := .i32) X (2 * j)) (word (Val := Elt F) (e := .i32) X (2 * j + 1)) s) k j s

/-- Its label's specification: it reads the table and returns the loop's counter and state. -/
def spec1 (c : Dev nD) (v17 : FVec F S8x2048 .f32) (v18 : IVec S8x2048 32) (arg : Memref sig .tc .smem S128 .i32) (q : PosShare TreeShare) (X : Vec F S128 .i32) (k j : ℕ) (s : (IVec S8x2048 32 × FVec F S8x2048 .f32)) :
    sWPT 𝕄 (BitVec 32 × (IVec S8x2048 32 × FVec F S8x2048 .f32)) := do
  sWPT.consume (owns (c : Thread nD τ) arg q X)
  sWPT.produce (owns (c : Thread nD τ) arg q X)
  pure (BitVec.ofNat 32 (loop1 v17 v18 X k j s).1, (loop1 v17 v18 X k j s).2)

theorem spec1_apply (c : Dev nD) (v17 : FVec F S8x2048 .f32) (v18 : IVec S8x2048 32) (arg : Memref sig .tc .smem S128 .i32) (q : PosShare TreeShare) (X : Vec F S128 .i32) (k j : ℕ) (s : (IVec S8x2048 32 × FVec F S8x2048 .f32))
    (K : BitVec 32 × (IVec S8x2048 32 × FVec F S8x2048 .f32) → sProp 𝕄) :
    spec1 c v17 v18 arg q X k j s K = iprop(owns (c : Thread nD τ) arg q X ∗ (owns (c : Thread nD τ) arg q X -∗
      K (BitVec.ofNat 32 (loop1 v17 v18 X k j s).1, (loop1 v17 v18 X k j s).2))) := rfl

/-- The label's body meets the specification, by induction on the trips still possible. -/
theorem spec1_le (c : Dev nD) (i : grid0.Coords) (v17 : FVec F S8x2048 .f32) (v18 : IVec S8x2048 32) (arg : Memref sig .tc .smem S128 .i32) (harg : arg.IsWhole) (q : PosShare TreeShare)
    (X : Vec F S128 .i32) (E : Set ℕ) :
    ∀ k j, j + k = 64 → ∀ (s : (IVec S8x2048 32 × FVec F S8x2048 .f32)) (K : BitVec 32 × (IVec S8x2048 32 × FVec F S8x2048 .f32) → sProp 𝕄),
      spec1 c v17 v18 arg q X k j s K
      ⊢ wp frame (wpE (defs₀ (F := F)) 𝒱₀ (c : Thread nD τ) (some k)) E
          (defs₀ (F := F) .tc 2 ⟨i, v17, arg, harg, v18, BitVec.ofNat 32 j, s.1, s.2⟩) K := by
  have test0 : ∀ (j : ℕ) (s : (IVec S8x2048 32 × FVec F S8x2048 .f32)), (kTest1 v17) j s = 1#1 → j ≤ 64 → j < 64 := by
    intro j s h hj
    exact lt_of_andi_slt 64 (by decide) j hj _ h
  intro k
  induction k with
  | zero =>
    intro j hj s K
    rw [spec1_apply]
    show _ ⊢ wp frame (wpE (defs₀ (F := F)) 𝒱₀ (c : Thread nD τ) (some 0)) E (cc0_while1 i v17 arg harg v18 (BitVec.ofNat 32 j) s.1 s.2) K
    rw [while1_eq, if_neg (fun h => absurd (test0 j s h (by omega)) (by omega)), Prog.pure_eq_ret]
    rw [show loop1 v17 v18 X 0 j s = (j, s) from rfl]
    iintro ⟨H, Hk⟩
    rw [wp_ret]; imodintro
    iapply Hk $$ H
  | succ k ih =>
    intro j hj s K
    rw [spec1_apply]
    show _ ⊢ wp frame (wpE (defs₀ (F := F)) 𝒱₀ (c : Thread nD τ) (some (k + 1))) E (cc0_while1 i v17 arg harg v18 (BitVec.ofNat 32 j) s.1 s.2) K
    rw [while1_eq]
    by_cases h : (kTest1 v17) j s = 1#1
    swap
    · rw [if_neg h, Prog.pure_eq_ret]
      have hl : loop1 v17 v18 X (k + 1) j s = (j, s) := by unfold loop1; rw [iter, if_neg h]
      iintro ⟨H, Hk⟩
      rw [wp_ret]; imodintro
      rw [hl]
      iapply Hk $$ H
    have hj' : j < 64 := test0 j s h (by omega)
    have hl : loop1 v17 v18 X (k + 1) j s = loop1 v17 v18 X k (j + 1) (kStep1 v17 v18 (word (Val := Elt F) (e := .i32) X (2 * j)) (word (Val := Elt F) (e := .i32) X (2 * j + 1)) s) := by
      unfold loop1; rw [iter, if_pos h]
    rw [if_pos h, hl]
    simp only [smemLoad, smemLoadElt, Prog.lift, Prog.bind_op, Prog.bind_ret]
    iintro ⟨H, Hk⟩
    iapply (wp_assume 𝒱₀ (c : Thread nD τ) (some (k + 1)) E (chk1 j hj'))
    iapply (wp_word_at 𝒱₀ (c : Thread nD τ) (some (k + 1)) E (2 * j) (off1 j hj')) $$ H; iintro H
    iapply (wp_word_at 𝒱₀ (c : Thread nD τ) (some (k + 1)) E (2 * j + 1) (off2 j hj')) $$ H; iintro H
    rw [addi_one]
    iapply (wp_call_spec 𝒱₀ (c : Thread nD τ) (some (k + 1)) E (spec1 c v17 v18 arg q X k (j + 1) (kStep1 v17 v18 (word (Val := Elt F) (e := .i32) X (2 * j)) (word (Val := Elt F) (e := .i32) X (2 * j + 1)) s)) k
      (fun u hu => by cases hu; exact Nat.lt_succ_self k) (ih (j + 1) (by omega) _))
    rw [spec1_apply]
    isplitl [H]; · iexact H
    iintro H
    rw [wp_ret]; imodintro
    iapply Hk $$ H

/-! ## Knuth's loop over the second eight rows -/

/-- The loop with at most `k` trips from trip `j`. -/
def loop2 (v17 : FVec F S8x2048 .f32) (v18 : IVec S8x2048 32) (X : Vec F S128 .i32) (k j : ℕ) (s : (IVec S8x2048 32 × FVec F S8x2048 .f32)) : ℕ × (IVec S8x2048 32 × FVec F S8x2048 .f32) :=
  iter (kTest2 v17) (fun j s => kStep2 v17 v18 (word (Val := Elt F) (e := .i32) X (2 * j)) (word (Val := Elt F) (e := .i32) X (2 * j + 1)) s) k j s

/-- Its label's specification: it reads the table and returns the loop's counter and state. -/
def spec2 (c : Dev nD) (v17 : FVec F S8x2048 .f32) (v18 : IVec S8x2048 32) (arg : Memref sig .tc .smem S128 .i32) (q : PosShare TreeShare) (X : Vec F S128 .i32) (k j : ℕ) (s : (IVec S8x2048 32 × FVec F S8x2048 .f32)) :
    sWPT 𝕄 (BitVec 32 × (IVec S8x2048 32 × FVec F S8x2048 .f32)) := do
  sWPT.consume (owns (c : Thread nD τ) arg q X)
  sWPT.produce (owns (c : Thread nD τ) arg q X)
  pure (BitVec.ofNat 32 (loop2 v17 v18 X k j s).1, (loop2 v17 v18 X k j s).2)

theorem spec2_apply (c : Dev nD) (v17 : FVec F S8x2048 .f32) (v18 : IVec S8x2048 32) (arg : Memref sig .tc .smem S128 .i32) (q : PosShare TreeShare) (X : Vec F S128 .i32) (k j : ℕ) (s : (IVec S8x2048 32 × FVec F S8x2048 .f32))
    (K : BitVec 32 × (IVec S8x2048 32 × FVec F S8x2048 .f32) → sProp 𝕄) :
    spec2 c v17 v18 arg q X k j s K = iprop(owns (c : Thread nD τ) arg q X ∗ (owns (c : Thread nD τ) arg q X -∗
      K (BitVec.ofNat 32 (loop2 v17 v18 X k j s).1, (loop2 v17 v18 X k j s).2))) := rfl

/-- The label's body meets the specification, by induction on the trips still possible. -/
theorem spec2_le (c : Dev nD) (i : grid0.Coords) (v17 : FVec F S8x2048 .f32) (v18 : IVec S8x2048 32) (arg : Memref sig .tc .smem S128 .i32) (harg : arg.IsWhole) (q : PosShare TreeShare)
    (X : Vec F S128 .i32) (E : Set ℕ) :
    ∀ k j, j + k = 64 → ∀ (s : (IVec S8x2048 32 × FVec F S8x2048 .f32)) (K : BitVec 32 × (IVec S8x2048 32 × FVec F S8x2048 .f32) → sProp 𝕄),
      spec2 c v17 v18 arg q X k j s K
      ⊢ wp frame (wpE (defs₀ (F := F)) 𝒱₀ (c : Thread nD τ) (some k)) E
          (defs₀ (F := F) .tc 3 ⟨i, v17, arg, harg, v18, BitVec.ofNat 32 j, s.1, s.2⟩) K := by
  have test0 : ∀ (j : ℕ) (s : (IVec S8x2048 32 × FVec F S8x2048 .f32)), (kTest2 v17) j s = 1#1 → j ≤ 64 → j < 64 := by
    intro j s h hj
    exact lt_of_andi_slt 64 (by decide) j hj _ h
  intro k
  induction k with
  | zero =>
    intro j hj s K
    rw [spec2_apply]
    show _ ⊢ wp frame (wpE (defs₀ (F := F)) 𝒱₀ (c : Thread nD τ) (some 0)) E (cc0_while2 i v17 arg harg v18 (BitVec.ofNat 32 j) s.1 s.2) K
    rw [while2_eq, if_neg (fun h => absurd (test0 j s h (by omega)) (by omega)), Prog.pure_eq_ret]
    rw [show loop2 v17 v18 X 0 j s = (j, s) from rfl]
    iintro ⟨H, Hk⟩
    rw [wp_ret]; imodintro
    iapply Hk $$ H
  | succ k ih =>
    intro j hj s K
    rw [spec2_apply]
    show _ ⊢ wp frame (wpE (defs₀ (F := F)) 𝒱₀ (c : Thread nD τ) (some (k + 1))) E (cc0_while2 i v17 arg harg v18 (BitVec.ofNat 32 j) s.1 s.2) K
    rw [while2_eq]
    by_cases h : (kTest2 v17) j s = 1#1
    swap
    · rw [if_neg h, Prog.pure_eq_ret]
      have hl : loop2 v17 v18 X (k + 1) j s = (j, s) := by unfold loop2; rw [iter, if_neg h]
      iintro ⟨H, Hk⟩
      rw [wp_ret]; imodintro
      rw [hl]
      iapply Hk $$ H
    have hj' : j < 64 := test0 j s h (by omega)
    have hl : loop2 v17 v18 X (k + 1) j s = loop2 v17 v18 X k (j + 1) (kStep2 v17 v18 (word (Val := Elt F) (e := .i32) X (2 * j)) (word (Val := Elt F) (e := .i32) X (2 * j + 1)) s) := by
      unfold loop2; rw [iter, if_pos h]
    rw [if_pos h, hl]
    simp only [smemLoad, smemLoadElt, Prog.lift, Prog.bind_op, Prog.bind_ret]
    iintro ⟨H, Hk⟩
    iapply (wp_assume 𝒱₀ (c : Thread nD τ) (some (k + 1)) E (chk2 j hj'))
    iapply (wp_word_at 𝒱₀ (c : Thread nD τ) (some (k + 1)) E (2 * j) (off3 j hj')) $$ H; iintro H
    iapply (wp_word_at 𝒱₀ (c : Thread nD τ) (some (k + 1)) E (2 * j + 1) (off4 j hj')) $$ H; iintro H
    rw [addi_one]
    iapply (wp_call_spec 𝒱₀ (c : Thread nD τ) (some (k + 1)) E (spec2 c v17 v18 arg q X k (j + 1) (kStep2 v17 v18 (word (Val := Elt F) (e := .i32) X (2 * j)) (word (Val := Elt F) (e := .i32) X (2 * j + 1)) s)) k
      (fun u hu => by cases hu; exact Nat.lt_succ_self k) (ih (j + 1) (by omega) _))
    rw [spec2_apply]
    isplitl [H]; · iexact H
    iintro H
    rw [wp_ret]; imodintro
    iapply Hk $$ H

/-! ## The rejection loop of the first pass -/

/-- The loop with at most `k` trips from trip `j`. -/
def loop3 (v7 : IVec S16x2048 32) (v44 v40 v35 v50 v57 v56 : FVec F S16x2048 .f32) (X : Vec F S160 .i32) (k j : ℕ) (s : (IVec S16x2048 32 × FVec F S16x2048 .f32)) : ℕ × (IVec S16x2048 32 × FVec F S16x2048 .f32) :=
  iter rTest (fun j s => rStep v7 v44 v40 v35 v50 v57 v56 (BitVec.ofNat 32 j) (word (Val := Elt F) (e := .i32) X (4 * j)) (word (Val := Elt F) (e := .i32) X (4 * j + 1)) (word (Val := Elt F) (e := .i32) X (4 * j + 2)) (word (Val := Elt F) (e := .i32) X (4 * j + 3)) s) k j s

/-- Its label's specification: it reads the table and returns the loop's counter and state. -/
def spec3 (c : Dev nD) (v7 : IVec S16x2048 32) (v44 v40 v35 v50 v57 v56 : FVec F S16x2048 .f32) (arg : Memref sig .tc .smem S160 .i32) (q : PosShare TreeShare) (X : Vec F S160 .i32) (k j : ℕ) (s : (IVec S16x2048 32 × FVec F S16x2048 .f32)) :
    sWPT 𝕄 (BitVec 32 × (IVec S16x2048 32 × FVec F S16x2048 .f32)) := do
  sWPT.consume (owns (c : Thread nD τ) arg q X)
  sWPT.produce (owns (c : Thread nD τ) arg q X)
  pure (BitVec.ofNat 32 (loop3 v7 v44 v40 v35 v50 v57 v56 X k j s).1, (loop3 v7 v44 v40 v35 v50 v57 v56 X k j s).2)

theorem spec3_apply (c : Dev nD) (v7 : IVec S16x2048 32) (v44 v40 v35 v50 v57 v56 : FVec F S16x2048 .f32) (arg : Memref sig .tc .smem S160 .i32) (q : PosShare TreeShare) (X : Vec F S160 .i32) (k j : ℕ) (s : (IVec S16x2048 32 × FVec F S16x2048 .f32))
    (K : BitVec 32 × (IVec S16x2048 32 × FVec F S16x2048 .f32) → sProp 𝕄) :
    spec3 c v7 v44 v40 v35 v50 v57 v56 arg q X k j s K = iprop(owns (c : Thread nD τ) arg q X ∗ (owns (c : Thread nD τ) arg q X -∗
      K (BitVec.ofNat 32 (loop3 v7 v44 v40 v35 v50 v57 v56 X k j s).1, (loop3 v7 v44 v40 v35 v50 v57 v56 X k j s).2))) := rfl

/-- The label's body meets the specification, by induction on the trips still possible. -/
theorem spec3_le (c : Dev nD) (i : grid0.Coords) (v7 : IVec S16x2048 32) (v44 v40 v35 v50 v57 v56 : FVec F S16x2048 .f32) (arg : Memref sig .tc .smem S160 .i32) (harg : arg.IsWhole) (q : PosShare TreeShare)
    (X : Vec F S160 .i32) (E : Set ℕ) :
    ∀ k j, j + k = 40 → ∀ (s : (IVec S16x2048 32 × FVec F S16x2048 .f32)) (K : BitVec 32 × (IVec S16x2048 32 × FVec F S16x2048 .f32) → sProp 𝕄),
      spec3 c v7 v44 v40 v35 v50 v57 v56 arg q X k j s K
      ⊢ wp frame (wpE (defs₀ (F := F)) 𝒱₀ (c : Thread nD τ) (some k)) E
          (defs₀ (F := F) .tc 4 ⟨i, arg, harg, v7, v44, v40, v35, v50, v57, v56, BitVec.ofNat 32 j, s.1, s.2⟩) K := by
  have test0 : ∀ (j : ℕ) (s : (IVec S16x2048 32 × FVec F S16x2048 .f32)), rTest j s = 1#1 → j ≤ 40 → j < 40 := by
    intro j s h hj
    exact lt_of_andi_slt 40 (by decide) j hj _ h
  intro k
  induction k with
  | zero =>
    intro j hj s K
    rw [spec3_apply]
    show _ ⊢ wp frame (wpE (defs₀ (F := F)) 𝒱₀ (c : Thread nD τ) (some 0)) E (cc0_while3 i arg harg v7 v44 v40 v35 v50 v57 v56 (BitVec.ofNat 32 j) s.1 s.2) K
    rw [while3_eq, if_neg (fun h => absurd (test0 j s h (by omega)) (by omega)), Prog.pure_eq_ret]
    rw [show loop3 v7 v44 v40 v35 v50 v57 v56 X 0 j s = (j, s) from rfl]
    iintro ⟨H, Hk⟩
    rw [wp_ret]; imodintro
    iapply Hk $$ H
  | succ k ih =>
    intro j hj s K
    rw [spec3_apply]
    show _ ⊢ wp frame (wpE (defs₀ (F := F)) 𝒱₀ (c : Thread nD τ) (some (k + 1))) E (cc0_while3 i arg harg v7 v44 v40 v35 v50 v57 v56 (BitVec.ofNat 32 j) s.1 s.2) K
    rw [while3_eq]
    by_cases h : rTest j s = 1#1
    swap
    · rw [if_neg h, Prog.pure_eq_ret]
      have hl : loop3 v7 v44 v40 v35 v50 v57 v56 X (k + 1) j s = (j, s) := by unfold loop3; rw [iter, if_neg h]
      iintro ⟨H, Hk⟩
      rw [wp_ret]; imodintro
      rw [hl]
      iapply Hk $$ H
    have hj' : j < 40 := test0 j s h (by omega)
    have hl : loop3 v7 v44 v40 v35 v50 v57 v56 X (k + 1) j s = loop3 v7 v44 v40 v35 v50 v57 v56 X k (j + 1) (rStep v7 v44 v40 v35 v50 v57 v56 (BitVec.ofNat 32 j) (word (Val := Elt F) (e := .i32) X (4 * j)) (word (Val := Elt F) (e := .i32) X (4 * j + 1)) (word (Val := Elt F) (e := .i32) X (4 * j + 2)) (word (Val := Elt F) (e := .i32) X (4 * j + 3)) s) := by
      unfold loop3; rw [iter, if_pos h]
    rw [if_pos h, hl]
    simp only [smemLoad, smemLoadElt, Prog.lift, Prog.bind_op, Prog.bind_ret]
    iintro ⟨H, Hk⟩
    iapply (wp_assume 𝒱₀ (c : Thread nD τ) (some (k + 1)) E (chk3 j hj'))
    iapply (wp_word_at 𝒱₀ (c : Thread nD τ) (some (k + 1)) E (4 * j) (off5 j hj')) $$ H; iintro H
    iapply (wp_word_at 𝒱₀ (c : Thread nD τ) (some (k + 1)) E (4 * j + 1) (off6_1 j hj')) $$ H; iintro H
    iapply (wp_word_at 𝒱₀ (c : Thread nD τ) (some (k + 1)) E (4 * j + 2) (off6_2 j hj')) $$ H; iintro H
    iapply (wp_word_at 𝒱₀ (c : Thread nD τ) (some (k + 1)) E (4 * j + 3) (off6_3 j hj')) $$ H; iintro H
    rw [addi_one]
    iapply (wp_call_spec 𝒱₀ (c : Thread nD τ) (some (k + 1)) E (spec3 c v7 v44 v40 v35 v50 v57 v56 arg q X k (j + 1) (rStep v7 v44 v40 v35 v50 v57 v56 (BitVec.ofNat 32 j) (word (Val := Elt F) (e := .i32) X (4 * j)) (word (Val := Elt F) (e := .i32) X (4 * j + 1)) (word (Val := Elt F) (e := .i32) X (4 * j + 2)) (word (Val := Elt F) (e := .i32) X (4 * j + 3)) s)) k
      (fun u hu => by cases hu; exact Nat.lt_succ_self k) (ih (j + 1) (by omega) _))
    rw [spec3_apply]
    isplitl [H]; · iexact H
    iintro H
    rw [wp_ret]; imodintro
    iapply Hk $$ H

/-! ## The loop of the second pass -/

/-- The loop with at most `k` trips from trip `j`. -/
def loop4 (v13 : BitVec 32) (v10 : FVec F S16x2048 .f32) (v7 : IVec S16x2048 32) (v17 : IVec S16x2048 1) (X : Vec F S160 .i32) (k j : ℕ) (s : (IVec S16x2048 32)) : ℕ × (IVec S16x2048 32) :=
  iter (fun j _ => Scalar.cmpi .slt (BitVec.ofNat 32 j) v13) (fun j s => bStep v10 v7 v17 (word (Val := Elt F) (e := .i32) X (4 * j)) (word (Val := Elt F) (e := .i32) X (4 * j + 1)) (word (Val := Elt F) (e := .i32) X (4 * j + 2)) (word (Val := Elt F) (e := .i32) X (4 * j + 3)) s) k j s

/-- Its label's specification: it reads the table and returns the loop's counter and state. -/
def spec4 (c : Dev nD) (v13 : BitVec 32) (v10 : FVec F S16x2048 .f32) (v7 : IVec S16x2048 32) (v17 : IVec S16x2048 1) (arg : Memref sig .tc .smem S160 .i32) (q : PosShare TreeShare) (X : Vec F S160 .i32) (k j : ℕ) (s : (IVec S16x2048 32)) :
    sWPT 𝕄 (BitVec 32 × (IVec S16x2048 32)) := do
  sWPT.consume (owns (c : Thread nD τ) arg q X)
  sWPT.produce (owns (c : Thread nD τ) arg q X)
  pure (BitVec.ofNat 32 (loop4 v13 v10 v7 v17 X k j s).1, (loop4 v13 v10 v7 v17 X k j s).2)

theorem spec4_apply (c : Dev nD) (v13 : BitVec 32) (v10 : FVec F S16x2048 .f32) (v7 : IVec S16x2048 32) (v17 : IVec S16x2048 1) (arg : Memref sig .tc .smem S160 .i32) (q : PosShare TreeShare) (X : Vec F S160 .i32) (k j : ℕ) (s : (IVec S16x2048 32))
    (K : BitVec 32 × (IVec S16x2048 32) → sProp 𝕄) :
    spec4 c v13 v10 v7 v17 arg q X k j s K = iprop(owns (c : Thread nD τ) arg q X ∗ (owns (c : Thread nD τ) arg q X -∗
      K (BitVec.ofNat 32 (loop4 v13 v10 v7 v17 X k j s).1, (loop4 v13 v10 v7 v17 X k j s).2))) := rfl

/-- The label's body meets the specification, by induction on the trips still possible. -/
theorem spec4_le (c : Dev nD) (i : grid1.Coords) (v13 : BitVec 32) (v10 : FVec F S16x2048 .f32) (v7 : IVec S16x2048 32) (v17 : IVec S16x2048 1) (arg : Memref sig .tc .smem S160 .i32) (harg : arg.IsWhole) (q : PosShare TreeShare)
    (X : Vec F S160 .i32) (E : Set ℕ) (hv : v13.toNat ≤ 40) :
    ∀ k j, j ≤ 40 → v13.toNat ≤ j + k → ∀ (s : (IVec S16x2048 32)) (K : BitVec 32 × (IVec S16x2048 32) → sProp 𝕄),
      spec4 c v13 v10 v7 v17 arg q X k j s K
      ⊢ wp frame (wpE (defs₀ (F := F)) 𝒱₀ (c : Thread nD τ) (some k)) E
          (defs₀ (F := F) .tc 5 ⟨i, v13, v10, arg, harg, v7, v17, BitVec.ofNat 32 j, s⟩) K := by
  have test0 : ∀ (j : ℕ) (s : (IVec S16x2048 32)), Scalar.cmpi .slt (BitVec.ofNat 32 j) v13 = 1#1 → j ≤ 40 → j < v13.toNat := by
    intro j s h hj
    exact lt_of_slt j hj v13 hv h
  intro k
  induction k with
  | zero =>
    intro j hj hjk s K
    rw [spec4_apply]
    show _ ⊢ wp frame (wpE (defs₀ (F := F)) 𝒱₀ (c : Thread nD τ) (some 0)) E (cc1_while1 i v13 v10 arg harg v7 v17 (BitVec.ofNat 32 j) s) K
    rw [while4_eq, if_neg (fun h => absurd (test0 j s h (by omega)) (by omega)), Prog.pure_eq_ret]
    rw [show loop4 v13 v10 v7 v17 X 0 j s = (j, s) from rfl]
    iintro ⟨H, Hk⟩
    rw [wp_ret]; imodintro
    iapply Hk $$ H
  | succ k ih =>
    intro j hj hjk s K
    rw [spec4_apply]
    show _ ⊢ wp frame (wpE (defs₀ (F := F)) 𝒱₀ (c : Thread nD τ) (some (k + 1))) E (cc1_while1 i v13 v10 arg harg v7 v17 (BitVec.ofNat 32 j) s) K
    rw [while4_eq]
    by_cases h : Scalar.cmpi .slt (BitVec.ofNat 32 j) v13 = 1#1
    swap
    · rw [if_neg h, Prog.pure_eq_ret]
      have hl : loop4 v13 v10 v7 v17 X (k + 1) j s = (j, s) := by unfold loop4; rw [iter, if_neg h]
      iintro ⟨H, Hk⟩
      rw [wp_ret]; imodintro
      rw [hl]
      iapply Hk $$ H
    have hj' : j < 40 := lt_of_lt_of_le (test0 j s h hj) hv
    have hl : loop4 v13 v10 v7 v17 X (k + 1) j s = loop4 v13 v10 v7 v17 X k (j + 1) (bStep v10 v7 v17 (word (Val := Elt F) (e := .i32) X (4 * j)) (word (Val := Elt F) (e := .i32) X (4 * j + 1)) (word (Val := Elt F) (e := .i32) X (4 * j + 2)) (word (Val := Elt F) (e := .i32) X (4 * j + 3)) s) := by
      unfold loop4; rw [iter, if_pos h]
    rw [if_pos h, hl]
    simp only [smemLoad, smemLoadElt, Prog.lift, Prog.bind_op, Prog.bind_ret]
    iintro ⟨H, Hk⟩
    iapply (wp_assume 𝒱₀ (c : Thread nD τ) (some (k + 1)) E (chk4 j hj'))
    iapply (wp_word_at 𝒱₀ (c : Thread nD τ) (some (k + 1)) E (4 * j) (off7 j hj')) $$ H; iintro H
    iapply (wp_word_at 𝒱₀ (c : Thread nD τ) (some (k + 1)) E (4 * j + 1) (off7_1 j hj')) $$ H; iintro H
    iapply (wp_word_at 𝒱₀ (c : Thread nD τ) (some (k + 1)) E (4 * j + 2) (off7_2 j hj')) $$ H; iintro H
    iapply (wp_word_at 𝒱₀ (c : Thread nD τ) (some (k + 1)) E (4 * j + 3) (off7_3 j hj')) $$ H; iintro H
    rw [addi_one]
    iapply (wp_call_spec 𝒱₀ (c : Thread nD τ) (some (k + 1)) E (spec4 c v13 v10 v7 v17 arg q X k (j + 1) (bStep v10 v7 v17 (word (Val := Elt F) (e := .i32) X (4 * j)) (word (Val := Elt F) (e := .i32) X (4 * j + 1)) (word (Val := Elt F) (e := .i32) X (4 * j + 2)) (word (Val := Elt F) (e := .i32) X (4 * j + 3)) s)) k
      (fun u hu => by cases hu; exact Nat.lt_succ_self k) (ih (j + 1) (by omega) (by omega) _))
    rw [spec4_apply]
    isplitl [H]; · iexact H
    iintro H
    rw [wp_ret]; imodintro
    iapply Hk $$ H

end Cert.Proof.KernelIdeal

end
-- ==== Proof.KernelIdeal.Body.lean ====
/-
  The two kernels' bodies on any buffers they hold: what each leaves in its result buffers, as a function of the blocks and tables
  it reads. Generic in the float values. The second pass runs only for as many trips as the table has rounds, which its two index words
  must allow.
-/
module

public import proofs.«01_k».proof.Proof.Rules
public import proofs.«01_k».proof.Proof.Gen.KernelIdeal.Skeleton
public import Idealize.ShloMosaic.Lib.Rounds
public import Idealize.ShloMosaic.Lib.Pipeline.Sound
public import proofs.«01_k».proof.Proof.KernelIdeal.Loops
public import proofs.«01_k».proof.Proof.Gen.KernelIdeal.Points
public import Idealize.ShloMosaic.Lib.Pipeline.FrameBody

@[expose] public section

noncomputable section

-- the branches of a proof share their simp sets

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR nD τ) ℕ

attribute [local irreducible] loop1 loop2 loop3 loop4 spec1 spec2 spec3 spec4

/-! ## The calls of the loops -/

/-- Knuth's loop over the first eight rows. -/
theorem call1 (c : Dev nD) (i : grid0.Coords) (v17 : FVec F S8x2048 .f32) (v18 : IVec S8x2048 32) (arg : Memref sig .tc .smem S128 .i32) (harg : arg.IsWhole)
    (X : Vec F S128 .i32) (a : IVec S8x2048 32) (b : FVec F S8x2048 .f32) {α : Type} (f : BitVec 32 × (IVec S8x2048 32 × FVec F S8x2048 .f32) → Prog (TpuEff nD τ sig (Elt F) (Λ₀ F) .tc) α) (Q : α → sProp (MT nD τ sig Unit (Elt F) ℕ (UR nD τ) ℕ)) :
    iprop(owns (c : Thread nD τ) arg fullShare X ∗ (owns (c : Thread nD τ) arg fullShare X -∗
        wp frame (wpE (defs₀ (F := F)) 𝒱₀ (c : Thread nD τ) none) Set.univ (f (BitVec.ofNat 32 (loop1 v17 v18 X 64 0 (a, b)).1, (loop1 v17 v18 X 64 0 (a, b)).2)) Q))
      ⊢ wp frame (wpE (defs₀ (F := F)) 𝒱₀ (c : Thread nD τ) none) Set.univ (.op (.call (2 : (Λ₀ F).Label) ⟨i, v17, arg, harg, v18, 0#32, a, b⟩) f) Q := by
  generalize hn : (64 : ℕ) = n
  iintro H
  iapply (wp_call_spec 𝒱₀ (c : Thread nD τ) none Set.univ (spec1 c v17 v18 arg fullShare X n 0 (a, b)) n (fun u hu => nomatch hu)
    (spec1_le c i v17 v18 arg harg fullShare X Set.univ n 0 (by omega) (a, b)))
  rw [spec1_apply]
  iexact H

/-- Knuth's loop over the second eight rows. -/
theorem call2 (c : Dev nD) (i : grid0.Coords) (v17 : FVec F S8x2048 .f32) (v18 : IVec S8x2048 32) (arg : Memref sig .tc .smem S128 .i32) (harg : arg.IsWhole)
    (X : Vec F S128 .i32) (a : IVec S8x2048 32) (b : FVec F S8x2048 .f32) {α : Type} (f : BitVec 32 × (IVec S8x2048 32 × FVec F S8x2048 .f32) → Prog (TpuEff nD τ sig (Elt F) (Λ₀ F) .tc) α) (Q : α → sProp (MT nD τ sig Unit (Elt F) ℕ (UR nD τ) ℕ)) :
    iprop(owns (c : Thread nD τ) arg fullShare X ∗ (owns (c : Thread nD τ) arg fullShare X -∗
        wp frame (wpE (defs₀ (F := F)) 𝒱₀ (c : Thread nD τ) none) Set.univ (f (BitVec.ofNat 32 (loop2 v17 v18 X 64 0 (a, b)).1, (loop2 v17 v18 X 64 0 (a, b)).2)) Q))
      ⊢ wp frame (wpE (defs₀ (F := F)) 𝒱₀ (c : Thread nD τ) none) Set.univ (.op (.call (3 : (Λ₀ F).Label) ⟨i, v17, arg, harg, v18, 0#32, a, b⟩) f) Q := by
  generalize hn : (64 : ℕ) = n
  iintro H
  iapply (wp_call_spec 𝒱₀ (c : Thread nD τ) none Set.univ (spec2 c v17 v18 arg fullShare X n 0 (a, b)) n (fun u hu => nomatch hu)
    (spec2_le c i v17 v18 arg harg fullShare X Set.univ n 0 (by omega) (a, b)))
  rw [spec2_apply]
  iexact H

/-- The rejection loop. -/
theorem call3 (c : Dev nD) (i : grid0.Coords) (v7 : IVec S16x2048 32) (v44 v40 v35 v50 v57 v56 : FVec F S16x2048 .f32) (arg : Memref sig .tc .smem S160 .i32) (harg : arg.IsWhole)
    (X : Vec F S160 .i32) (a : IVec S16x2048 32) (b : FVec F S16x2048 .f32) {α : Type} (f : BitVec 32 × (IVec S16x2048 32 × FVec F S16x2048 .f32) → Prog (TpuEff nD τ sig (Elt F) (Λ₀ F) .tc) α) (Q : α → sProp (MT nD τ sig Unit (Elt F) ℕ (UR nD τ) ℕ)) :
    iprop(owns (c : Thread nD τ) arg fullShare X ∗ (owns (c : Thread nD τ) arg fullShare X -∗
        wp frame (wpE (defs₀ (F := F)) 𝒱₀ (c : Thread nD τ) none) Set.univ (f (BitVec.ofNat 32 (loop3 v7 v44 v40 v35 v50 v57 v56 X 40 0 (a, b)).1, (loop3 v7 v44 v40 v35 v50 v57 v56 X 40 0 (a, b)).2)) Q))
      ⊢ wp frame (wpE (defs₀ (F := F)) 𝒱₀ (c : Thread nD τ) none) Set.univ (.op (.call (4 : (Λ₀ F).Label) ⟨i, arg, harg, v7, v44, v40, v35, v50, v57, v56, 0#32, a, b⟩) f) Q := by
  generalize hn : (40 : ℕ) = n
  iintro H
  iapply (wp_call_spec 𝒱₀ (c : Thread nD τ) none Set.univ (spec3 c v7 v44 v40 v35 v50 v57 v56 arg fullShare X n 0 (a, b)) n (fun u hu => nomatch hu)
    (spec3_le c i v7 v44 v40 v35 v50 v57 v56 arg harg fullShare X Set.univ n 0 (by omega) (a, b)))
  rw [spec3_apply]
  iexact H

/-- The second pass's loop, from a round `w` to `v13`, both at most the number of rounds. -/
theorem call4 (c : Dev nD) (i : grid1.Coords) (v13 : BitVec 32) (v10 : FVec F S16x2048 .f32) (v7 : IVec S16x2048 32) (v17 : IVec S16x2048 1) (arg : Memref sig .tc .smem S160 .i32) (harg : arg.IsWhole)
    (X : Vec F S160 .i32) (hv : v13.toNat ≤ 40) (w : BitVec 32) (hw : w.toNat ≤ 40) (s : IVec S16x2048 32) {α : Type} (f : BitVec 32 × IVec S16x2048 32 → Prog (TpuEff nD τ sig (Elt F) (Λ₀ F) .tc) α) (Q : α → sProp (MT nD τ sig Unit (Elt F) ℕ (UR nD τ) ℕ)) :
    iprop(owns (c : Thread nD τ) arg fullShare X ∗ (owns (c : Thread nD τ) arg fullShare X -∗
        wp frame (wpE (defs₀ (F := F)) 𝒱₀ (c : Thread nD τ) none) Set.univ (f (BitVec.ofNat 32 (loop4 v13 v10 v7 v17 X 40 w.toNat s).1, (loop4 v13 v10 v7 v17 X 40 w.toNat s).2)) Q))
      ⊢ wp frame (wpE (defs₀ (F := F)) 𝒱₀ (c : Thread nD τ) none) Set.univ (.op (.call (5 : (Λ₀ F).Label) ⟨i, v13, v10, arg, harg, v7, v17, w, s⟩) f) Q := by
  generalize hn : (40 : ℕ) = n at *
  have hle := spec4_le c i v13 v10 v7 v17 arg harg fullShare X Set.univ (by omega) n w.toNat (by omega) (by omega) s
  rw [show BitVec.ofNat 32 w.toNat = w by rw [BitVec.ofNat_toNat, BitVec.setWidth_eq]] at hle
  iintro H
  iapply (wp_call_spec 𝒱₀ (c : Thread nD τ) none Set.univ (spec4 c v13 v10 v7 v17 arg fullShare X n w.toNat s) n (fun u hu => nomatch hu) hle)
  rw [spec4_apply]
  iexact H

/-! ## What the first pass computes -/

/-- Knuth's counts of a block `x` at grid point `i`, with the first table. -/
def aCount (i : grid0.Coords) (x : Vec F S16x2048 .i32) (X : Vec F S128 .i32) : IVec S16x2048 32 :=
  k0_pay28 (loop1 (k0_pay20 x) (k0_pay21 i) X 64 0 (k0_pay22, k0_pay23 (F := F))).2.1
    (loop2 (k0_pay24 x) (k0_pay25 i) X 64 0 (k0_pay26, k0_pay27 (F := F))).2.1

/-- The rejection loop's outcome on a block: the first round that took, and what was taken. -/
def aRej (i : grid0.Coords) (x : Vec F S16x2048 .i32) (Y : Vec F S160 .i32) : ℕ × (IVec S16x2048 32 × FVec F S16x2048 .f32) :=
  loop3 (k0_pay17 i) (k0_pay2 (k0_pay30 x) k0_pay31) (k0_pay1 (k0_pay30 x) k0_pay31) (k0_pay29 x) (k0_pay3 (k0_pay30 x) k0_pay31)
    (k0_pay5 (k0_pay29 x)) (k0_pay4 (k0_pay30 x) k0_pay31) Y 40 0 (k0_pay6, k0_pay7 (F := F))

/-- The partial result of a block, and the block's round count. -/
def aPart (i : grid0.Coords) (x : Vec F S16x2048 .i32) (X : Vec F S128 .i32) (Y : Vec F S160 .i32) : Vec F S16x2048 .i32 :=
  k0_pay8 (k0_pay18 x) (aCount i x X) (aRej i x Y).2.2
def aRounds (i : grid0.Coords) (x : Vec F S16x2048 .i32) (Y : Vec F S160 .i32) : Vec F S1x8x128 .i32 := k0_pay9 (aRej i x Y).2.1

/-- A whole block is read as it is. -/
theorem idx_whole2 (inb : ∀ a, (![0, 0] : Fin 2 → ℕ) a + S16x2048.size a ≤ S16x2048.size a) (x : S16x2048.Idx) :
    (Rect.unit (s := S16x2048) ![0, 0] S16x2048.size inb).toLoadRect.idx x = x := by
  funext a; apply Fin.ext
  show (![0, 0] : Fin 2 → ℕ) a + 1 * (x a).val = _
  fin_cases a <;> simp
theorem idx_whole3 (inb : ∀ a, (![0, 0, 0] : Fin 3 → ℕ) a + S1x8x128.size a ≤ S1x8x128.size a) (x : S1x8x128.Idx) :
    (Rect.unit (s := S1x8x128) ![0, 0, 0] S1x8x128.size inb).toLoadRect.idx x = x := by
  funext a; apply Fin.ext
  show (![0, 0, 0] : Fin 3 → ℕ) a + 1 * (x a).val = _
  fin_cases a <;> simp

/-- The first pass's body. -/
theorem pass_a (c : Dev nD) (i : grid0.Coords) {a1 : Memref sig .tc .smem S128 .i32} {h1 : a1.IsWhole} {a2 : Memref sig .tc .smem S160 .i32} {h2 : a2.IsWhole}
    {a3 : Memref sig .tc .vmem S16x2048 .i32} {h3 : a3.IsWhole} {a4 : Memref sig .tc .vmem S16x2048 .i32} {h4 : a4.IsWhole}
    {a5 : Memref sig .tc .vmem S1x8x128 .i32} {h5 : a5.IsWhole} (X : Vec F S128 .i32) (Y : Vec F S160 .i32) (x y4 : Vec F S16x2048 .i32) (y5 : Vec F S1x8x128 .i32)
    (K : PUnit → sProp 𝕄) :
    iprop((owns (c : Thread nD τ) a1 fullShare X ∗ owns (c : Thread nD τ) a2 fullShare Y ∗ owns (c : Thread nD τ) a3 fullShare x
        ∗ owns (c : Thread nD τ) a4 fullShare y4 ∗ owns (c : Thread nD τ) a5 fullShare y5)
      ∗ ((owns (c : Thread nD τ) a1 fullShare X ∗ owns (c : Thread nD τ) a2 fullShare Y ∗ owns (c : Thread nD τ) a3 fullShare x
        ∗ owns (c : Thread nD τ) a4 fullShare (aPart i x X Y) ∗ owns (c : Thread nD τ) a5 fullShare (aRounds i x Y)) -∗ K ⟨⟩))
      ⊢ wp frame (wpE (defs₀ (F := F)) 𝒱₀ (c : Thread nD τ) none) Set.univ (cc0__pass_a_kernel i a1 h1 a2 h2 a3 h3 a4 h4 a5 h5) K := by
  simp only [cc0__pass_a_kernel_eq_skeleton, cc0__pass_a_kernel_skel, k0_part1_eq_skeleton, k0_part1_skel]
  simp only [Prog.lift, Prog.bind_op, Prog.bind_ret, Prog.pure_eq_ret]
  iintro ⟨⟨H1, H2, H3, H4, H5⟩, Hk⟩
  iapply (wp_load_as 𝒱₀ (c : Thread nD τ) none Set.univ x (fun y => congrArg x (idx_whole2 _ y))) $$ H3; iintro H3
  iapply (call1 c i)
  isplitl [H1]; · iexact H1
  iintro H1
  iapply (call2 c i)
  isplitl [H1]; · iexact H1
  iintro H1
  iapply (call3 c i)
  isplitl [H2]; · iexact H2
  iintro H2
  iapply (wp_load_owned 𝒱₀ (c : Thread nD τ) none Set.univ) $$ H4; iintro H4
  iapply (wp_store_owned 𝒱₀ (c : Thread nD τ) none Set.univ (aPart i x X Y) (fun y => ⟨y, idx_whole2 _ y, rfl⟩)) $$ H4; iintro H4
  iapply (wp_load_owned 𝒱₀ (c : Thread nD τ) none Set.univ) $$ H5; iintro H5
  iapply (wp_store_owned 𝒱₀ (c : Thread nD τ) none Set.univ (aRounds i x Y) (fun y => ⟨y, idx_whole3 _ y, by rw [aRounds, aRej]⟩)) $$ H5; iintro H5
  rw [wp_ret]; imodintro
  iapply Hk
  isplitl [H1]; · iexact H1
  isplitl [H2]; · iexact H2
  isplitl [H3]; · iexact H3
  isplitl [H4]; · iexact H4
  iexact H5

/-! ## What the second pass computes -/

/-- The second pass's result on a block `x` with partial result `p`, from the table, the greatest round count and the round counts. -/
def bOut (i : grid1.Coords) (x p : Vec F S16x2048 .i32) (Y : Vec F S160 .i32) (TT : Vec F S1 .i32) (TB : Vec F S2048 .i32) : Vec F S16x2048 .i32 :=
  k1_pay5 x (loop4 (word (Val := Elt F) (e := .i32) TT 0) (k1_pay2 x) (k1_pay1 i) (k1_pay4 x) Y 40
    (word (Val := Elt F) (e := .i32) TB (i 0).val).toNat (k1_pay3 (F := F) p)).2

/-- The grid point's own place in the table of round counts. -/
theorem k1_off1_eq (i : grid1.Coords) : k1_off1 i 0 = (i 0).val := by
  have h : (i 0).val < 2048 := (i 0).isLt
  show (BitVec.ofNat 32 (i 0).val).toNat = _
  rw [BitVec.toNat_ofNat, Nat.mod_eq_of_lt (by omega)]

/-- The second pass's body, where the two index words it reads are at most the number of rounds. -/
theorem pass_b (c : Dev nD) (i : grid1.Coords) {a1 : Memref sig .tc .smem S160 .i32} {h1 : a1.IsWhole} {a2 : Memref sig .tc .smem S1 .i32} {h2 : a2.IsWhole}
    {a3 : Memref sig .tc .smem S2048 .i32} {h3 : a3.IsWhole} {a4 : Memref sig .tc .vmem S16x2048 .i32} {h4 : a4.IsWhole}
    {a5 : Memref sig .tc .vmem S16x2048 .i32} {h5 : a5.IsWhole} {a6 : Memref sig .tc .vmem S16x2048 .i32} {h6 : a6.IsWhole}
    (Y : Vec F S160 .i32) (TT : Vec F S1 .i32) (TB : Vec F S2048 .i32) (x p y6 : Vec F S16x2048 .i32)
    (hT : (word (Val := Elt F) (e := .i32) TT 0).toNat ≤ 40) (hB : (word (Val := Elt F) (e := .i32) TB (i 0).val).toNat ≤ 40) (K : PUnit → sProp 𝕄) :
    iprop((owns (c : Thread nD τ) a1 fullShare Y ∗ owns (c : Thread nD τ) a2 fullShare TT ∗ owns (c : Thread nD τ) a3 fullShare TB
        ∗ owns (c : Thread nD τ) a4 fullShare x ∗ owns (c : Thread nD τ) a5 fullShare p ∗ owns (c : Thread nD τ) a6 fullShare y6)
      ∗ ((owns (c : Thread nD τ) a1 fullShare Y ∗ owns (c : Thread nD τ) a2 fullShare TT ∗ owns (c : Thread nD τ) a3 fullShare TB
        ∗ owns (c : Thread nD τ) a4 fullShare x ∗ owns (c : Thread nD τ) a5 fullShare p ∗ owns (c : Thread nD τ) a6 fullShare (bOut i x p Y TT TB)) -∗ K ⟨⟩))
      ⊢ wp frame (wpE (defs₀ (F := F)) 𝒱₀ (c : Thread nD τ) none) Set.univ (cc1__pass_b_kernel i a1 h1 a2 h2 a3 h3 a4 h4 a5 h5 a6 h6) K := by
  simp only [cc1__pass_b_kernel_eq_skeleton, cc1__pass_b_kernel_skel]
  simp only [smemLoad, smemLoadElt, Prog.lift, Prog.bind_op, Prog.bind_ret, Prog.pure_eq_ret]
  iintro ⟨⟨H1, H2, H3, H4, H5, H6⟩, Hk⟩
  iapply (wp_load_as 𝒱₀ (c : Thread nD τ) none Set.univ x (fun y => congrArg x (idx_whole2 _ y))) $$ H4; iintro H4
  iapply (wp_load_as 𝒱₀ (c : Thread nD τ) none Set.univ p (fun y => congrArg p (idx_whole2 _ y))) $$ H5; iintro H5
  iapply (wp_word_at 𝒱₀ (c : Thread nD τ) none Set.univ 0 rfl) $$ H2; iintro H2
  iapply (wp_word_at 𝒱₀ (c : Thread nD τ) none Set.univ (i 0).val (k1_off1_eq i)) $$ H3; iintro H3
  iapply (call4 c i _ _ _ _ a1 h1 Y hT _ hB)
  isplitl [H1]; · iexact H1
  iintro H1
  iapply (wp_load_owned 𝒱₀ (c : Thread nD τ) none Set.univ) $$ H6; iintro H6
  iapply (wp_store_owned 𝒱₀ (c : Thread nD τ) none Set.univ (bOut i x p Y TT TB) (fun y => ⟨y, idx_whole2 _ y, rfl⟩)) $$ H6; iintro H6
  rw [wp_ret]; imodintro
  iapply Hk
  isplitl [H1]; · iexact H1
  isplitl [H2]; · iexact H2
  isplitl [H3]; · iexact H3
  isplitl [H4]; · iexact H4
  isplitl [H5]; · iexact H5
  iexact H6

end Cert.Proof.KernelIdeal

end
-- ==== Proof.KernelIdeal.Bounds.lean ====
/-
  Bounds on the round counts: a block's count, and the greatest of the blocks', are at most the number of rounds. Words only,
  generic in the float values.
-/
module

public import proofs.«01_k».proof.Proof.WordMax
public import proofs.«01_k».proof.Proof.KernelIdeal.Body

@[expose] public section

noncomputable section

namespace Cert.Proof.KernelIdeal

open Cert.KernelIdeal Cert.KernelIdeal.Gen
open Idealize.ShloMosaic Idealize.ShloMosaic.TcCoe

variable {F : FTy → Type} [FloatOps F]

/-! ## The round counts of a block -/

/-- A round that took a proposal is one of the first `40`, and no round is `0`. -/
theorem rStep_small (v7 : IVec S16x2048 32) (v44 v40 v35 v50 v57 v56 : FVec F S16x2048 .f32) (j : ℕ) (hj : j < 40) (w0 w1 w2 w3 : Elt F .i32)
    (s : IVec S16x2048 32 × FVec F S16x2048 .f32) (hs : ∀ p, (s.1 p).toNat ≤ 40) (p : S16x2048.Idx) :
    ((rStep v7 v44 v40 v35 v50 v57 v56 (BitVec.ofNat 32 j) w0 w1 w2 w3 s).1 p).toNat ≤ 40 := by
  have hc : (Scalar.addi (BitVec.ofNat 32 j) 1#32).toNat ≤ 40 := by
    rw [addi_one, BitVec.toNat_ofNat, Nat.mod_eq_of_lt (by omega)]; omega
  have hsel : ∀ (b : BitVec 1) (x y : BitVec 32), x.toNat ≤ 40 → y.toNat ≤ 40 → (if b = 1#1 then x else y).toNat ≤ 40 := by
    intro b x y hx hy; split <;> assumption
  exact hsel _ _ _ hc (hs p)

/-- The rejection loop's rounds are at most `40`. -/
theorem loop3_small (v7 : IVec S16x2048 32) (v44 v40 v35 v50 v57 v56 : FVec F S16x2048 .f32) (X : Vec F S160 .i32) :
    ∀ (k j : ℕ) (s : IVec S16x2048 32 × FVec F S16x2048 .f32), j + k = 40 → (∀ p, (s.1 p).toNat ≤ 40) →
      ∀ p, ((loop3 v7 v44 v40 v35 v50 v57 v56 X k j s).2.1 p).toNat ≤ 40
  | 0, j, s, _, hs, p => hs p
  | k + 1, j, s, hk, hs, p => by
    have ih := loop3_small v7 v44 v40 v35 v50 v57 v56 X k (j + 1)
    unfold loop3 at ih ⊢
    rw [iter]
    split
    · exact ih _ (by omega) (fun p => rStep_small _ _ _ _ _ _ _ j (by omega) _ _ _ _ s hs p) p
    · exact hs p

/-- The rounds of the rejection loop on a block. -/
theorem aRej_small (i : grid0.Coords) (x : Vec F S16x2048 .i32) (Y : Vec F S160 .i32) (p : S16x2048.Idx) : ((aRej i x Y).2.1 p).toNat ≤ 40 := by
  unfold aRej
  exact loop3_small _ _ _ _ _ _ _ Y 40 0 _ rfl (fun p => by show (0#32).toNat ≤ 40; decide) p

/-- How many rounds a pixel with round word `w` runs: the round it took in, or all `40`. -/
def ran (w : BitVec 32) : ℕ := if w.toNat = 0 then 40 else w.toNat

theorem ran_le {w : BitVec 32} (h : w.toNat ≤ 40) : ran w ≤ 40 := by unfold ran; split <;> omega

/-- The rounds the pixels run, as words: what the pass takes the maximum of. -/
def ranWord (r : IVec S16x2048 32) : IVec S16x2048 32 := select (cmpi .eq r (broadcast S16x2048 0#32)) (broadcast S16x2048 40#32) r

theorem ranWord_toNat (r : IVec S16x2048 32) (p : S16x2048.Idx) : (ranWord r p).toNat = ran (r p) := by
  have h : ∀ w : BitVec 32, (if IntOp.cmpi .eq w 0#32 = 1#1 then 40#32 else w).toNat = ran w := by
    intro w
    by_cases h : w = 0#32
    · rw [h]; decide
    · have h0 : w.toNat ≠ 0 := fun h' => h (BitVec.eq_of_toNat_eq h')
      rw [if_neg (by simp only [IntOp.cmpi]; rw [beq_eq_false_iff_ne.mpr h]; decide), ran, if_neg h0]
  exact h (r p)

/-- A maximum to a single word, of the block seen with a leading axis of one. -/
theorem blockMax_toNat (x : IVec S16x2048 32) (hx : ∀ p, (x p).toNat ≤ 40) (j : S1.Idx) :
    (multiReductionI .maxsi [1, 2] S1 (shapeCast S1x16x2048 x shapeCasts_S16x2048_S1x16x2048) 2147483648#32 reduces_S1x16x2048_S1 rfl j).toNat
      = Finset.univ.sup fun p => (x p).toNat := by
  refine (congrArg BitVec.toNat (multiReductionI_eq_fold .maxsi (shapeCast S1x16x2048 x shapeCasts_S16x2048_S1x16x2048) 2147483648#32
    reduces_S1x16x2048_S1 rfl j)).trans ?_
  rw [Finset.filter_true_of_mem (s := Finset.univ) fun i _ => funext fun a => Fin.ext (by
    have h1 := ((reduces_S1x16x2048_S1).drop i a).isLt
    have h2 := (j a).isLt
    have h3 : S1.size a = 1 := by fin_cases a; rfl
    omega)]
  refine (toNat_fold_maxsi (Finset.univ : Finset S1x16x2048.Idx) ⟨fun a => ⟨0, by fin_cases a <;> decide⟩, Finset.mem_univ _⟩
    (shapeCast S1x16x2048 x shapeCasts_S16x2048_S1x16x2048) 40 (by omega) (fun i _ => hx _)).trans ?_
  apply le_antisymm
  · exact Finset.sup_le fun i _ => Finset.le_sup (f := fun p => (x p).toNat) (Finset.mem_univ (Shape.reshapeEquiv shapeCasts_S16x2048_S1x16x2048 i))
  · refine Finset.sup_le fun p _ => ?_
    have h : shapeCast S1x16x2048 x shapeCasts_S16x2048_S1x16x2048 ((Shape.reshapeEquiv shapeCasts_S16x2048_S1x16x2048).symm p) = x p :=
      congrArg x (Equiv.apply_symm_apply _ p)
    rw [← h]
    exact Finset.le_sup (f := fun i => ((shapeCast S1x16x2048 x shapeCasts_S16x2048_S1x16x2048) i).toNat) (Finset.mem_univ ((Shape.reshapeEquiv shapeCasts_S16x2048_S1x16x2048).symm p))

/-- A block's round count is the greatest number of rounds one of its pixels runs. -/
theorem pay9_toNat (r : IVec S16x2048 32) (hr : ∀ p, (r p).toNat ≤ 40) (z : S1x8x128.Idx) : (k0_pay9 r z).toNat = Finset.univ.sup fun p => ran (r p) := by
  rw [show k0_pay9 r = broadcast S1x8x128 (extractAt ![0, 0, 0] (shapeCast S1x1x1 (multiReductionI .maxsi [1, 2] S1
    (shapeCast S1x16x2048 (ranWord r) shapeCasts_S16x2048_S1x16x2048) 2147483648#32 reduces_S1x16x2048_S1 rfl) shapeCasts_S1_S1x1x1) inpos_S1x1x1_p0_0_0) from rfl,
    broadcast, extractAt, shapeCast, blockMax_toNat _ fun p => (ranWord_toNat r p).trans_le (ran_le (hr p))]
  exact Finset.sup_congr rfl fun p _ => ranWord_toNat r p

theorem aRounds_toNat (i : grid0.Coords) (x : Vec F S16x2048 .i32) (Y : Vec F S160 .i32) (z : S1x8x128.Idx) :
    (aRounds i x Y z : BitVec 32).toNat = Finset.univ.sup fun p => ran ((aRej i x Y).2.1 p) := by
  unfold aRounds; exact pay9_toNat _ (aRej_small i x Y) z

theorem aRounds_small (i : grid0.Coords) (x : Vec F S16x2048 .i32) (Y : Vec F S160 .i32) (z : S1x8x128.Idx) : (aRounds i x Y z : BitVec 32).toNat ≤ 40 := by
  rw [aRounds_toNat]; exact Finset.sup_le fun p _ => ran_le (aRej_small i x Y p)

/-! ## The host's greatest round count -/

/-- The greatest of `2048` words at most `40`, as the host computes it. -/
theorem hostMax_toNat (x : IVec S2048 32) (hx : ∀ p, (x p).toNat ≤ 40) (z : S_.Idx) :
    (Host.reduce IntOp.maxsi x (constantI S_ 32 2147483648#32) reducesTo_S2048_S_d0 h_S_ z : BitVec 32).toNat = Finset.univ.sup fun p => (x p).toNat := by
  rw [Host.reduce_eq_fold]
  rw [Finset.filter_true_of_mem (s := Finset.univ) fun i _ => funext fun a => a.elim0]
  exact toNat_fold_maxsi Finset.univ ⟨fun a => ⟨0, by fin_cases a; decide⟩, Finset.mem_univ _⟩ x 40 (by omega) (fun i _ => hx i)

end Cert.Proof.KernelIdeal

end
-- ==== Proof.KernelIdeal.Region.lean ====
/-
  The two pipelined calls from any contents of the buffers: what each grid point stages and leaves, that the bodies meet it, and
  the calls as segments of the host program. The second call asks that the round counts it is handed are at most the number of rounds.
-/
module

public import proofs.«01_k».proof.Proof.Rules
public import proofs.«01_k».proof.Proof.Gen.KernelIdeal.Skeleton
public import Idealize.ShloMosaic.Lib.Rounds
public import Idealize.ShloMosaic.Lib.Pipeline.Sound
public import proofs.«01_k».proof.Proof.KernelIdeal.Body
public import proofs.«01_k».proof.Proof.Gen.KernelIdeal.Regions
public import Idealize.ShloMosaic.Lib.Pipeline.FrameBody
public import Idealize.ShloMosaic.Lib.Pipeline.RegionArraysS

@[expose] public section

noncomputable section

-- the branches of a proof share their simp sets

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat Seg HostSeg RegionSeg BodyObligation afterRegion)

local notation "𝕄" => MT nD τ sig Unit (Elt F) ℕ (UR nD τ) ℕ

variable (W : Dev nD → Valuation τ sig (Elt F))

/-! ## The first call -/

/-- Window `w`'s block at point `t`, read off its array as the call finds it. -/
def blk0 (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (W c (Proc.devRef .tc (Pipeline.arrRef (cfg0 (F := F)).spec w)))

/-- The first call's proof data: the arrays as found, each point's inputs left as staged and its results as the body computes them. -/
def dat0 (c : Dev nD) : Dat τ (Elt F) Unit ℕ (UR nD τ) ℕ (cfg0 (F := F)) c where
  A w := W c (Proc.devRef .tc (Pipeline.arrRef (cfg0 (F := F)).spec w))
  after w t := match w with
    | ⟨0, _⟩ => blk0 W c 0 t
    | ⟨1, _⟩ => blk0 W c 1 t
    | ⟨2, _⟩ => blk0 W c 2 t
    | ⟨3, _⟩ => aPart (grid0.coords t) (blk0 W c 2 t) (blk0 W c 0 t) (blk0 W c 1 t)
    | ⟨4, _⟩ => aRounds (grid0.coords t) (blk0 W c 2 t) (blk0 W c 1 t)
  Φ _ := Pipeline.scopedRest Cert.KernelIdeal.spec0 c
  q _ := fullShare
  owed _ := 0

theorem after0_0 (c : Dev nD) (t : Fin (cfg0 (F := F)).N) : (dat0 W c).after 0 t = blk0 W c 0 t := by dsimp only [dat0]; rfl
theorem after0_1 (c : Dev nD) (t : Fin (cfg0 (F := F)).N) : (dat0 W c).after 1 t = blk0 W c 1 t := by dsimp only [dat0]; rfl
theorem after0_2 (c : Dev nD) (t : Fin (cfg0 (F := F)).N) : (dat0 W c).after 2 t = blk0 W c 2 t := by dsimp only [dat0]; rfl
theorem after0_3 (c : Dev nD) (t : Fin (cfg0 (F := F)).N) : (dat0 W c).after 3 t = aPart (grid0.coords t) (blk0 W c 2 t) (blk0 W c 0 t) (blk0 W c 1 t) := by dsimp only [dat0]; rfl
theorem after0_4 (c : Dev nD) (t : Fin (cfg0 (F := F)).N) : (dat0 W c).after 4 t = aRounds (grid0.coords t) (blk0 W c 2 t) (blk0 W c 1 t) := by dsimp only [dat0]; rfl
theorem before0_0 (c : Dev nD) (t : Fin (cfg0 (F := F)).N) (d) : (dat0 W c).before 0 t d = blk0 W c 0 t :=
  ((dat0 W c).before_in_eq_fetched 0 rfl (fun _ => rfl) (fun _ _ _ => rfl) (fun t => by rw [after0_0]; unfold Dat.blockOf blk0; rfl) t d).trans
    (by unfold Dat.fetched Dat.blockOf blk0; rfl)
theorem before0_1 (c : Dev nD) (t : Fin (cfg0 (F := F)).N) (d) : (dat0 W c).before 1 t d = blk0 W c 1 t :=
  ((dat0 W c).before_in_eq_fetched 1 rfl (fun _ => rfl) (fun _ _ _ => rfl) (fun t => by rw [after0_1]; unfold Dat.blockOf blk0; rfl) t d).trans
    (by unfold Dat.fetched Dat.blockOf blk0; rfl)
theorem before0_2 (c : Dev nD) (t : Fin (cfg0 (F := F)).N) (d) : (dat0 W c).before 2 t d = blk0 W c 2 t :=
  ((dat0 W c).before_in_eq_fetched 2 rfl (fun _ => rfl) (fun _ _ _ => rfl) (fun t => by rw [after0_2]; unfold Dat.blockOf blk0; rfl) t d).trans
    (by unfold Dat.fetched Dat.blockOf blk0; rfl)

/-- The body meets the proof data at every point. -/
theorem body0 (c : Dev nD) : BodyObligation (dat0 (F := F) W c) (defs₀ (F := F)) 𝒱₀ () Set.univ := fun t => by
  rw [bigSep_W0, bigSep_W0]
  sl_whnfR [defs₀, Defs.onTc]
  rw [after0_0]
  rw [after0_1]
  rw [after0_2]
  rw [after0_3]
  rw [after0_4]
  rw [show (dat0 W c).Φ t.castSucc = Pipeline.scopedRest Cert.KernelIdeal.spec0 c from rfl, show (dat0 W c).Φ t.succ = Pipeline.scopedRest Cert.KernelIdeal.spec0 c from rfl,
    show (dat0 W c).owesAt () t.succ = (dat0 W c).owesAt () t.castSucc from rfl]
  iintro ⟨HΦ, Ho, ⟨%d0, H0⟩, ⟨%d1, H1⟩, ⟨%d2, H2⟩, ⟨%d3, H3⟩, ⟨%d4, H4⟩⟩
  rw [before0_0 W c t d0]
  rw [before0_1 W c t d1]
  rw [before0_2 W c t d2]
  iapply (pass_a c (grid0.coords t) (blk0 W c 0 t) (blk0 W c 1 t) (blk0 W c 2 t) _ _ _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-! ## The second call -/

/-- Window `w`'s block at point `t`, read off its array as the call finds it. -/
def blk1 (c : Dev nD) (w : Fin (cfg1 (F := F)).W) (t : Fin (cfg1 (F := F)).N) :
    (((cfg1 (F := F)).win w).xblock ((cfg1 (F := F)).grid.coords t)).Idx → Elt F ((cfg1 (F := F)).win w).elt :=
  (((cfg1 (F := F)).win w).blk t).view.read (Elt F) (W c (Proc.devRef .tc (Pipeline.arrRef (cfg1 (F := F)).spec w)))

/-- The second call's proof data: the arrays as found, each point's inputs left as staged and its results as the body computes them. -/
def dat1 (c : Dev nD) : Dat τ (Elt F) Unit ℕ (UR nD τ) ℕ (cfg1 (F := F)) c where
  A w := W c (Proc.devRef .tc (Pipeline.arrRef (cfg1 (F := F)).spec w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => bOut (grid1.coords t) (blk1 W c 3 t) (blk1 W c 4 t) (blk1 W c 0 t) (blk1 W c 1 t) (blk1 W c 2 t)
  Φ _ := Pipeline.scopedRest Cert.KernelIdeal.spec1 c
  q _ := fullShare
  owed _ := 0

theorem after1_0 (c : Dev nD) (t : Fin (cfg1 (F := F)).N) : (dat1 W c).after 0 t = blk1 W c 0 t := by dsimp only [dat1]; rfl
theorem after1_1 (c : Dev nD) (t : Fin (cfg1 (F := F)).N) : (dat1 W c).after 1 t = blk1 W c 1 t := by dsimp only [dat1]; rfl
theorem after1_2 (c : Dev nD) (t : Fin (cfg1 (F := F)).N) : (dat1 W c).after 2 t = blk1 W c 2 t := by dsimp only [dat1]; rfl
theorem after1_3 (c : Dev nD) (t : Fin (cfg1 (F := F)).N) : (dat1 W c).after 3 t = blk1 W c 3 t := by dsimp only [dat1]; rfl
theorem after1_4 (c : Dev nD) (t : Fin (cfg1 (F := F)).N) : (dat1 W c).after 4 t = blk1 W c 4 t := by dsimp only [dat1]; rfl
theorem after1_5 (c : Dev nD) (t : Fin (cfg1 (F := F)).N) : (dat1 W c).after 5 t = bOut (grid1.coords t) (blk1 W c 3 t) (blk1 W c 4 t) (blk1 W c 0 t) (blk1 W c 1 t) (blk1 W c 2 t) := by dsimp only [dat1]; rfl
theorem before1_0 (c : Dev nD) (t : Fin (cfg1 (F := F)).N) (d) : (dat1 W c).before 0 t d = blk1 W c 0 t :=
  ((dat1 W c).before_in_eq_fetched 0 rfl (fun _ => rfl) (fun _ _ _ => rfl) (fun t => by rw [after1_0]; unfold Dat.blockOf blk1; rfl) t d).trans
    (by unfold Dat.fetched Dat.blockOf blk1; rfl)
theorem before1_1 (c : Dev nD) (t : Fin (cfg1 (F := F)).N) (d) : (dat1 W c).before 1 t d = blk1 W c 1 t :=
  ((dat1 W c).before_in_eq_fetched 1 rfl (fun _ => rfl) (fun _ _ _ => rfl) (fun t => by rw [after1_1]; unfold Dat.blockOf blk1; rfl) t d).trans
    (by unfold Dat.fetched Dat.blockOf blk1; rfl)
theorem before1_2 (c : Dev nD) (t : Fin (cfg1 (F := F)).N) (d) : (dat1 W c).before 2 t d = blk1 W c 2 t :=
  ((dat1 W c).before_in_eq_fetched 2 rfl (fun _ => rfl) (fun _ _ _ => rfl) (fun t => by rw [after1_2]; unfold Dat.blockOf blk1; rfl) t d).trans
    (by unfold Dat.fetched Dat.blockOf blk1; rfl)
theorem before1_3 (c : Dev nD) (t : Fin (cfg1 (F := F)).N) (d) : (dat1 W c).before 3 t d = blk1 W c 3 t :=
  ((dat1 W c).before_in_eq_fetched 3 rfl (fun _ => rfl) (fun _ _ _ => rfl) (fun t => by rw [after1_3]; unfold Dat.blockOf blk1; rfl) t d).trans
    (by unfold Dat.fetched Dat.blockOf blk1; rfl)
theorem before1_4 (c : Dev nD) (t : Fin (cfg1 (F := F)).N) (d) : (dat1 W c).before 4 t d = blk1 W c 4 t :=
  ((dat1 W c).before_in_eq_fetched 4 rfl (fun _ => rfl) (fun _ _ _ => rfl) (fun t => by rw [after1_4]; unfold Dat.blockOf blk1; rfl) t d).trans
    (by unfold Dat.fetched Dat.blockOf blk1; rfl)

/-- The body meets the proof data at every point. -/
theorem body1 (c : Dev nD)
    (hT : ∀ t : Fin (cfg1 (F := F)).N, (word (Val := Elt F) (e := .i32) (N := 1) (blk1 W c 1 t) 0).toNat ≤ 40)
    (hB : ∀ t : Fin (cfg1 (F := F)).N, ∀ n, (word (Val := Elt F) (e := .i32) (N := 2048) (blk1 W c 2 t) n).toNat ≤ 40) : BodyObligation (dat1 (F := F) W c) (defs₀ (F := F)) 𝒱₀ () Set.univ := fun t => by
  rw [bigSep_W1, bigSep_W1]
  sl_whnfR [defs₀, Defs.onTc]
  rw [after1_0]
  rw [after1_1]
  rw [after1_2]
  rw [after1_3]
  rw [after1_4]
  rw [after1_5]
  rw [show (dat1 W c).Φ t.castSucc = Pipeline.scopedRest Cert.KernelIdeal.spec1 c from rfl, show (dat1 W c).Φ t.succ = Pipeline.scopedRest Cert.KernelIdeal.spec1 c from rfl,
    show (dat1 W c).owesAt () t.succ = (dat1 W c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before1_0 W c t d0]
  rw [before1_1 W c t d1]
  rw [before1_2 W c t d2]
  rw [before1_3 W c t d3]
  rw [before1_4 W c t d4]
  iapply (pass_b c (grid1.coords t) (blk1 W c 0 t) (blk1 W c 1 t) (blk1 W c 2 t) (blk1 W c 3 t) (blk1 W c 4 t) _ (hT t) (hB t _) _)
  isplitl [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-! ## The calls as segments -/

/-- Every wait's index is assigned at the TensorCores' cells, all at one level: no core owes another anything. -/
abbrev L : GSem nD τ sig → Finset Unit := fun g => if g.1.2 = .tc then {()} else ∅
abbrev lv : GSem nD τ sig → Unit → ℕ := fun _ _ => 0

variable (W₁ : Dev nD → Valuation τ sig (Elt F))

/-- The calls' proof data: the first from `W`, the second from `W₁`. -/
def pdats : (p : Fin 2) → (c : Dev nD) → Dat τ (Elt F) Unit ℕ (UR nD τ) ℕ ((cfgs (F := F)) p) c
  | ⟨0, _⟩ => fun c => dat0 W c
  | ⟨1, _⟩ => fun c => dat1 W₁ c

theorem cut (p : Fin 2) : Pipeline.LevelCut (pcfgs (F := F)) adm () L lv p (fun _ => 0) (fun _ : Dev nD => 0) where
  hι _ _ _ := Finset.mem_singleton.mpr rfl
  hιb _ _ _ := Nat.le_refl 0
  hD _ _ _ h := absurd h (lt_irrefl _)

set_option backward.isDefEq.respectTransparency.types false in
/-- The first call, over every unscoped buffer. -/
def reg0 : RegionSeg (pcfgs (F := F)) adm (pdats W W₁) () defs₀ 𝒱₀ L lv 0 :=
  RegionSeg.ofHeldIn (pcfgs (F := F)) adm (pdats W W₁) () defs₀ 𝒱₀ L lv 0 (fun _ => 0) (Pipeline.ucRefs τ sig) (fun _ => BI.emp) (fun _ => BI.emp)
    (launch0 (F := F)).toP rfl (fun c => (body0 W c).loose) (fun _ _ => rfl) (fun _ => rfl) (fun c w => (dat0 W c).share_full (fun _ => rfl) w)
    (fun c => by
      show iprop(Pipeline.scopedRest Cert.KernelIdeal.spec0 c ∗ BI.emp) ⊢ Pipeline.scopedRest Cert.KernelIdeal.spec0 c
      iintro ⟨H, -⟩; iexact H)
    (fun c => by
      show Pipeline.scopedRest Cert.KernelIdeal.spec0 c ⊢ iprop(Pipeline.scopedRest Cert.KernelIdeal.spec0 c ∗ BI.emp)
      iintro H; isplitl [H]; · iexact H
      iempintro)
    (fun _ => 0) (cut 0) (fun _ => BI.emp) W (fun _ _ => rfl)

set_option backward.isDefEq.respectTransparency.types false in
/-- The second call, over every unscoped buffer. -/
def reg1 (hT : ∀ c, ∀ t : Fin (cfg1 (F := F)).N, (word (Val := Elt F) (e := .i32) (N := 1) (blk1 W₁ c 1 t) 0).toNat ≤ 40)
    (hB : ∀ c, ∀ t : Fin (cfg1 (F := F)).N, ∀ n, (word (Val := Elt F) (e := .i32) (N := 2048) (blk1 W₁ c 2 t) n).toNat ≤ 40) :
    RegionSeg (pcfgs (F := F)) adm (pdats W W₁) () defs₀ 𝒱₀ L lv 1 :=
  RegionSeg.ofHeldIn (pcfgs (F := F)) adm (pdats W W₁) () defs₀ 𝒱₀ L lv 1 (fun _ => 0) (Pipeline.ucRefs τ sig) (fun _ => BI.emp) (fun _ => BI.emp)
    (launch1 (F := F)).toP rfl (fun c => (body1 W₁ c (hT c) (hB c)).loose) (fun _ _ => rfl) (fun _ => rfl) (fun c w => (dat1 W₁ c).share_full (fun _ => rfl) w)
    (fun c => by
      show iprop(Pipeline.scopedRest Cert.KernelIdeal.spec1 c ∗ BI.emp) ⊢ Pipeline.scopedRest Cert.KernelIdeal.spec1 c
      iintro ⟨H, -⟩; iexact H)
    (fun c => by
      show Pipeline.scopedRest Cert.KernelIdeal.spec1 c ⊢ iprop(Pipeline.scopedRest Cert.KernelIdeal.spec1 c ∗ BI.emp)
      iintro H; isplitl [H]; · iexact H
      iempintro)
    (fun _ => 0) (cut 1) (fun _ => BI.emp) W₁ (fun _ _ => rfl)

end Cert.Proof.KernelIdeal

end
-- ==== Proof.KernelIdeal.Arrays.lean ====
/-
  The buffers between the host program's items: the arrays the first call leaves, and the round counts handed from the first call to
  the second. Generic in the float values.
-/
module

public import proofs.«01_k».proof.Proof.KernelIdeal.Bounds
public import proofs.«01_k».proof.Proof.KernelIdeal.Region
public import Idealize.ShloMosaic.Lib.Pipeline.ValueKit

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat Seg HostSeg RegionSeg BodyObligation afterRegion)

local notation "𝕄" => MT nD τ sig Unit (Elt F) ℕ (UR nD τ) ℕ

attribute [local irreducible] aRounds aPart aRej bOut

/-! ## The buffers between the host program's items -/

/-- Window `w`'s reference as a buffer of a core. -/
abbrev dref (r : Ref sig .tc) : DevRef τ sig := Proc.devRef .tc r

variable (m : (ℓ : Loc nD τ sig) → Buf (Elt F) ℓ)

/-- After the first call; after the host's round counts; after the second call; at the end. -/
def W2 (c : Dev nD) : Valuation τ sig (Elt F) := afterRegion (dat0 (V1 m) c) (V1 m c)
def W3 (c : Dev nD) : Valuation τ sig (Elt F) := StableHlo.after hostOps1 (W2 m c)
def W4 (c : Dev nD) : Valuation τ sig (Elt F) := afterRegion (dat1 (W3 m) c) (W3 m c)
def W5 (c : Dev nD) : Valuation τ sig (Elt F) := StableHlo.after hostOps2 (W4 m c)

/-- Grid point `n` of the first call, and of the second. -/
def pt0 (n : ℕ) : Fin (cfg0 (F := F)).N := ⟨n % 2048, by rw [show (cfg0 (F := F)).N = 2048 from N_0]; exact Nat.mod_lt _ (by decide)⟩
def pt1 (n : ℕ) : Fin (cfg1 (F := F)).N := ⟨n % 2048, by rw [show (cfg1 (F := F)).N = 2048 from N_1]; exact Nat.mod_lt _ (by decide)⟩

theorem pt0_val (t : Fin (cfg0 (F := F)).N) : pt0 (F := F) t.val = t := by
  have h : t.val < 2048 := t.isLt.trans_eq (show (cfg0 (F := F)).N = 2048 from N_0)
  exact Fin.ext (Nat.mod_eq_of_lt h)
theorem pt1_val (t : Fin (cfg1 (F := F)).N) : pt1 (F := F) t.val = t := by
  have h : t.val < 2048 := t.isLt.trans_eq (show (cfg1 (F := F)).N = 2048 from N_1)
  exact Fin.ext (Nat.mod_eq_of_lt h)

theorem coords0 (t : Fin (cfg0 (F := F)).N) : ((grid0.coords t) 0).val = t.val := by
  have h : t.val < 2048 := t.isLt.trans_eq (show (cfg0 (F := F)).N = 2048 from N_0)
  refine (Pipeline.Grid.coords_val (G := grid0) t 0 (S := 1) (B := 2048) (by decide) (by decide)).trans ?_
  rw [Nat.div_one, Nat.mod_eq_of_lt h]
theorem coords1 (t : Fin (cfg1 (F := F)).N) : ((grid1.coords t) 0).val = t.val := by
  have h : t.val < 2048 := t.isLt.trans_eq (show (cfg1 (F := F)).N = 2048 from N_1)
  refine (Pipeline.Grid.coords_val (G := grid1) t 0 (S := 1) (B := 2048) (by decide) (by decide)).trans ?_
  rw [Nat.div_one, Nat.mod_eq_of_lt h]

/-- The row and column within its block of sixteen rows of an index of the whole array. -/
abbrev inBlock (i : S32768x2048.Idx) : S16x2048.Idx := ix2 ⟨(i 0).val % 16, Nat.mod_lt _ (by decide)⟩ (i 1)

/-! Where a block's element sits in its array. -/

theorem index0 (t : Fin (cfg0 (F := F)).N) : (BitVec.ofNat 32 ((grid0.coords t) 0).val).toNat = t.val := by
  have := t.isLt.trans_eq (show (cfg0 (F := F)).N = 2048 from N_0)
  rw [coords0, BitVec.toNat_ofNat, Nat.mod_eq_of_lt (by omega)]
theorem index1 (t : Fin (cfg1 (F := F)).N) : (BitVec.ofNat 32 ((grid1.coords t) 0).val).toNat = t.val := by
  have := t.isLt.trans_eq (show (cfg1 (F := F)).N = 2048 from N_1)
  rw [coords1, BitVec.toNat_ofNat, Nat.mod_eq_of_lt (by omega)]

theorem emb0_2_0 (t : Fin (cfg0 (F := F)).N) (y : S16x2048.Idx) : ((((cfg0 (F := F)).win 2).blk t).view.emb y (0 : Fin 2) : ℕ) = t.val * 16 + (y 0).val := by
  refine (Pipeline.Window.rect_emb_val win0_2 t y (0 : Fin 2)).trans ?_
  show (BitVec.ofNat 32 ((grid0.coords t) 0).val).toNat * 16 + (y 0).val = _
  rw [index0]
theorem emb0_2_1 (t : Fin (cfg0 (F := F)).N) (y : S16x2048.Idx) : ((((cfg0 (F := F)).win 2).blk t).view.emb y (1 : Fin 2) : ℕ) = (y 1).val := by
  refine (Pipeline.Window.rect_emb_val win0_2 t y (1 : Fin 2)).trans ?_
  show 0 * 2048 + (y 1).val = _
  omega
theorem emb0_3_0 (t : Fin (cfg0 (F := F)).N) (y : S16x2048.Idx) : ((((cfg0 (F := F)).win 3).blk t).view.emb y (0 : Fin 2) : ℕ) = t.val * 16 + (y 0).val := by
  refine (Pipeline.Window.rect_emb_val win0_3 t y (0 : Fin 2)).trans ?_
  show (BitVec.ofNat 32 ((grid0.coords t) 0).val).toNat * 16 + (y 0).val = _
  rw [index0]
theorem emb0_3_1 (t : Fin (cfg0 (F := F)).N) (y : S16x2048.Idx) : ((((cfg0 (F := F)).win 3).blk t).view.emb y (1 : Fin 2) : ℕ) = (y 1).val := by
  refine (Pipeline.Window.rect_emb_val win0_3 t y (1 : Fin 2)).trans ?_
  show 0 * 2048 + (y 1).val = _
  omega
theorem emb0_4_0 (t : Fin (cfg0 (F := F)).N) (y : S1x8x128.Idx) : ((((cfg0 (F := F)).win 4).blk t).view.emb y (0 : Fin 3) : ℕ) = t.val := by
  refine (Pipeline.Window.rect_emb_val win0_4 t y (0 : Fin 3)).trans ?_
  show (BitVec.ofNat 32 ((grid0.coords t) 0).val).toNat * 1 + (y 0).val = _
  rw [index0]
  have hy : (y 0).val < 1 := (y 0).isLt
  omega
theorem emb0_4_1 (t : Fin (cfg0 (F := F)).N) (y : S1x8x128.Idx) : ((((cfg0 (F := F)).win 4).blk t).view.emb y (1 : Fin 3) : ℕ) = (y 1).val := by
  refine (Pipeline.Window.rect_emb_val win0_4 t y (1 : Fin 3)).trans ?_
  show 0 * 8 + (y 1).val = _
  omega
theorem emb0_4_2 (t : Fin (cfg0 (F := F)).N) (y : S1x8x128.Idx) : ((((cfg0 (F := F)).win 4).blk t).view.emb y (2 : Fin 3) : ℕ) = (y 2).val := by
  refine (Pipeline.Window.rect_emb_val win0_4 t y (2 : Fin 3)).trans ?_
  show 0 * 128 + (y 2).val = _
  omega
theorem emb1_3_0 (t : Fin (cfg1 (F := F)).N) (y : S16x2048.Idx) : ((((cfg1 (F := F)).win 3).blk t).view.emb y (0 : Fin 2) : ℕ) = t.val * 16 + (y 0).val := by
  refine (Pipeline.Window.rect_emb_val win1_3 t y (0 : Fin 2)).trans ?_
  show (BitVec.ofNat 32 ((grid1.coords t) 0).val).toNat * 16 + (y 0).val = _
  rw [index1]
theorem emb1_3_1 (t : Fin (cfg1 (F := F)).N) (y : S16x2048.Idx) : ((((cfg1 (F := F)).win 3).blk t).view.emb y (1 : Fin 2) : ℕ) = (y 1).val := by
  refine (Pipeline.Window.rect_emb_val win1_3 t y (1 : Fin 2)).trans ?_
  show 0 * 2048 + (y 1).val = _
  omega
theorem emb1_4_0 (t : Fin (cfg1 (F := F)).N) (y : S16x2048.Idx) : ((((cfg1 (F := F)).win 4).blk t).view.emb y (0 : Fin 2) : ℕ) = t.val * 16 + (y 0).val := by
  refine (Pipeline.Window.rect_emb_val win1_4 t y (0 : Fin 2)).trans ?_
  show (BitVec.ofNat 32 ((grid1.coords t) 0).val).toNat * 16 + (y 0).val = _
  rw [index1]
theorem emb1_4_1 (t : Fin (cfg1 (F := F)).N) (y : S16x2048.Idx) : ((((cfg1 (F := F)).win 4).blk t).view.emb y (1 : Fin 2) : ℕ) = (y 1).val := by
  refine (Pipeline.Window.rect_emb_val win1_4 t y (1 : Fin 2)).trans ?_
  show 0 * 2048 + (y 1).val = _
  omega
theorem emb1_5_0 (t : Fin (cfg1 (F := F)).N) (y : S16x2048.Idx) : ((((cfg1 (F := F)).win 5).blk t).view.emb y (0 : Fin 2) : ℕ) = t.val * 16 + (y 0).val := by
  refine (Pipeline.Window.rect_emb_val win1_5 t y (0 : Fin 2)).trans ?_
  show (BitVec.ofNat 32 ((grid1.coords t) 0).val).toNat * 16 + (y 0).val = _
  rw [index1]
theorem emb1_5_1 (t : Fin (cfg1 (F := F)).N) (y : S16x2048.Idx) : ((((cfg1 (F := F)).win 5).blk t).view.emb y (1 : Fin 2) : ℕ) = (y 1).val := by
  refine (Pipeline.Window.rect_emb_val win1_5 t y (1 : Fin 2)).trans ?_
  show 0 * 2048 + (y 1).val = _
  omega

/-- The block row of an element of a block is the block's point, and its place within the block is itself. -/
theorem at_point (g : S32768x2048.Idx) (n : ℕ) (y : S16x2048.Idx) (h0 : (g 0).val = n * 16 + (y 0).val) (h1 : (g 1).val = (y 1).val) :
    (g 0).val / 16 = n ∧ inBlock g = y := by
  have hy : (y 0).val < 16 := (y 0).isLt
  refine ⟨by omega, funext fun a => Fin.ext ?_⟩
  fin_cases a
  · show (g 0).val % 16 = (y 0).val
    omega
  · exact h1

/-- The partial results after the first call. -/
theorem W2_part (c : Dev nD) : W2 m c (dref main_v1_0) = fun i : S32768x2048.Idx =>
    aPart (grid0.coords (pt0 (F := F) ((i 0).val / 16))) (blk0 (V1 m) c 2 (pt0 ((i 0).val / 16))) (blk0 (V1 m) c 0 (pt0 ((i 0).val / 16)))
      (blk0 (V1 m) c 1 (pt0 ((i 0).val / 16))) (inBlock i) := by
  refine (Pipeline.afterRegion_arr (dat0 (V1 m) c) (V1 m c) (launch0 (F := F)).win.arr_inj 3).trans ?_
  refine (dat0 (V1 m) c).arrAt_eq_of_covers 3 _ (show win0_3.Covers by decide +kernel) fun t hf (y : S16x2048.Idx) => ?_
  rw [after0_3]
  obtain ⟨ht, hi⟩ := at_point _ _ y (emb0_3_0 t y) (emb0_3_1 t y)
  beta_reduce
  rw [ht, hi, pt0_val]
  generalize aPart (grid0.coords t) (blk0 (V1 m) c 2 t) (blk0 (V1 m) c 0 t) (blk0 (V1 m) c 1 t) = f
  rfl

/-- A block's round count, the same word throughout what the block writes. -/
def roundWord (c : Dev nD) (n : ℕ) : BitVec 32 :=
  aRounds (grid0.coords (pt0 (F := F) n)) (blk0 (V1 m) c 2 (pt0 n)) (blk0 (V1 m) c 1 (pt0 n)) (ix3 0 0 0)

theorem roundWord_eq (c : Dev nD) (t : Fin (cfg0 (F := F)).N) (z : S1x8x128.Idx) :
    (aRounds (grid0.coords t) (blk0 (V1 m) c 2 t) (blk0 (V1 m) c 1 t) z : BitVec 32) = roundWord m c t.val := by
  apply BitVec.eq_of_toNat_eq
  rw [roundWord, pt0_val]
  exact (aRounds_toNat _ _ _ z).trans (aRounds_toNat _ _ _ _).symm

/-- The round counts after the first call. -/
theorem W2_rounds (c : Dev nD) : W2 m c (dref main_v1_1) = fun i : S2048x8x128.Idx => roundWord m c (i 0).val := by
  refine (Pipeline.afterRegion_arr (dat0 (V1 m) c) (V1 m c) (launch0 (F := F)).win.arr_inj 4).trans ?_
  refine (dat0 (V1 m) c).arrAt_eq_of_covers 4 _ (show win0_4.Covers by decide +kernel) fun t hf y => ?_
  rw [after0_4]
  have h0 : ((((cfg0 (F := F)).win 4).blk t).view.emb y (0 : Fin 3) : ℕ) = t.val := emb0_4_0 t y
  beta_reduce
  rw [h0]
  exact (cast_eq _ _).trans (roundWord_eq m c t _)

/-- How many rounds block `n` of the image runs. -/
def ranOf (c : Dev nD) (n : ℕ) : ℕ :=
  Finset.univ.sup fun p => ran ((aRej (grid0.coords (pt0 (F := F) n)) (blk0 (V1 m) c 2 (pt0 n)) (blk0 (V1 m) c 1 (pt0 n))).2.1 p)

theorem ranOf_le (c : Dev nD) (n : ℕ) : ranOf m c n ≤ 40 := Finset.sup_le fun p _ => ran_le (aRej_small _ _ _ p)

/-- The round counts handed to the second call. -/
theorem W3_rounds (c : Dev nD) (i : S2048.Idx) : (W3 m c (dref main_v3) i : BitVec 32).toNat = ranOf m c (i 0).val := by
  have h : W3 m c (dref main_v3) = fun i : S2048.Idx => W2 m c (dref main_v1_1) (ix3 (i 0) 0 0) := by
    show StableHlo.after hostOps1 (W2 m c) (Proc.devRef .tc main_v3) = _
    after_results
    funext i
    show shapeCast S2048 (extractStridedSlice S2048x1x1 ![0, 0, 0] (W2 m c (dref main_v1_1)) slices_S2048x8x128_S2048x1x1_0_0_0) shapeCasts_S2048x1x1_S2048 i = _
    have hr : Shape.reshapeEquiv shapeCasts_S2048x1x1_S2048 i = (ix3 (i 0) 0 0 : S2048x1x1.Idx) := Shape.reshapeEquiv_eq_of_rowMajor _ (by
      rw [Shape.rowMajor_val_three, Shape.rowMajor_val_one]
      show (((i 0).val * 1 + 0) * 1 + 0) = (i 0).val
      omega)
    show W2 m c (dref main_v1_1) (fun a => ⟨(![0, 0, 0] : Fin 3 → ℕ) a + (Shape.reshapeEquiv shapeCasts_S2048x1x1_S2048 i a).val, _⟩) = _
    simp only [hr]
    refine congrArg (W2 m c (dref main_v1_1)) (funext fun a => Fin.ext ?_)
    fin_cases a <;> simp
  rw [h, W2_rounds]
  exact aRounds_toNat _ _ _ _

/-- The greatest of the round counts. -/
def ranAll (c : Dev nD) : ℕ := Finset.univ.sup fun i : S2048.Idx => ranOf m c (i 0).val

theorem ranAll_le (c : Dev nD) : ranAll m c ≤ 40 := Finset.sup_le fun i _ => ranOf_le m c _

theorem W3_most (c : Dev nD) (i : S1.Idx) : (W3 m c (dref main_v5) i : BitVec 32).toNat = ranAll m c := by
  have h : W3 m c (dref main_v5) = fun _ => Host.reduce IntOp.maxsi (W3 m c (dref main_v3)) (constantI S_ 32 2147483648#32) reducesTo_S2048_S_d0 h_S_ (fun a => a.elim0) := by
    have h3 : W3 m c (dref main_v3) = StableHlo.after hostOps1 (W2 m c) (Proc.devRef .tc main_v3) := rfl
    rw [h3]
    show StableHlo.after hostOps1 (W2 m c) (Proc.devRef .tc main_v5) = _
    after_results
    funext i
    show shapeCast S1 (Host.reduce IntOp.maxsi _ _ reducesTo_S2048_S_d0 h_S_) shapeCasts_S_S1 i = _
    unfold shapeCast
    exact congrArg _ (funext fun a => a.elim0)
  rw [h, hostMax_toNat _ (fun p => (W3_rounds m c p).trans_le (ranOf_le m c _))]
  exact Finset.sup_congr rfl fun p _ => W3_rounds m c p

/-! ## The second call may run -/

theorem words1 (c : Dev nD) (t : Fin (cfg1 (F := F)).N) : (word (Val := Elt F) (e := .i32) (N := 1) (blk1 (W3 m) c 1 t) 0).toNat ≤ 40 :=
  (W3_most m c _).trans_le (ranAll_le m c)
theorem words2 (c : Dev nD) (t : Fin (cfg1 (F := F)).N) (n : ℕ) : (word (Val := Elt F) (e := .i32) (N := 2048) (blk1 (W3 m) c 2 t) n).toNat ≤ 40 :=
  (W3_rounds m c _).trans_le (ranOf_le m c _)

end Cert.Proof.KernelIdeal

end
-- ==== Proof.KernelIdeal.Run.lean ====
/-
  The program's run from any launch contents: the host program's items chained, and what is left at the end. Generic in the float values.
-/
module

public import proofs.«01_k».proof.Proof.KernelIdeal.Arrays

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.Pipeline (Dat Seg HostSeg RegionSeg BodyObligation afterRegion)

local notation "𝕄" => MT nD τ sig Unit (Elt F) ℕ (UR nD τ) ℕ

variable (m : (ℓ : Loc nD τ sig) → Buf (Elt F) ℓ)

/-! ## The run -/

/-- What rides along between items: the core owes nothing. -/
abbrev rest (c : Dev nD) : sProp 𝕄 := iprop((∃ Wd, owes (c : Thread nD τ) (0 : CellTallies nD τ sig Unit) Wd) ∗ BI.emp ∗ BI.emp)

abbrev host0 : HostSeg (Ix := Unit) (Name := ℕ) (U := UR nD τ) (Lvl := ℕ) (pcfgs (F := F)) defs₀ 𝒱₀ L lv :=
  HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (V0 m) rest
abbrev host1 : HostSeg (Ix := Unit) (Name := ℕ) (U := UR nD τ) (Lvl := ℕ) (pcfgs (F := F)) defs₀ 𝒱₀ L lv :=
  HostSeg.ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (W2 m) rest
abbrev host2 : HostSeg (Ix := Unit) (Name := ℕ) (U := UR nD τ) (Lvl := ℕ) (pcfgs (F := F)) defs₀ 𝒱₀ L lv :=
  HostSeg.ofOps _ _ _ _ _ (Pipeline.ucRefs τ sig) hostOps2 (fun op h => Pipeline.sub_ucRefs op ((List.forall_iff_forall_mem.mp hostOps2_sub) op h))
    (fun op h => (List.forall_iff_forall_mem.mp hostOps2_fresh) op h) (W4 m) rest

/-- The host program's items on a core. -/
abbrev items (_ : Dev nD) : List (Seg (pcfgs (F := F)) adm (pdats (V1 m) (W3 m)) () defs₀ 𝒱₀ L lv) :=
  [.host (host0 m), .region (reg0 (V1 m) (W3 m)), .host (host1 m), .region (reg1 (V1 m) (W3 m) (words1 m) (words2 m)), .host (host2 m)]

/-- The argument is never written. -/
theorem W5_arg (c : Dev nD) : W5 m c (dref main_arg0) = m ((c : Thread nD τ).loc main_arg0) := by
  refine (StableHlo.after_of_writes_sub hostOps2 _ hostOps2_writes (by decide)).trans ?_
  refine (Pipeline.afterRegion_of_not_arr (dat1 (W3 m) c) (W3 m c) (b := main_arg0) (show ∀ w : Fin 6, main_arg0 ≠ Pipeline.arrRef Cert.KernelIdeal.spec1 w by decide)).trans ?_
  refine (StableHlo.after_of_writes_sub hostOps1 _ hostOps1_writes (by decide)).trans ?_
  refine (Pipeline.afterRegion_of_not_arr (dat0 (V1 m) c) (V1 m c) (b := main_arg0) (show ∀ w : Fin 5, main_arg0 ≠ Pipeline.arrRef Cert.KernelIdeal.spec0 w by decide)).trans ?_
  exact V1_of m c main_arg0 (by decide)

theorem arrs0 : Pipeline.arrRefs (τ := τ) Cert.KernelIdeal.spec0 ⊆ Pipeline.ucRefs τ sig := Pipeline.arrRefs_sub_ucRefs _ (by decide)
theorem arrs1 : Pipeline.arrRefs (τ := τ) Cert.KernelIdeal.spec1 ⊆ Pipeline.ucRefs τ sig := Pipeline.arrRefs_sub_ucRefs _ (by decide)

section Links
variable (W W₁ : Dev nD → Valuation τ sig (Elt F))

set_option backward.isDefEq.respectTransparency.types false in
/-- Call 0 is entered with every unscoped buffer held. -/
theorem enter0 (c : Dev nD) :
    iprop(StableHlo.held (c : Thread nD τ) (Pipeline.ucRefs τ sig) (W c) ∗ rest (F := F) c) ⊢ (reg0 W W₁).pre c := by
  show _ ⊢ iprop(StableHlo.held (c.tc : Thread nD τ) (Pipeline.arrRefs Cert.KernelIdeal.spec0) (W c) ∗ BI.emp
    ∗ (StableHlo.held (c.tc : Thread nD τ) (Pipeline.ucRefs τ sig \ Pipeline.arrRefs Cert.KernelIdeal.spec0) (W c) ∗ BI.emp)
    ∗ ∃ Wd, owes (c : Thread nD τ) (0 : CellTallies nD τ sig Unit) Wd)
  rw [StableHlo.held_sub_split (c.tc : Thread nD τ) arrs0 (W c)]
  iintro ⟨⟨Ha, Hu⟩, HO, HX, HR⟩
  isplitl [Ha]; · iexact Ha
  isplitl [HX]; · iexact HX
  isplitl [Hu HR]
  · isplitl [Hu]; · iexact Hu
    iexact HR
  iexact HO

set_option backward.isDefEq.respectTransparency.types false in
/-- Call 0 is left with every unscoped buffer held, its arrays as the call leaves them. -/
theorem leave0 (c : Dev nD) :
    (reg0 W W₁).post c ⊢ iprop(StableHlo.held (c : Thread nD τ) (Pipeline.ucRefs τ sig) (afterRegion (dat0 W c) (W c)) ∗ rest (F := F) c) := by
  show iprop(StableHlo.held (c.tc : Thread nD τ) (Pipeline.arrRefs Cert.KernelIdeal.spec0) (afterRegion (dat0 W c) (W c)) ∗ BI.emp
    ∗ (StableHlo.held (c.tc : Thread nD τ) (Pipeline.ucRefs τ sig \ Pipeline.arrRefs Cert.KernelIdeal.spec0) (W c) ∗ BI.emp)
    ∗ ∃ Wd, owes (c : Thread nD τ) (0 : CellTallies nD τ sig Unit) Wd) ⊢ _
  rw [StableHlo.held_sub_split (c.tc : Thread nD τ) arrs0 (afterRegion (dat0 W c) (W c)),
    StableHlo.held_congr (c.tc : Thread nD τ) (S := Pipeline.ucRefs τ sig \ Pipeline.arrRefs Cert.KernelIdeal.spec0)
      (V := afterRegion (dat0 W c) (W c)) (V' := W c) (Pipeline.afterRegion_off (dat0 W c) (W c) (Pipeline.ucRefs τ sig))]
  iintro ⟨Ha, HX, ⟨Hu, HR⟩, HO⟩
  isplitl [Ha Hu]
  · isplitl [Ha]; · iexact Ha
    iexact Hu
  isplitl [HO]; · iexact HO
  isplitl [HX]; · iexact HX
  iexact HR

set_option backward.isDefEq.respectTransparency.types false in
/-- Call 1 is entered with every unscoped buffer held. -/
theorem enter1 (hT : ∀ c, ∀ t : Fin (cfg1 (F := F)).N, (word (Val := Elt F) (e := .i32) (N := 1) (blk1 W₁ c 1 t) 0).toNat ≤ 40)
    (hB : ∀ c, ∀ t : Fin (cfg1 (F := F)).N, ∀ n, (word (Val := Elt F) (e := .i32) (N := 2048) (blk1 W₁ c 2 t) n).toNat ≤ 40) (c : Dev nD) :
    iprop(StableHlo.held (c : Thread nD τ) (Pipeline.ucRefs τ sig) (W₁ c) ∗ rest (F := F) c) ⊢ (reg1 W W₁ hT hB).pre c := by
  show _ ⊢ iprop(StableHlo.held (c.tc : Thread nD τ) (Pipeline.arrRefs Cert.KernelIdeal.spec1) (W₁ c) ∗ BI.emp
    ∗ (StableHlo.held (c.tc : Thread nD τ) (Pipeline.ucRefs τ sig \ Pipeline.arrRefs Cert.KernelIdeal.spec1) (W₁ c) ∗ BI.emp)
    ∗ ∃ Wd, owes (c : Thread nD τ) (0 : CellTallies nD τ sig Unit) Wd)
  rw [StableHlo.held_sub_split (c.tc : Thread nD τ) arrs1 (W₁ c)]
  iintro ⟨⟨Ha, Hu⟩, HO, HX, HR⟩
  isplitl [Ha]; · iexact Ha
  isplitl [HX]; · iexact HX
  isplitl [Hu HR]
  · isplitl [Hu]; · iexact Hu
    iexact HR
  iexact HO

set_option backward.isDefEq.respectTransparency.types false in
/-- Call 1 is left with every unscoped buffer held, its arrays as the call leaves them. -/
theorem leave1 (hT : ∀ c, ∀ t : Fin (cfg1 (F := F)).N, (word (Val := Elt F) (e := .i32) (N := 1) (blk1 W₁ c 1 t) 0).toNat ≤ 40)
    (hB : ∀ c, ∀ t : Fin (cfg1 (F := F)).N, ∀ n, (word (Val := Elt F) (e := .i32) (N := 2048) (blk1 W₁ c 2 t) n).toNat ≤ 40) (c : Dev nD) :
    (reg1 W W₁ hT hB).post c ⊢ iprop(StableHlo.held (c : Thread nD τ) (Pipeline.ucRefs τ sig) (afterRegion (dat1 W₁ c) (W₁ c)) ∗ rest (F := F) c) := by
  show iprop(StableHlo.held (c.tc : Thread nD τ) (Pipeline.arrRefs Cert.KernelIdeal.spec1) (afterRegion (dat1 W₁ c) (W₁ c)) ∗ BI.emp
    ∗ (StableHlo.held (c.tc : Thread nD τ) (Pipeline.ucRefs τ sig \ Pipeline.arrRefs Cert.KernelIdeal.spec1) (W₁ c) ∗ BI.emp)
    ∗ ∃ Wd, owes (c : Thread nD τ) (0 : CellTallies nD τ sig Unit) Wd) ⊢ _
  rw [StableHlo.held_sub_split (c.tc : Thread nD τ) arrs1 (afterRegion (dat1 W₁ c) (W₁ c)),
    StableHlo.held_congr (c.tc : Thread nD τ) (S := Pipeline.ucRefs τ sig \ Pipeline.arrRefs Cert.KernelIdeal.spec1)
      (V := afterRegion (dat1 W₁ c) (W₁ c)) (V' := W₁ c) (Pipeline.afterRegion_off (dat1 W₁ c) (W₁ c) (Pipeline.ucRefs τ sig))]
  iintro ⟨Ha, HX, ⟨Hu, HR⟩, HO⟩
  isplitl [Ha Hu]
  · isplitl [Ha]; · iexact Ha
    iexact Hu
  isplitl [HO]; · iexact HO
  isplitl [HX]; · iexact HX
  iexact HR

end Links

/-- The launch element is the pipeline's own. -/
theorem launch_own : (ownU (initOf (Pipeline.cells (Pipeline.pin (pcfgs (F := F)) adm) cellOf_inj) (Pipeline.launchToks (Pipeline.pin (pcfgs (F := F)) adm) cellOf_inj)) : sProp 𝕄)
    ⊢ BI.own ((EP (F := F)) (initOf (Pipeline.cells (Pipeline.pin (pcfgs (F := F)) adm) cellOf_inj) (Pipeline.launchToks (Pipeline.pin (pcfgs (F := F)) adm) cellOf_inj))) := by
  unfold EP ownU
  exact .rfl

/-! Between two items, what one leaves is what the next takes. -/

set_option backward.isDefEq.respectTransparency.types false in
theorem host0_pre (c : Dev nD) : iprop(StableHlo.held (c : Thread nD τ) (Pipeline.ucRefs τ sig) (V0 m c) ∗ rest (F := F) c) ⊢ (host0 m).pre c := .rfl

set_option backward.isDefEq.respectTransparency.types false in
theorem host0_post (c : Dev nD) : (host0 m).post c ⊢ (reg0 (V1 m) (W3 m)).pre c := by
  show iprop(StableHlo.held (c : Thread nD τ) (Pipeline.ucRefs τ sig) (V1 m c) ∗ rest (F := F) c) ⊢ _
  exact enter0 (V1 m) (W3 m) c

set_option backward.isDefEq.respectTransparency.types false in
theorem host1_pre (c : Dev nD) : (reg0 (V1 m) (W3 m)).post c ⊢ (host1 m).pre c := by
  show _ ⊢ iprop(StableHlo.held (c : Thread nD τ) (Pipeline.ucRefs τ sig) (W2 m c) ∗ rest (F := F) c)
  exact leave0 (V1 m) (W3 m) c

set_option backward.isDefEq.respectTransparency.types false in
theorem host1_post (c : Dev nD) : (host1 m).post c ⊢ (reg1 (V1 m) (W3 m) (words1 m) (words2 m)).pre c := by
  show iprop(StableHlo.held (c : Thread nD τ) (Pipeline.ucRefs τ sig) (W3 m c) ∗ rest (F := F) c) ⊢ _
  exact enter1 (V1 m) (W3 m) (words1 m) (words2 m) c

set_option backward.isDefEq.respectTransparency.types false in
theorem host2_pre (c : Dev nD) : (reg1 (V1 m) (W3 m) (words1 m) (words2 m)).post c ⊢ (host2 m).pre c := by
  show _ ⊢ iprop(StableHlo.held (c : Thread nD τ) (Pipeline.ucRefs τ sig) (W4 m c) ∗ rest (F := F) c)
  exact leave1 (V1 m) (W3 m) (words1 m) (words2 m) c

set_option backward.isDefEq.respectTransparency.types false in
theorem host2_post (c : Dev nD) : (host2 m).post c ⊢ iprop(StableHlo.held (c : Thread nD τ) (Pipeline.ucRefs τ sig) (W5 m c) ∗ ∃ Wd, owes (c : Thread nD τ) (0 : CellTallies nD τ sig Unit) Wd) := by
  show iprop(StableHlo.held (c : Thread nD τ) (Pipeline.ucRefs τ sig) (W5 m c) ∗ rest (F := F) c) ⊢ _
  iintro ⟨H, HO, -, -⟩
  isplitl [H]; · iexact H
  iexact HO

/-- Of what a core is dealt at the launch, its buffers and its empty debt are kept. -/
theorem deal (c : Dev nD) (A S C R : sProp 𝕄) :
    iprop(A ∗ S ∗ owes (c : Thread nD τ) (0 : CellTallies nD τ sig Unit) ∅ ∗ C ∗ R ∗ BI.emp) ⊢ iprop(A ∗ rest (F := F) c) := by
  iintro ⟨Hb, -, Ho, -, -, -⟩
  isplitl [Hb]; · iexact Hb
  isplitl [Ho]
  · iexists ∅
    iexact Ho
  isplitl []
  · iempintro
  iempintro

set_option backward.isDefEq.respectTransparency.types false in
/-- Every run of the program ends with the argument as it was, the result as the items compute it, and no counter left. -/
theorem runs (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_v7) = W5 m c (dref main_v7)) ∧ r.2.sem = fun _ => 0) := by
  refine Pipeline.θ_run_regions_kit_dev_sems (pcfgs (F := F)) adm (pdats (V1 m) (W3 m)) () cellOf_inj (EP (F := F)) defs₀ 𝒱₀ L lv m ρ main (items m)
    (fun c Q => by
      rewrite [main_chain c, Seg.run_eq_chain, show (items m c).map Seg.prog = [StableHlo.seq hostOps0, Prog.lift (.customCall (Pipeline.entry 0) ()),
        StableHlo.seq hostOps1, Prog.lift (.customCall (Pipeline.entry 1) ()), StableHlo.seq hostOps2] from rfl]
      dsimp (config := { failIfUnchanged := false }) only
      exact .rfl)
    (fun c => by simp only [items, Seg.pipes_host, Seg.pipes_region, Seg.pipes_nil]; decide) (fun _ => 0)
    (fun g hg => if_neg hg) (fun _ => BI.emp) (initOf (Pipeline.cells (Pipeline.pin (pcfgs (F := F)) adm) cellOf_inj) (Pipeline.launchToks (Pipeline.pin (pcfgs (F := F)) adm) cellOf_inj))
    (by
      iintro H
      imodintro
      isplitl [H]
      · iapply launch_own
        iexact H
      · rw [show (bigSep (Finset.univ : Finset (Dev nD)) fun _ : Dev nD => (BI.emp : sProp 𝕄)) = BI.emp from by
          rw [Finset.univ_unique, bigSep_singleton]]
        iempintro)
    (T₀ := fun c => iprop(StableHlo.held (c : Thread nD τ) (Pipeline.ucRefs τ sig) (V0 m c) ∗ rest c))
    (Tₙ := fun c => StableHlo.held (c : Thread nD τ) (Pipeline.ucRefs τ sig) (W5 m c))
    (hch := fun c => ⟨host0_pre m c, host0_post m c, host1_pre m c, host1_post m c, host2_pre m c, host2_post m c⟩)
    (hinit := ?_) (QY := fun c s => s.mem ((c.tc : Thread nD τ).loc main_arg0) = m ((c.tc : Thread nD τ).loc main_arg0)
      ∧ s.mem ((c.tc : Thread nD τ).loc main_v7) = W5 m c (dref main_v7))
    (hfin := fun c s' => ?_) (hQ := fun _ h hz => ⟨h, funext fun g => hz g (.inr (regions_no_unscoped g.2))⟩)
  · refine (sep_mono (bigSep_mono (Ψ := fun c : Dev nD => iprop(StableHlo.held (c : Thread nD τ) (Pipeline.ucRefs τ sig) (V0 m c) ∗ rest (F := F) c))
      fun c _ => ?_) .rfl).trans ?_
    · rw [← Pipeline.unscopedBufs_held (Ix := Unit) (Name := ℕ) (U := UR nD τ) (Lvl := ℕ) c (V0 m c)]
      exact deal c _ _ _ _
    · iintro ⟨H, -⟩
      imodintro
      iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (W5_arg m c),
        h (Proc.devRef .tc main_v7) (Finset.mem_filter.mpr ⟨StableHlo.devRef_mem_tcRefs main_v7, by decide⟩)⟩
    · iexact HSI

end Cert.Proof.KernelIdeal

end
-- ==== Proof.Frames.lean ====
/-
  The frame claims: each program ends with its argument as it was and every counter at zero.
-/
module

public import proofs.«01_k».proof.Defs
public import proofs.«01_k».proof.Proof.Kernel.Run
public import proofs.«01_k».proof.Proof.KernelIdeal.Run
public import proofs.«01_k».proof.Proof.Gen.ReferenceIdeal.Run

@[expose] public section

noncomputable section

namespace Cert.Proof

open Idealize.ShloMosaic Idealize.ShloMosaic.TcCoe Idealize.SL.Sem

/-- The kernel's frame. -/
theorem frame_kernel : Cert.quiescent_Kernel (hKernel := Cert.Kernel.Gen.facts) := fun m g _ =>
  (θ_run _ _ _).mono (fun _ h => ⟨fun c => (h.1 c).1, h.2⟩) (Cert.Proof.Kernel.runs m g)

/-- The frame of the kernel read at the extended reals. -/
theorem frame_kernelIdeal : Cert.quiescent_KernelIdeal (hKernelIdeal := Cert.KernelIdeal.Gen.facts) := fun m g _ =>
  (θ_run _ _ _).mono (fun _ h => ⟨fun c => (h.1 c).1, h.2⟩) (Cert.Proof.KernelIdeal.runs m g)

/-- The reference's frame; it has no semaphore. -/
theorem frame_reference : Cert.quiescent_ReferenceIdeal (hReferenceIdeal := Cert.ReferenceIdeal.Gen.facts) := fun m g _ =>
  (θ_run _ _ _).mono (fun _ h => ⟨fun c => (h c).2, sem_eq_zero_of_no_sems (by decide) _⟩) (Cert.ReferenceIdeal.Value.run m g)

end Cert.Proof

end
-- ==== Proof.Cipher.lean ====
/-
  The Threefry-2x32 block cipher on words, and over arrays in the two spellings the programs have: with broadcast words
  (the kernel) and with broadcast rank-zero arrays (the reference). Each spelling at a position is the cipher on words.
-/
module

public import Idealize.ShloMosaic.Lib.Pointwise
public import Idealize.ShloMosaic.Lib.IdealHost

@[expose] public section

noncomputable section

namespace Cert.Proof

open Idealize.ShloMosaic

/-! ## On words -/

/-- One round with the rotation by `a` (`b` is the rest of the width). -/
def rd (a b : BitVec 32) (x : BitVec 32 × BitVec 32) : BitVec 32 × BitVec 32 :=
  (x.1 + x.2, (x.1 + x.2) ^^^ (x.2 <<< a ||| x.2 >>> b))
/-- The four rounds of an even group, and of an odd one. -/
def rdE (x : BitVec 32 × BitVec 32) : BitVec 32 × BitVec 32 := rd 6 26 (rd 26 6 (rd 15 17 (rd 13 19 x)))
def rdO (x : BitVec 32 × BitVec 32) : BitVec 32 × BitVec 32 := rd 24 8 (rd 16 16 (rd 29 3 (rd 17 15 x)))
/-- Adding a pair of words. -/
def plus (x : BitVec 32 × BitVec 32) (a b : BitVec 32) : BitVec 32 × BitVec 32 := (x.1 + a, x.2 + b)
/-- The third key word. -/
def key2 (k0 k1 : BitVec 32) : BitVec 32 := k0 ^^^ k1 ^^^ 466688986#32
/-- The cipher of the counter words `0, c` under the key `k0, k1`. -/
def tf (k0 k1 c : BitVec 32) : BitVec 32 × BitVec 32 :=
  plus (rdE (plus (rdO (plus (rdE (plus (rdO (plus (rdE (k0, c + k1)) k1 (key2 k0 k1 + 1))) (key2 k0 k1) (k0 + 2))) k0 (k1 + 3))) k1 (key2 k0 k1 + 4)))
    (key2 k0 k1) (k0 + 5)
/-- The word drawn at the position `c`. -/
def drawn (k0 k1 c : BitVec 32) : BitVec 32 := (tf k0 k1 c).1 ^^^ (tf k0 k1 c).2

/-! ## With broadcast words -/

section Kernel
variable {s : Shape}

def rdA (a b : BitVec 32) (x : IVec s 32 × IVec s 32) : IVec s 32 × IVec s 32 :=
  (addi x.1 x.2, xori (addi x.1 x.2) (ori (shli x.2 (broadcast s a)) (shrui x.2 (broadcast s b))))
def rdEA (x : IVec s 32 × IVec s 32) : IVec s 32 × IVec s 32 := rdA 6#32 26#32 (rdA 26#32 6#32 (rdA 15#32 17#32 (rdA 13#32 19#32 x)))
def rdOA (x : IVec s 32 × IVec s 32) : IVec s 32 × IVec s 32 := rdA 24#32 8#32 (rdA 16#32 16#32 (rdA 29#32 3#32 (rdA 17#32 15#32 x)))
def plusA (x : IVec s 32 × IVec s 32) (a b : BitVec 32) : IVec s 32 × IVec s 32 := (addi x.1 (broadcast s a), addi x.2 (broadcast s b))
def tfA (v : IVec s 32) (k0 k1 : BitVec 32) : IVec s 32 × IVec s 32 :=
  let k2 := Scalar.xori (Scalar.xori k0 k1) 466688986#32
  plusA (rdEA (plusA (rdOA (plusA (rdEA (plusA (rdOA (plusA (rdEA (broadcast s k0, addi v (broadcast s k1))) k1 (Scalar.addi k2 1#32))) k2 (Scalar.addi k0 2#32)))
    k0 (Scalar.addi k1 3#32))) k1 (Scalar.addi k2 4#32))) k2 (Scalar.addi k0 5#32)
/-- The drawn words as floats in [1, 2). -/
def bitsA {F : FTy → Type} [FloatOps F] (v : IVec s 32) (k0 k1 : BitVec 32) : FVec F s .f32 :=
  bitcastToFloat .f32 (ori (shrui (xori (tfA v k0 k1).1 (tfA v k0 k1).2) (broadcast s 9#32)) (broadcast s 1065353216#32))

/-- A pair of arrays at a position. -/
def at2 (x : IVec s 32 × IVec s 32) (p : s.Idx) : BitVec 32 × BitVec 32 := (x.1 p, x.2 p)

theorem shl_at (x : IVec s 32) (a : BitVec 32) (h : a.toNat < 32) (p : s.Idx) : shli x (broadcast s a) p = x p <<< a :=
  if_pos h
theorem shr_at (x : IVec s 32) (a : BitVec 32) (h : a.toNat < 32) (p : s.Idx) : shrui x (broadcast s a) p = x p >>> a :=
  if_pos h

theorem rdA_at (a b : BitVec 32) (ha : a.toNat < 32) (hb : b.toNat < 32) (x : IVec s 32 × IVec s 32) (p : s.Idx) :
    at2 (rdA a b x) p = rd a b (at2 x p) := by
  unfold at2 rd rdA
  show (_, (x.1 p + x.2 p) ^^^ (shli x.2 (broadcast s a) p ||| shrui x.2 (broadcast s b) p)) = _
  rw [shl_at _ _ ha, shr_at _ _ hb]
  rfl
theorem rdEA_at (x : IVec s 32 × IVec s 32) (p : s.Idx) : at2 (rdEA x) p = rdE (at2 x p) := by
  unfold rdEA rdE
  rw [rdA_at _ _ (by decide) (by decide), rdA_at _ _ (by decide) (by decide), rdA_at _ _ (by decide) (by decide), rdA_at _ _ (by decide) (by decide)]
  rfl
theorem rdOA_at (x : IVec s 32 × IVec s 32) (p : s.Idx) : at2 (rdOA x) p = rdO (at2 x p) := by
  unfold rdOA rdO
  rw [rdA_at _ _ (by decide) (by decide), rdA_at _ _ (by decide) (by decide), rdA_at _ _ (by decide) (by decide), rdA_at _ _ (by decide) (by decide)]
  rfl
theorem plusA_at (x : IVec s 32 × IVec s 32) (a b : BitVec 32) (p : s.Idx) : at2 (plusA x a b) p = plus (at2 x p) a b := rfl
theorem tfA_at (v : IVec s 32) (k0 k1 : BitVec 32) (p : s.Idx) : at2 (tfA v k0 k1) p = tf k0 k1 (v p) := by
  unfold tfA tf
  simp only [plusA_at, rdEA_at, rdOA_at]
  rfl
theorem drawA_at (v : IVec s 32) (k0 k1 : BitVec 32) (p : s.Idx) :
    xori (tfA v k0 k1).1 (tfA v k0 k1).2 p = drawn k0 k1 (v p) := by
  unfold drawn
  rw [← tfA_at]
  rfl

end Kernel

/-! ## With broadcast rank-zero arrays -/

section Reference
variable {s z : Shape} {d : Fin z.rank → Fin s.rank} (h : z.BroadcastsInDim s d)

/-- A rank-zero array spread over `s`. -/
abbrev sp (x : IVec z 32) : IVec s 32 := broadcastInDim s d h x
/-- A constant spread over `s`. -/
abbrev spc (a : BitVec 32) : IVec s 32 := sp h (constantI z 32 a)

def rdR (a b : BitVec 32) (x : IVec s 32 × IVec s 32) : IVec s 32 × IVec s 32 :=
  (addi x.1 x.2, xori (ori (Host.shli x.2 (spc h a)) (Host.shrui x.2 (spc h b))) (addi x.1 x.2))
def rdER (x : IVec s 32 × IVec s 32) : IVec s 32 × IVec s 32 := rdR h 6#32 26#32 (rdR h 26#32 6#32 (rdR h 15#32 17#32 (rdR h 13#32 19#32 x)))
def rdOR (x : IVec s 32 × IVec s 32) : IVec s 32 × IVec s 32 := rdR h 24#32 8#32 (rdR h 16#32 16#32 (rdR h 29#32 3#32 (rdR h 17#32 15#32 x)))
def plusR (x : IVec s 32 × IVec s 32) (a b : IVec z 32) (n : BitVec 32) : IVec s 32 × IVec s 32 :=
  (addi x.1 (sp h a), addi (addi x.2 (sp h b)) (spc h n))
def tfR (v : IVec s 32) (k0 k1 : IVec z 32) : IVec s 32 × IVec s 32 :=
  let k2 := xori (xori k0 k1) (constantI z 32 466688986#32)
  plusR h (rdER h (plusR h (rdOR h (plusR h (rdER h (plusR h (rdOR h (plusR h (rdER h (addi (spc h 0#32) (sp h k0), addi v (sp h k1))) k1 k2 1#32)) k2 k0 2#32))
    k0 k1 3#32)) k1 k2 4#32)) k2 k0 5#32
/-- The drawn words as floats in [1, 2). -/
def bitsR {F : FTy → Type} [FloatOps F] (v : IVec s 32) (k0 k1 : IVec z 32) : FVec F s .f32 :=
  bitcastToFloat .f32 (ori (Host.shrui (xori (tfR h v k0 k1).1 (tfR h v k0 k1).2) (spc h 9#32)) (spc h 1065353216#32))

end Reference

section ReferenceAt
variable {s : Shape} (h : (⟨0, ![]⟩ : Shape).BroadcastsInDim s ![])

theorem sp_at (x : IVec ⟨0, ![]⟩ 32) (p : s.Idx) : sp h x p = x ix0 := ValueIdx.broadcastInDim_scalar_apply h x p

theorem spc_at (a : BitVec 32) (p : s.Idx) : spc h a p = a := sp_at h _ p

theorem rdR_at (a b : BitVec 32) (ha : a.toNat < 32) (hb : b.toNat < 32) (x : IVec s 32 × IVec s 32) (p : s.Idx) :
    at2 (rdR h a b x) p = rd a b (at2 x p) := by
  have e1 : Host.shli x.2 (spc h a) p = x.2 p <<< a := by
    show IntOp.shli .host (x.2 p) (spc h a p) = _
    rw [spc_at]
    exact if_pos ha
  have e2 : Host.shrui x.2 (spc h b) p = x.2 p >>> b := by
    show IntOp.shrui .host (x.2 p) (spc h b p) = _
    rw [spc_at]
    exact if_pos hb
  unfold at2 rd rdR
  show (_, (Host.shli x.2 (spc h a) p ||| Host.shrui x.2 (spc h b) p) ^^^ (x.1 p + x.2 p)) = _
  rw [e1, e2, BitVec.xor_comm]
  rfl
theorem rdER_at (x : IVec s 32 × IVec s 32) (p : s.Idx) : at2 (rdER h x) p = rdE (at2 x p) := by
  unfold rdER rdE
  rw [rdR_at _ _ _ (by decide) (by decide), rdR_at _ _ _ (by decide) (by decide), rdR_at _ _ _ (by decide) (by decide), rdR_at _ _ _ (by decide) (by decide)]
  rfl
theorem rdOR_at (x : IVec s 32 × IVec s 32) (p : s.Idx) : at2 (rdOR h x) p = rdO (at2 x p) := by
  unfold rdOR rdO
  rw [rdR_at _ _ _ (by decide) (by decide), rdR_at _ _ _ (by decide) (by decide), rdR_at _ _ _ (by decide) (by decide), rdR_at _ _ _ (by decide) (by decide)]
  rfl
theorem plusR_at (x : IVec s 32 × IVec s 32) (a b : IVec ⟨0, ![]⟩ 32) (n : BitVec 32) (p : s.Idx) :
    at2 (plusR h x a b n) p = plus (at2 x p) (a ix0) (b ix0 + n) := by
  unfold at2 plusR plus
  show (x.1 p + sp h a p, x.2 p + sp h b p + spc h n p) = _
  rw [sp_at, sp_at, spc_at, BitVec.add_assoc]
/-- The cipher at a place is the cipher on the key's words and the place's counter. -/
theorem tfR_at (v : IVec s 32) (k0 k1 : IVec ⟨0, ![]⟩ 32) (p : s.Idx) :
    at2 (tfR h v k0 k1) p = tf (k0 ix0) (k1 ix0) (v p) := by
  unfold tfR tf
  simp only [plusR_at, rdER_at, rdOR_at]
  have e : at2 (addi (spc h 0#32) (sp h k0), addi v (sp h k1)) p = (k0 ix0, v p + k1 ix0) := by
    show (spc h 0#32 p + sp h k0 p, v p + sp h k1 p) = _
    rw [spc_at, sp_at, sp_at]
    exact congrArg (·, _) (BitVec.zero_add _)
  rw [e]
  rfl
theorem drawR_at (v : IVec s 32) (k0 k1 : IVec ⟨0, ![]⟩ 32) (p : s.Idx) :
    xori (tfR h v k0 k1).1 (tfR h v k0 k1).2 p = drawn (k0 ix0) (k1 ix0) (v p) := by
  unfold drawn
  rw [← tfR_at h]
  rfl

end ReferenceAt

end Cert.Proof

end
-- ==== Proof.Accept.lean ====
/-
  What one round of the rejection sampler decides at one pixel, over the extended reals: the candidate, and whether it is
  accepted. Both programs compute these functions at every pixel.
-/
module

public import proofs.«01_k».proof.Proof.Cipher
public import Idealize.ShloMosaic.Lib.Pointwise

@[expose] public section

noncomputable section

namespace Cert.Proof

open Idealize.ShloMosaic

/-- The number a 32-bit float pattern denotes. -/
abbrev lit (b : BitVec 32) : EReal := Ideal.ofBits .f32 b

/-- The rate a round works with: a small rate is replaced, as it is sampled another way. -/
def rate (l : EReal) : EReal := Scalar.select (Ideal.cmp .olt l (lit 0x41200000#32)) (lit 0x47C35000#32) l
/-- The sampler's constants of a rate. -/
def cb (r : EReal) : EReal := lit 0x3F6E5604#32 + lit 0x4021EB85#32 * Ideal.sqrt r
def ca (r : EReal) : EReal := lit 0xBD71A9FC#32 + lit 0x3CCB6849#32 * cb r
def ci (r : EReal) : EReal := lit 0x3F8FDBF5#32 + Ideal.div (lit 0x3F90FF97#32) (cb r - lit 0x4059999A#32)
def cv (r : EReal) : EReal := lit 0x3F6D7DBF#32 - Ideal.div (lit 0x4067D567#32) (cb r - lit 0x40000000#32)
/-- The first uniform number, folded. -/
def fold (u : EReal) : EReal := lit 0x3F000000#32 - max u (-u)
/-- The candidate. -/
def cand (r u : EReal) : EReal :=
  Ideal.liftRound Int.floor ((Ideal.div (lit 0x40000000#32 * ca r) (fold u) + cb r) * u + r + lit 0x3EDC28F6#32)
/-- The Lanczos sum. -/
def lanczos (x : EReal) : EReal :=
  Ideal.div (lit 0x4429214E#32) (x + lit 0x3F800000#32) + lit 0x3F800000#32 + Ideal.div (lit 0xC49D6474#32) (x + lit 0x40000000#32)
    + Ideal.div (lit 0x4440D4B3#32) (x + lit 0x40400000#32) + Ideal.div (lit 0xC3309D73#32) (x + lit 0x40800000#32)
    + Ideal.div (lit 0x41481E14#32) (x + lit 0x40A00000#32) + Ideal.div (lit 0xBE0DE595#32) (x + lit 0x40C00000#32)
/-- The logarithm of the series' base. -/
def logBase (x : EReal) : EReal := Ideal.log1p (x * lit 0x3E088889#32) + lit 0x4000F42C#32
/-- The logarithm of the gamma function at `x + 1`. -/
def logGamma (x : EReal) : EReal :=
  (x + lit 0x3F000000#32 - Ideal.div (x + lit 0x40F00000#32) (logBase x)) * logBase x + lit 0x3F6B3F8E#32 + Ideal.log (lanczos x)
/-- The two sides of the last test, the second at the point `x` of the gamma function. -/
def lhs (r u v : EReal) : EReal := Ideal.log (Ideal.div (v * ci r) (Ideal.div (ca r) (fold u * fold u) + cb r))
def rhs (r u x : EReal) : EReal := lit 0x00000000#32 - r + cand r u * Ideal.log r - logGamma x
/-- Whether the candidate is accepted, the gamma function taken at the point `x`. -/
def accAt (r u v x : EReal) : BitVec 1 :=
  IntOp.ori (IntOp.andi (Ideal.cmp .oge (fold u) (lit 0x3D8F5C29#32)) (Ideal.cmp .ole v (cv r)))
    (IntOp.andi (IntOp.xori (IntOp.ori (Ideal.cmp .olt (cand r u) (lit 0x00000000#32))
        (IntOp.andi (Ideal.cmp .olt (fold u) (lit 0x3C54FDF4#32)) (Ideal.cmp .ogt v (fold u)))) 1#1)
      (Ideal.cmp .ole (lhs r u v) (rhs r u x)))
/-- Whether the candidate is accepted. -/
def acc (r u v : EReal) : BitVec 1 := accAt r u v (cand r u + lit 0x3F800000#32 - lit 0x3F800000#32)

/-- Raising the gamma function's argument to one where it is less changes nothing: the candidate is then negative and refused. -/
theorem accAt_clamped (r u v : EReal) :
    accAt r u v (max (cand r u + lit 0x3F800000#32) (lit 0x3F800000#32) - lit 0x3F800000#32) = acc r u v := by
  unfold acc
  by_cases h : cand r u < 0
  · unfold accAt
    have e : Ideal.cmp .olt (cand r u) (lit 0x00000000#32) = 1#1 := by
      rw [show lit 0x00000000#32 = 0 from Ideal.ofBits_zero_f32]
      exact (Ideal.cmp_olt_eq_one _ _).2 h
    rw [e]
    congr 1
    generalize IntOp.andi (Ideal.cmp .olt (fold u) (lit 0x3C54FDF4#32)) (Ideal.cmp .ogt v (fold u)) = b
    generalize Ideal.cmp .ole (lhs r u v) (rhs r u _) = c
    generalize Ideal.cmp .ole (lhs r u v) (rhs r u _) = d
    revert b c d
    decide
  · rw [max_eq_left]
    rw [show lit 0x3F800000#32 = 1 from Ideal.ofBits_one_f32]
    simpa using add_le_add_left (not_lt.1 h) (1 : EReal)

/-- The number a drawn word becomes: uniform on [0, 1). -/
def unit (w : BitVec 32) : EReal := Ideal.ofBits .f32 (w >>> 9#32 ||| 1065353216#32) - lit 0x3F800000#32

end Cert.Proof

end
-- ==== Proof.Model.lean ====
/-
  The two samplers at one pixel, as functions of the rate and of the pixel's place: the keys, the uniform numbers, the count of
  the products above the threshold, the candidates taken, and the number of rounds a pixel runs. Also what a loop with a test
  computes when its test says how many trips are left.
-/
module

public import proofs.«01_k».proof.Proof.Accept
public import proofs.«01_k».proof.Proof.Rules

@[expose] public section

noncomputable section

namespace Cert.Proof

open Idealize.ShloMosaic

/-! ## Keys and uniform numbers -/

/-- The keys the rounds carry, from the main key. -/
def chain : ℕ → BitVec 32 × BitVec 32
  | 0 => (0#32, 42#32)
  | n + 1 => tf (chain n).1 (chain n).2 0#32
/-- The keys round `n` draws with. -/
def sub1 (n : ℕ) : BitVec 32 × BitVec 32 := tf (chain n).1 (chain n).2 1#32
def sub2 (n : ℕ) : BitVec 32 × BitVec 32 := tf (chain n).1 (chain n).2 2#32
/-- The uniform numbers of round `n` at place `q`. -/
def uni (q : BitVec 32) (n : ℕ) : EReal := unit (drawn (sub1 n).1 (sub1 n).2 q)
def uni' (q : BitVec 32) (n : ℕ) : EReal := unit (drawn (sub2 n).1 (sub2 n).2 q)

/-! ## The count -/

/-- The sum of the logarithms of the first `n` uniform numbers. -/
def logs (q : BitVec 32) : ℕ → EReal
  | 0 => lit 0x00000000#32
  | n + 1 => logs q n + Ideal.log (uni q n)
/-- How many of the first `n` sums lie above the threshold `t`. -/
def cnt (t : EReal) (q : BitVec 32) : ℕ → BitVec 32
  | 0 => 0#32
  | n + 1 => Scalar.select (Ideal.cmp .ogt (logs q n) t) (IntOp.addi (cnt t q n) 1#32) (cnt t q n)
/-- The threshold of a rate: large rates have none to count. -/
def low (l : EReal) : EReal := Scalar.select (Ideal.cmp .olt l (lit 0x41200000#32)) l (lit 0x00000000#32)

/-- A drawn number's pattern is that of a number below two. -/
theorem unit_le (w : BitVec 32) : unit w ≤ 1 := by
  have h2 : (2 : EReal) = ((2 : ℝ) : EReal) := by
    rw [← one_add_one_eq_two, show (2 : ℝ) = 1 + 1 by norm_num, EReal.coe_add, EReal.coe_one]
  have hx : (w >>> 9 ||| 1065353216#32).extractLsb' 23 8 = 127#8 := by
    have h : w >>> 9 < 8388608#32 := by
      rw [BitVec.lt_def, BitVec.toNat_ushiftRight, Nat.shiftRight_eq_div_pow]
      have := w.isLt
      simp only [BitVec.toNat_ofNat]
      omega
    generalize w >>> 9 = v at h
    apply BitVec.eq_of_getLsbD_eq
    intro i hi
    have hv : v.getLsbD (23 + i) = false := by
      rw [BitVec.getLsbD, Nat.testBit_lt_two_pow]
      have h' : v.toNat < 8388608 := by rw [BitVec.lt_def] at h; simpa using h
      exact h'.trans_le (show 2 ^ 23 ≤ 2 ^ (23 + i) from Nat.pow_le_pow_right (by decide) (by omega))
    rw [BitVec.getLsbD_extractLsb', BitVec.getLsbD_or, hv]
    clear hv
    revert i
    decide
  have hs : (w >>> 9 ||| 1065353216#32).extractLsb' 31 1 = 0#1 := by
    apply BitVec.eq_of_getLsbD_eq
    intro i hi
    obtain rfl : i = 0 := by omega
    rw [BitVec.getLsbD_extractLsb', BitVec.getLsbD_or, BitVec.getLsbD_ushiftRight, BitVec.getLsbD_of_ge w _ (by omega)]
    decide
  have hb : Ideal.ofBits .f32 (w >>> 9 ||| 1065353216#32) ≤ 2 := by
    show Ideal.ieee 8 23 (w >>> 9 ||| 1065353216#32) ≤ 2
    unfold Ideal.ieee
    have hf := ((w >>> 9 ||| 1065353216#32).extractLsb' 0 23).isLt
    generalize ((w >>> 9 ||| 1065353216#32).extractLsb' 0 23).toNat = fr at hf
    simp only [Nat.reduceAdd, hx, hs]
    rw [if_neg (by decide), if_neg (by decide), h2, EReal.coe_le_coe_iff]
    have hf' : ((2 ^ 23 + fr : ℕ) : ℝ) ≤ 2 ^ 24 := by exact_mod_cast (by omega : 2 ^ 23 + fr ≤ 2 ^ 24)
    have e : (2 : ℝ) ^ (((127#8).toNat : Int) - (2 ^ (8 - 1) - 1) - (23 : ℕ)) = 1 / 2 ^ 23 := by
      rw [show (((127#8).toNat : Int) - (2 ^ (8 - 1) - 1) - (23 : ℕ)) = -23 from by decide, zpow_neg]
      norm_num
    rw [e]
    have hn : (0#1 == 1#1) = false := by decide
    simp only [hn, Bool.false_eq_true, if_false, one_mul]
    rw [mul_one_div, div_le_iff₀ (by positivity)]
    calc _ ≤ _ := hf'
      _ = _ := by norm_num
  unfold unit
  rw [show lit 0x3F800000#32 = 1 from Ideal.ofBits_one_f32]
  rw [show (w >>> 9#32) = w >>> 9 from rfl]
  refine (EReal.sub_le_sub hb le_rfl).trans_eq ?_
  rw [h2, ← EReal.coe_one, ← EReal.coe_sub]
  norm_num

theorem log_unit_le (w : BitVec 32) : Ideal.log (unit w) ≤ 0 := by
  have h := unit_le w
  revert h
  generalize unit w = x
  intro h
  induction x with
  | bot => exact bot_le
  | top => exact absurd h (by decide)
  | coe r =>
    have hr : r ≤ 1 := by exact_mod_cast h
    show (if r ≤ 0 then (⊥ : EReal) else (Real.log r : EReal)) ≤ 0
    split
    · exact bot_le
    · rename_i h0
      exact_mod_cast Real.log_nonpos (le_of_lt (not_le.1 h0)) hr

/-- The sums only fall. -/
theorem logs_anti (q : BitVec 32) (n k : ℕ) : logs q (n + k) ≤ logs q n := by
  induction k with
  | zero => exact le_rfl
  | succ k ih =>
    refine le_trans ?_ ih
    show logs q (n + k) + Ideal.log (unit _) ≤ _
    simpa using add_le_add_right (log_unit_le _) (logs q (n + k))

/-- Once a sum is not above the threshold, the count stays. -/
theorem cnt_stays (t : EReal) (q : BitVec 32) (n : ℕ) (h : ¬ t < logs q n) (k : ℕ) : cnt t q (n + k) = cnt t q n := by
  induction k with
  | zero => rfl
  | succ k ih =>
    have hz : ¬ t < logs q (n + k) := fun h' => h (h'.trans_le (logs_anti q n k))
    show Scalar.select (Ideal.cmp .ogt (logs q (n + k)) t) _ (cnt t q (n + k)) = _
    rw [ih]
    exact if_neg fun h' => hz ((Ideal.cmp_ogt_eq_one _ _).1 h')

/-! ## The rounds -/

/-- Whether round `n` takes its candidate, and the candidate. -/
def takesAt (l : EReal) (q : BitVec 32) (n : ℕ) : BitVec 1 := acc (rate l) (uni q n - lit 0x3F000000#32) (uni' q n)
def candAt (l : EReal) (q : BitVec 32) (n : ℕ) : EReal := cand (rate l) (uni q n - lit 0x3F000000#32)

/-- The last candidate taken in the first `n` rounds. -/
def kept {α : Type} (A : ℕ → BitVec 1) (C : ℕ → α) (c : α) : ℕ → α
  | 0 => c
  | n + 1 => Scalar.select (A n) (C n) (kept A C c n)

theorem kept_map {α β : Type} (f : α → β) (A : ℕ → BitVec 1) (C : ℕ → α) (c : α) (n : ℕ) :
    f (kept A C c n) = kept A (fun i => f (C i)) (f c) n := by
  induction n with
  | zero => rfl
  | succ n ih =>
    show f (Scalar.select _ _ _) = Scalar.select _ _ _
    rw [← ih]
    unfold Scalar.select
    split <;> rfl

/-- The first of the first `n` rounds that takes its candidate, counted from one; zero if there is none. -/
def firstAt (A : ℕ → BitVec 1) : ℕ → ℕ
  | 0 => 0
  | n + 1 => if firstAt A n = 0 ∧ A n = 1#1 then n + 1 else firstAt A n

theorem firstAt_le (A : ℕ → BitVec 1) (n : ℕ) : firstAt A n ≤ n := by
  induction n with
  | zero => exact le_rfl
  | succ n ih => unfold firstAt; split <;> omega

theorem firstAt_stays (A : ℕ → BitVec 1) (n k : ℕ) (h : firstAt A n ≠ 0) : firstAt A (n + k) = firstAt A n := by
  induction k with
  | zero => rfl
  | succ k ih =>
    show (if firstAt A (n + k) = 0 ∧ _ then _ else firstAt A (n + k)) = _
    rw [if_neg (fun h' => h (ih ▸ h'.1)), ih]

theorem firstAt_late (A : ℕ → BitVec 1) (n k : ℕ) (h : firstAt A n = 0) : firstAt A (n + k) = 0 ∨ n < firstAt A (n + k) := by
  induction k with
  | zero => exact .inl h
  | succ k ih =>
    show (if firstAt A (n + k) = 0 ∧ A (n + k) = 1#1 then n + k + 1 else firstAt A (n + k)) = 0 ∨
      n < (if firstAt A (n + k) = 0 ∧ A (n + k) = 1#1 then n + k + 1 else firstAt A (n + k))
    split <;> omega

/-- How many rounds a pixel runs: until it takes a candidate, and at most forty. -/
def rounds (A : ℕ → BitVec 1) : ℕ := if firstAt A 40 = 0 then 40 else firstAt A 40

theorem rounds_le (A : ℕ → BitVec 1) : rounds A ≤ 40 := by
  have := firstAt_le A 40
  unfold rounds
  split <;> omega

/-- Round `n` is run when none before it took its candidate. -/
theorem lt_rounds (A : ℕ → BitVec 1) (n : ℕ) : n < rounds A ↔ n < 40 ∧ firstAt A n = 0 := by
  have hle := rounds_le A
  constructor
  · intro h
    refine ⟨by omega, ?_⟩
    by_contra h0
    have e := firstAt_stays A n (40 - n) h0
    rw [show n + (40 - n) = 40 by omega] at e
    have := firstAt_le A n
    unfold rounds at h
    rw [e, if_neg h0] at h
    omega
  · rintro ⟨hn, h0⟩
    have e := firstAt_late A n (40 - n) h0
    rw [show n + (40 - n) = 40 by omega] at e
    unfold rounds
    split <;> omega

/-! ## Loops with a test -/

/-- The state after `n` trips, the test left out. -/
def trips {S : Type} (f : ℕ → S → S) (s : S) : ℕ → S
  | 0 => s
  | n + 1 => f n (trips f s n)

/-- A loop whose test passes exactly while `j < T` stops in the state of `T` trips. -/
theorem iter_until {S : Type} (b : ℕ → S → BitVec 1) (f : ℕ → S → S) (s : S) (T N : ℕ)
    (hb : ∀ j, j < N → (b j (trips f s j) = 1#1 ↔ j < T)) :
    ∀ k j, j + k = N → j ≤ T → T ≤ N → (iter b f k j (trips f s j)).2 = trips f s T
  | 0, j, hk, hj, hT => by
    obtain rfl : j = T := by omega
    rfl
  | k + 1, j, hk, hj, hT => by
    unfold iter
    by_cases h : j < T
    · rw [if_pos ((hb j (by omega)).2 h)]
      exact iter_until b f s T N hb k (j + 1) (by omega) (by omega) hT
    · obtain rfl : j = T := by omega
      rw [if_neg (fun h' => h ((hb j (by omega)).1 h'))]

/-- Any loop stops in the state of some number of trips, and if that is not the greatest number, its test has failed. -/
theorem iter_some {S : Type} (b : ℕ → S → BitVec 1) (f : ℕ → S → S) (s : S) (N : ℕ) :
    ∀ k j, j + k = N → ∃ T, T ≤ N ∧ (iter b f k j (trips f s j)).2 = trips f s T ∧ (T < N → b T (trips f s T) ≠ 1#1)
  | 0, j, hk => ⟨j, by omega, rfl, fun h => by omega⟩
  | k + 1, j, hk => by
    unfold iter
    by_cases h : b j (trips f s j) = 1#1
    · rw [if_pos h]
      exact iter_some b f s N k (j + 1) (by omega)
    · rw [if_neg h]
      exact ⟨j, by omega, rfl, fun _ => h⟩

/-- A loop that keeps an invariant, its test passing exactly below `T`. -/
theorem iter_inv {S : Type} (b : ℕ → S → BitVec 1) (f : ℕ → S → S) (T : ℕ) (P : ℕ → S → Prop) (hb : ∀ j s, j ≤ T → (b j s = 1#1 ↔ j < T))
    (hf : ∀ j s, j < T → P j s → P (j + 1) (f j s)) : ∀ k j s, j ≤ T → T ≤ j + k → P j s → P T (iter b f k j s).2
  | 0, j, s, hj, hk, hp => by
    obtain rfl : j = T := by omega
    exact hp
  | k + 1, j, s, hj, hk, hp => by
    unfold iter
    by_cases h : j < T
    · rw [if_pos ((hb j s hj).2 h)]
      exact iter_inv b f T P hb hf k (j + 1) (f j s) (by omega) (by omega) (hf j s h hp)
    · obtain rfl : j = T := by omega
      rw [if_neg (fun h' => h ((hb j s hj).1 h'))]
      exact hp

/-! ## The three loops over a set of pixels -/

section Sets
variable {ι : Type}

/-- The counting loop may stop as soon as no pixel's sum is above its threshold: it has then all that sixty-four trips count. -/
theorem count_loop (N : ℕ) (hN : N = 64) (b : ℕ → (ι → BitVec 32) × (ι → EReal) → BitVec 1) (f : ℕ → (ι → BitVec 32) × (ι → EReal) → (ι → BitVec 32) × (ι → EReal))
    (t : ι → EReal) (q : ι → BitVec 32) (s0 : (ι → BitVec 32) × (ι → EReal))
    (hb : ∀ j < N, ∀ s, b j s = 1#1 ↔ ∃ p, t p < s.2 p)
    (hf : ∀ j < N, ∀ s p, (f j s).1 p = Scalar.select (Ideal.cmp .ogt (s.2 p) (t p)) (IntOp.addi (s.1 p) 1#32) (s.1 p)
      ∧ (f j s).2 p = s.2 p + Ideal.log (uni (q p) j))
    (h0 : ∀ p, s0.1 p = 0#32 ∧ s0.2 p = lit 0x00000000#32) (p : ι) :
    (iter b f N 0 s0).2.1 p = cnt (t p) (q p) N := by
  subst hN
  have hs : ∀ n ≤ 64, ∀ p, (trips f s0 n).1 p = cnt (t p) (q p) n ∧ (trips f s0 n).2 p = logs (q p) n := by
    intro n
    induction n with
    | zero => exact fun _ p => h0 p
    | succ n ih =>
      intro hn p
      obtain ⟨h1, h2⟩ := ih (by omega) p
      obtain ⟨g1, g2⟩ := hf n (by omega) (trips f s0 n) p
      rw [h1, h2] at g1
      rw [h2] at g2
      exact ⟨g1, g2⟩
  obtain ⟨T, hT, he, hl⟩ : ∃ T, T ≤ 64 ∧ (iter b f 64 0 s0).2 = trips f s0 T ∧ (T < 64 → b T (trips f s0 T) ≠ 1#1) := by
    generalize (64 : ℕ) = N
    exact iter_some b f s0 N N 0 (by omega)
  rw [he, (hs T hT p).1]
  by_cases h : T < 64
  · have hq := hl h
    rw [ne_eq, hb T h, not_exists] at hq
    have hq' := hq p
    rw [(hs T hT p).2] at hq'
    have := cnt_stays (t p) (q p) T hq' (64 - T)
    rw [show T + (64 - T) = 64 by omega] at this
    exact this.symm
  · rw [show T = 64 by omega]

/-- Round words as the first round that takes. -/
theorem first_step (a : BitVec 32) (A : ℕ → BitVec 1) (n : ℕ) (hn : n < 40) (ha : a = BitVec.ofNat 32 (firstAt A n)) :
    Scalar.select (IntOp.andi (IntOp.cmpi .eq a 0#32) (A n)) (BitVec.ofNat 32 (n + 1)) a = BitVec.ofNat 32 (firstAt A (n + 1)) := by
  have hle := firstAt_le A n
  subst ha
  have h0 : IntOp.cmpi .eq (BitVec.ofNat 32 (firstAt A n)) 0#32 = BitVec.ofBool (decide (firstAt A n = 0)) := by
    show BitVec.ofBool (BitVec.ofNat 32 (firstAt A n) == 0#32) = _
    congr 1
    rw [Bool.eq_iff_iff, beq_iff_eq, decide_eq_true_eq]
    constructor
    · intro h
      have := congrArg BitVec.toNat h
      rw [BitVec.toNat_ofNat, Nat.mod_eq_of_lt (by omega)] at this
      simpa using this
    · intro h
      rw [h]
  rw [h0]
  show _ = BitVec.ofNat 32 (if firstAt A n = 0 ∧ A n = 1#1 then n + 1 else firstAt A n)
  by_cases h : firstAt A n = 0
  · simp only [h, decide_true, true_and]
    rw [show IntOp.andi (BitVec.ofBool true) (A n) = A n from by generalize A n = b; revert b; decide]
    unfold Scalar.select
    split <;> rename_i hb
    · rw [if_pos (show A n = 1#1 from hb)]
    · rw [if_neg (show ¬A n = 1#1 from hb)]
  · rw [if_neg (fun h' => h h'.1)]
    simp only [h, decide_false]
    rw [show IntOp.andi (BitVec.ofBool false) (A n) = 0#1 from by generalize A n = b; revert b; decide]
    rfl

theorem rounds_of (A : ℕ → BitVec 1) (T : ℕ) (h : rounds A ≤ T) (hT : T ≤ 40) : (if firstAt A T = 0 then 40 else firstAt A T) = rounds A := by
  by_cases h0 : firstAt A T = 0
  · rw [if_pos h0]
    have := mt (lt_rounds A T).2 (by omega)
    have h40 : T = 40 := by
      by_contra h'
      exact this ⟨by omega, h0⟩
    unfold rounds
    rw [← h40, if_pos h0]
  · rw [if_neg h0]
    have e := firstAt_stays A T (40 - T) h0
    rw [show T + (40 - T) = 40 by omega] at e
    unfold rounds
    rw [e, if_neg h0]

/-- The rejection loop over a set of pixels runs as many rounds as the pixel that needs most, and each pixel holds the last candidate it took. -/
theorem reject_loop [Fintype ι] (N : ℕ) (hN : N = 40) (b : ℕ → (ι → BitVec 32) × (ι → EReal) → BitVec 1)
    (f : ℕ → (ι → BitVec 32) × (ι → EReal) → (ι → BitVec 32) × (ι → EReal)) (A : ι → ℕ → BitVec 1) (C : ι → ℕ → EReal) (c : EReal)
    (s0 : (ι → BitVec 32) × (ι → EReal)) (hb : ∀ j < N, ∀ s, b j s = 1#1 ↔ ∃ p, s.1 p = 0#32)
    (hf : ∀ j < N, ∀ s p, (f j s).1 p = Scalar.select (IntOp.andi (IntOp.cmpi .eq (s.1 p) 0#32) (A p j)) (BitVec.ofNat 32 (j + 1)) (s.1 p)
      ∧ (f j s).2 p = Scalar.select (A p j) (C p j) (s.2 p))
    (h0 : ∀ p, s0.1 p = 0#32 ∧ s0.2 p = c) (T : ℕ) (hT : T = Finset.univ.sup fun p => rounds (A p)) (p : ι) :
    (if ((iter b f N 0 s0).2.1 p).toNat = 0 then 40 else ((iter b f N 0 s0).2.1 p).toNat) = rounds (A p)
      ∧ (iter b f N 0 s0).2.2 p = kept (A p) (C p) c T := by
  subst hN
  have hs : ∀ n ≤ 40, ∀ p, (trips f s0 n).1 p = BitVec.ofNat 32 (firstAt (A p) n) ∧ (trips f s0 n).2 p = kept (A p) (C p) c n := by
    intro n
    induction n with
    | zero => exact fun _ p => h0 p
    | succ n ih =>
      intro hn p
      obtain ⟨h1, h2⟩ := ih (by omega) p
      obtain ⟨g1, g2⟩ := hf n (by omega) (trips f s0 n) p
      rw [h2] at g2
      exact ⟨g1.trans (first_step _ (A p) n (by omega) h1), g2⟩
  have hle : ∀ p, rounds (A p) ≤ T := fun p => hT ▸ Finset.le_sup (f := fun p => rounds (A p)) (Finset.mem_univ p)
  have hT40 : T ≤ 40 := hT ▸ Finset.sup_le fun p _ => rounds_le _
  have hb' : ∀ j, j < 40 → (b j (trips f s0 j) = 1#1 ↔ j < T) := by
    intro j hj
    rw [hb j hj, hT, Finset.lt_sup_iff]
    refine exists_congr fun p => ?_
    rw [(hs j hj.le p).1, lt_rounds]
    have := firstAt_le (A p) j
    constructor
    · intro h
      have h' := congrArg BitVec.toNat h
      rw [BitVec.toNat_ofNat, Nat.mod_eq_of_lt (by omega)] at h'
      exact ⟨Finset.mem_univ _, hj, by simpa using h'⟩
    · rintro ⟨-, -, h⟩
      rw [h]
  have he : (iter b f 40 0 s0).2 = trips f s0 T := by
    generalize (40 : ℕ) = N at hb' hT40
    exact iter_until b f s0 T N hb' N 0 (by omega) (by omega) hT40
  rw [he, (hs T hT40 p).1, (hs T hT40 p).2]
  refine ⟨?_, rfl⟩
  have := firstAt_le (A p) T
  rw [BitVec.toNat_ofNat, Nat.mod_eq_of_lt (by omega)]
  exact rounds_of _ T (hle p) hT40

/-- The loop that goes on from round `t`: a marked pixel's candidate is brought up to round `T`, an unmarked pixel is left. -/
theorem later_loop (N : ℕ) (hN : N = 40) (b : ℕ → (ι → BitVec 32) → BitVec 1) (f : ℕ → (ι → BitVec 32) → ι → BitVec 32) (T t : ℕ) (hT : T ≤ 40) (ht : t ≤ T)
    (A : ι → ℕ → BitVec 1) (C : ι → ℕ → BitVec 32) (c : BitVec 32) (v : ι → BitVec 1) (hb : ∀ j s, j ≤ T → (b j s = 1#1 ↔ j < T))
    (hf : ∀ j < N, ∀ s p, f j s p = Scalar.select (IntOp.andi (A p j) (v p)) (C p j) (s p)) (s : ι → BitVec 32) (p : ι)
    (hs : v p = 1#1 → s p = kept (A p) (C p) c t) :
    (iter b f N t s).2 p = if v p = 1#1 then kept (A p) (C p) c T else s p := by
  subst hN
  by_cases h : v p = 1#1
  · rw [if_pos h]
    refine iter_inv b f T (fun j z => z p = kept (A p) (C p) c j) hb (fun j z hj hz => ?_) 40 t s ht (by omega) (hs h)
    refine (hf j (by omega) z p).trans ?_
    rw [h, hz, show IntOp.andi (A p j) 1#1 = A p j from by generalize A p j = b; revert b; decide]
    rfl
  · rw [if_neg h]
    refine iter_inv b f T (fun j z => z p = s p) hb (fun j z hj hz => ?_) 40 t s ht (by omega) rfl
    refine (hf j (by omega) z p).trans ?_
    have h0 : v p = 0#1 := by generalize v p = b at h; revert b; decide
    rw [h0, hz, show IntOp.andi (A p j) 0#1 = 0#1 from by generalize A p j = b; revert b; decide]
    rfl

end Sets

end Cert.Proof

end
-- ==== Proof.Result.lean ====
/-
  One pixel of the result, as a function of its rate, its place, and the number of rounds all pixels together run; and one round of a
  loop that runs a fixed number of times and stops taking candidates once every pixel has taken one.
-/
module

public import proofs.«01_k».proof.Proof.Model

@[expose] public section

noncomputable section

namespace Cert.Proof

open Idealize.ShloMosaic

/-- The clipped sample of a pixel with rate `l` at place `q`, when the rejection sampler runs `T` rounds. -/
def pixel (T : ℕ) (l : EReal) (q : BitVec 32) : BitVec 32 :=
  IntOp.minsi (Scalar.select (Ideal.cmp .oeq l (lit 0x00000000#32)) 0#32
    (Scalar.select (Ideal.cmp .olt l (lit 0x41200000#32)) (IntOp.subi (cnt (-(low l)) q 64) 1#32)
      (FloatOps.fptosi (F := Ideal) (φ := .f32) 32 (kept (takesAt l q) (candAt l q) (lit 0xBF800000#32) T)))) 255#32

theorem kept_min (A : ℕ → BitVec 1) (C : ℕ → EReal) (c : EReal) (T n : ℕ) (r : BitVec 1) (hr : r = 1#1 ↔ n < T) :
    Scalar.select (IntOp.andi (A n) r) (C n) (kept A C c (min n T)) = kept A C c (min (n + 1) T) := by
  by_cases h : n < T
  · rw [min_eq_left h.le, min_eq_left (by omega), hr.2 h, show IntOp.andi (A n) 1#1 = A n from by generalize A n = b; revert b; decide]
    rfl
  · have h0 : r = 0#1 := by
      have := mt hr.1 h
      clear hr
      revert r
      decide
    rw [min_eq_right (by omega), min_eq_right (by omega), h0, show IntOp.andi (A n) 0#1 = 0#1 from by generalize A n = b; revert b; decide]
    rfl

/-- Whether a pixel has taken a candidate by round `n`. -/
def took (A : ℕ → BitVec 1) (n : ℕ) : BitVec 1 := BitVec.ofBool (decide (firstAt A n ≠ 0))

theorem took_eq (A : ℕ → BitVec 1) (n : ℕ) : ~~~(took A n) = 1#1 ↔ firstAt A n = 0 := by
  unfold took
  by_cases h : firstAt A n = 0 <;> simp [h]

theorem took_min (A : ℕ → BitVec 1) (T n : ℕ) (r : BitVec 1) (hr : r = 1#1 ↔ n < T) :
    IntOp.ori (took A (min n T)) (IntOp.andi (A n) r) = took A (min (n + 1) T) := by
  by_cases h : n < T
  · rw [min_eq_left h.le, min_eq_left (by omega), hr.2 h, show IntOp.andi (A n) 1#1 = A n from by generalize A n = b; revert b; decide]
    unfold took
    show _ = BitVec.ofBool (decide ((if firstAt A n = 0 ∧ A n = 1#1 then n + 1 else firstAt A n) ≠ 0))
    by_cases h0 : firstAt A n = 0
    · by_cases h1 : A n = 1#1
      · rw [if_pos ⟨h0, h1⟩, h1]; simp [h0]; decide
      · rw [if_neg (fun h' => h1 h'.2)]
        have h2 : A n = 0#1 := by
          generalize A n = b at h1
          clear h0 hr
          revert b
          decide
        rw [h2]; simp [h0]; decide
    · rw [if_neg (fun h' => h0 h'.1)]
      simp only [ne_eq, h0, not_false_eq_true, decide_true]
      generalize A n = b
      revert b
      decide
  · have h0 : r = 0#1 := by
      have := mt hr.1 h
      clear hr
      revert r
      decide
    rw [min_eq_right (by omega), min_eq_right (by omega), h0, show IntOp.andi (A n) 0#1 = 0#1 from by generalize A n = b; revert b; decide]
    generalize took A T = b
    revert b
    decide

/-- A round is run while some pixel is without a candidate, and at most forty are. -/
theorem running {ι : Type} [Fintype ι] (A : ι → ℕ → BitVec 1) (T : ℕ) (hT : T = Finset.univ.sup fun p => rounds (A p)) (n : ℕ) :
    (n < 40 ∧ ∃ p, firstAt (A p) (min n T) = 0) ↔ n < T := by
  constructor
  · rintro ⟨h40, p, hp⟩
    by_contra h
    rw [min_eq_right (by omega)] at hp
    have h1 : T < rounds (A p) := (lt_rounds _ _).2 ⟨by omega, hp⟩
    have h2 : rounds (A p) ≤ T := hT ▸ Finset.le_sup (f := fun p => rounds (A p)) (Finset.mem_univ p)
    omega
  · intro h
    have h' := h
    rw [hT, Finset.lt_sup_iff] at h'
    obtain ⟨p, -, hp⟩ := h'
    obtain ⟨h1, h2⟩ := (lt_rounds _ _).1 hp
    exact ⟨h1, p, by rw [min_eq_left h.le]; exact h2⟩

/-- The host's disjunction over a whole array. -/
theorem any_of_or {s t u : Shape} {axes : List (Fin s.rank)} (ht : ∀ a b : t.Idx, a = b) (x : IVec s 1) (v : IVec u 1) (hv : ∀ i, v i = 0#1)
    (h : s.ReducesTo axes t) (hu : 0 < u.numel) (z : t.Idx) :
    Host.reduce IntOp.ori x v h hu z = 1#1 ↔ ∃ p, x p = 1#1 := by
  rw [Host.reduce_eq_fold, Finset.filter_true_of_mem (s := Finset.univ) fun i _ => ht _ _]
  refine (Finset.fold_op_rel_iff_or (r := fun _ y : BitVec 1 => y = 1#1) (c := 1#1) (fun {x y z} => ?_)).trans ?_
  · revert y z
    decide
  · rw [hv]
    constructor
    · rintro (h | ⟨p, -, h⟩)
      · exact absurd h (by decide)
      · exact ⟨p, h⟩
    · rintro ⟨p, h⟩
      exact .inr ⟨p, Finset.mem_univ _, h⟩

end Cert.Proof

end
-- ==== Proof.KernelIdeal.Sites.lean ====
/-
  The random numbers a trip of each of the kernel's loops draws, as the block cipher over arrays. Generic in the float values.
-/
module

public import proofs.«01_k».proof.Proof.Cipher
public import proofs.«01_k».proof.Proof.KernelIdeal.Steps

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- The second uniform numbers of a trip of the second pass. -/
def uniV' (v7 : IVec S16x2048 32) (w2 w3 : Elt F .i32) : FVec F S16x2048 .f32 :=
  let v248 : BitVec 32 := Scalar.xori (Scalar.xori w2 w3) 466688986#32
  let v251 := k1_pay49 v7 w3
  let v252 := k1_pay50 v7 w2 w3
  let v298 := k1_pay62 w3 v248 v251 v252 k1_pay51
  let v299 := k1_pay63 w3 v248 v251 v252 k1_pay51
  let v345 := k1_pay75 w2 v248 v298 v299 k1_pay64
  let v347 := k1_pay76 w2 v248 v298 v299 k1_pay64
  let v390 := k1_pay87 w3 v248 v345 v347 3#32
  let v391 := k1_pay88 w3 v248 v345 v347 3#32
  let v393 := k1_pay89 w3 v248 v345 v347 3#32
  k1_pay91 w2 v248 v390 v391 v393 k1_pay90

/-- Knuth's loop over the first rows draws, as floats in [1, 2). -/
theorem uni1_eq (v : IVec S8x2048 32) (w0 w1 : Elt F .i32) :
    uni1 v w0 w1 = bitsA v w0 w1 := by
  simp only [uni1, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, bitsA, tfA, rdEA, rdOA, rdA, plusA]

/-- Knuth's loop over the second rows draws, as floats in [1, 2). -/
theorem uni2_eq (v : IVec S8x2048 32) (w0 w1 : Elt F .i32) :
    uni2 v w0 w1 = bitsA v w0 w1 := by
  simp only [uni2, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, bitsA, tfA, rdEA, rdOA, rdA, plusA]

/-- The rejection loop's first uniform numbers. -/
theorem uniU_eq (v : IVec S16x2048 32) (w0 w1 : Elt F .i32) :
    uniU v w0 w1 = subf (subf (bitsA v w0 w1) (broadcast _ (Scalar.ofBits .f32 0x3F800000#32))) (broadcast _ (Scalar.ofBits .f32 0x3F000000#32)) := by
  simp only [uniU, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, bitsA, tfA, rdEA, rdOA, rdA, plusA]

/-- The rejection loop's second uniform numbers. -/
theorem uniV_eq (v : IVec S16x2048 32) (w0 w1 : Elt F .i32) :
    uniV v w0 w1 = subf (bitsA v w0 w1) (broadcast _ (Scalar.ofBits .f32 0x3F800000#32)) := by
  simp only [uniV, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, bitsA, tfA, rdEA, rdOA, rdA, plusA]

/-- The second pass's first uniform numbers. -/
theorem uniU'_eq (v : IVec S16x2048 32) (w0 w1 : Elt F .i32) :
    uniU' v w0 w1 = subf (subf (bitsA v w0 w1) (broadcast _ (Scalar.ofBits .f32 0x3F800000#32))) (broadcast _ (Scalar.ofBits .f32 0x3F000000#32)) := by
  simp only [uniU', k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, bitsA, tfA, rdEA, rdOA, rdA, plusA]

/-- The second pass's second uniform numbers. -/
theorem uniV'_eq (v : IVec S16x2048 32) (w0 w1 : Elt F .i32) :
    uniV' v w0 w1 = subf (bitsA v w0 w1) (broadcast _ (Scalar.ofBits .f32 0x3F800000#32)) := by
  simp only [uniV', k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, bitsA, tfA, rdEA, rdOA, rdA, plusA]

end Cert.Proof.KernelIdeal

end
-- ==== Proof.KernelIdeal.Points.lean ====
/-
  The kernel's trips at one pixel, over the extended reals: the uniform numbers, the candidate and whether it is accepted, as
  the functions of `Accept`.
-/
module

public import proofs.«01_k».proof.Proof.Accept
public import proofs.«01_k».proof.Proof.KernelIdeal.Sites

@[expose] public section

noncomputable section

namespace Cert.Proof.KernelIdeal

open Cert.KernelIdeal Cert.KernelIdeal.Gen
open Idealize.ShloMosaic Idealize.ShloMosaic.TcCoe Idealize.ShloMosaic.Tactic

local notation "I16" => S16x2048.Idx

/-- A drawn array at a place. -/
theorem bitsA_at {s : Shape} (v : IVec s 32) (w0 w1 : BitVec 32) (p : s.Idx) :
    bitsA (F := Ideal) v w0 w1 p - lit 0x3F800000#32 = unit (drawn w0 w1 (v p)) := by
  unfold unit
  rw [← drawA_at]
  show Ideal.ofBits .f32 (shrui _ (broadcast s 9#32) p ||| 1065353216#32) - _ = _
  rw [shr_at _ _ (by decide)]

theorem uni1_at (v : IVec S8x2048 32) (w0 w1 : BitVec 32) (p : S8x2048.Idx) :
    (uni1 (F := Ideal) v w0 w1 p : EReal) - lit 0x3F800000#32 = unit (drawn w0 w1 (v p)) :=
  (congrArg (fun z : FVec Ideal S8x2048 .f32 => (z p : EReal) - lit 0x3F800000#32) (uni1_eq (F := Ideal) v w0 w1)).trans (bitsA_at v w0 w1 p)
theorem uni2_at (v : IVec S8x2048 32) (w0 w1 : BitVec 32) (p : S8x2048.Idx) :
    (uni2 (F := Ideal) v w0 w1 p : EReal) - lit 0x3F800000#32 = unit (drawn w0 w1 (v p)) :=
  (congrArg (fun z : FVec Ideal S8x2048 .f32 => (z p : EReal) - lit 0x3F800000#32) (uni2_eq (F := Ideal) v w0 w1)).trans (bitsA_at v w0 w1 p)
theorem uniU_at (v : IVec S16x2048 32) (w0 w1 : BitVec 32) (p : I16) :
    uniU (F := Ideal) v w0 w1 p = unit (drawn w0 w1 (v p)) - lit 0x3F000000#32 :=
  (congrFun (uniU_eq (F := Ideal) v w0 w1) p).trans (congrArg (· - lit 0x3F000000#32) (bitsA_at v w0 w1 p))
theorem uniV_at (v : IVec S16x2048 32) (w0 w1 : BitVec 32) (p : I16) :
    uniV (F := Ideal) v w0 w1 p = unit (drawn w0 w1 (v p)) :=
  (congrFun (uniV_eq (F := Ideal) v w0 w1) p).trans (bitsA_at v w0 w1 p)
theorem uniU'_at (v : IVec S16x2048 32) (w0 w1 : BitVec 32) (p : I16) :
    uniU' (F := Ideal) v w0 w1 p = unit (drawn w0 w1 (v p)) - lit 0x3F000000#32 :=
  (congrFun (uniU'_eq (F := Ideal) v w0 w1) p).trans (congrArg (· - lit 0x3F000000#32) (bitsA_at v w0 w1 p))
theorem uniV'_at (v : IVec S16x2048 32) (w0 w1 : BitVec 32) (p : I16) :
    uniV' (F := Ideal) v w0 w1 p = unit (drawn w0 w1 (v p)) :=
  (congrFun (uniV'_eq (F := Ideal) v w0 w1) p).trans (bitsA_at v w0 w1 p)

/-- The proposal of the first pass at a pixel whose constants are those of the rate `r`. -/
theorem prop_at (v44 v40 v35 u : FVec Ideal S16x2048 .f32) (p : I16) (r : EReal) (h44 : v44 p = ca r) (h40 : v40 p = cb r)
    (h35 : v35 p = r) : prop v44 v40 v35 u p = cand r (u p) := by
  simp only [prop, k0_pay183, k0_pay184, cand, fold, addf_apply, mulf_apply, subf_apply, divf_apply, absf_apply, floor_apply,
    ValueIdx.broadcast_apply, h44, h40, h35, Ideal.addf_def, Ideal.subf_def, Ideal.mulf_def, Ideal.divf_def, Ideal.absf_def,
    Ideal.floor_def, Ideal.ofBits_def]

/-- Whether the first pass takes its proposal at such a pixel. -/
theorem takes_at (v44 v40 v35 v50 v57 v56 u v : FVec Ideal S16x2048 .f32) (p : I16) (r : EReal) (h44 : v44 p = ca r) (h40 : v40 p = cb r)
    (h35 : v35 p = r) (h50 : v50 p = ci r) (h57 : v57 p = Ideal.log r) (h56 : v56 p = cv r) :
    takes v44 v40 v35 v50 v57 v56 u v p = acc r (u p) (v p) := by
  rw [← accAt_clamped]
  have hc : k0_pay184 v44 v40 v35 u p = cand r (u p) := prop_at v44 v40 v35 u p r h44 h40 h35
  simp only [takes, prop, k0_pay183, k0_pay185, k0_pay186, k0_pay187, k0_pay188, k0_pay189, k0_pay190, hc, accAt, lhs, rhs, logGamma,
    logBase, lanczos, fold, addf_apply, mulf_apply,
    subf_apply, divf_apply, absf_apply, log_apply, log1p_apply, maximumf_apply, ValueIdx.cmpf_apply, andi_apply, ori_apply, xori_apply,
    constantI_apply, ValueIdx.broadcast_apply, h44, h40, h35, h50, h57, h56, Ideal.addf_def, Ideal.subf_def, Ideal.mulf_def, Ideal.divf_def,
    Ideal.absf_def, Ideal.log_def, Ideal.log1p_def, Ideal.maximumf_def, Ideal.cmpf_def, Ideal.ofBits_def]

/-- The second pass's constants at a pixel. -/
theorem second_at (v10 : FVec Ideal S16x2048 .f32) (p : I16) :
    k1_pay7 v10 p = rate (v10 p) ∧ k1_pay8 v10 p = cb (rate (v10 p)) ∧ k1_pay9 v10 p = ca (rate (v10 p))
      ∧ k1_pay10 v10 p = ci (rate (v10 p)) ∧ k1_pay11 v10 p = cv (rate (v10 p)) ∧ k1_pay12 v10 p = Ideal.log (rate (v10 p)) := by
  have h7 : k1_pay7 v10 p = rate (v10 p) := by
    simp only [k1_pay7, rate, ValueIdx.select_apply, ValueIdx.cmpf_apply, ValueIdx.broadcast_apply, Ideal.cmpf_def, Ideal.ofBits_def]
  have h8 : k1_pay8 v10 p = cb (rate (v10 p)) := by
    simp only [k1_pay8, cb, addf_apply, mulf_apply, sqrt_apply, h7, ValueIdx.broadcast_apply, Ideal.addf_def, Ideal.mulf_def, Ideal.sqrt_def, Ideal.ofBits_def]
  refine ⟨h7, h8, ?_, ?_, ?_, ?_⟩
  · simp only [k1_pay9, ca, addf_apply, mulf_apply, h8, ValueIdx.broadcast_apply, Ideal.addf_def, Ideal.mulf_def, Ideal.ofBits_def]
  · simp only [k1_pay10, ci, addf_apply, subf_apply, divf_apply, h8, ValueIdx.broadcast_apply, Ideal.addf_def, Ideal.subf_def, Ideal.divf_def, Ideal.ofBits_def]
  · simp only [k1_pay11, cv, subf_apply, divf_apply, h8, ValueIdx.broadcast_apply, Ideal.subf_def, Ideal.divf_def, Ideal.ofBits_def]
  · simp only [k1_pay12, log_apply, h7, Ideal.log_def]

/-- The first pass's constants at a pixel. -/
theorem first_at (x : Vec Ideal S16x2048 .i32) (p : I16) (l : EReal) (h : k0_pay18 (F := Ideal) x p = l) :
    k0_pay29 x p = rate l ∧ k0_pay1 (k0_pay30 x) k0_pay31 p = cb (rate l) ∧ k0_pay2 (k0_pay30 x) k0_pay31 p = ca (rate l)
      ∧ k0_pay3 (k0_pay30 x) k0_pay31 p = ci (rate l) ∧ k0_pay4 (k0_pay30 x) k0_pay31 p = cv (rate l)
      ∧ k0_pay5 (k0_pay29 x) p = Ideal.log (rate l) := by
  have h7 : k0_pay29 x p = rate l := by
    simp only [k0_pay29, rate, h, ValueIdx.select_apply, ValueIdx.cmpf_apply, ValueIdx.broadcast_apply, Ideal.cmpf_def, Ideal.ofBits_def]
  have h8 : k0_pay1 (k0_pay30 x) k0_pay31 p = cb (rate l) := by
    simp only [k0_pay1, k0_pay30, k0_pay31, cb, addf_apply, mulf_apply, sqrt_apply, h7, ValueIdx.broadcast_apply, Ideal.addf_def, Ideal.mulf_def, Ideal.sqrt_def, Ideal.ofBits_def]
  refine ⟨h7, h8, ?_, ?_, ?_, ?_⟩
  · simp only [k0_pay2, ca, addf_apply, mulf_apply, h8, ValueIdx.broadcast_apply, Ideal.addf_def, Ideal.mulf_def, Ideal.ofBits_def]
  · simp only [k0_pay3, ci, addf_apply, subf_apply, divf_apply, h8, ValueIdx.broadcast_apply, Ideal.addf_def, Ideal.subf_def, Ideal.divf_def, Ideal.ofBits_def]
  · simp only [k0_pay4, cv, subf_apply, divf_apply, h8, ValueIdx.broadcast_apply, Ideal.subf_def, Ideal.divf_def, Ideal.ofBits_def]
  · simp only [k0_pay5, log_apply, h7, Ideal.log_def]

/-- A trip of the second pass at a pixel. -/
theorem bStep_at (v10 : FVec Ideal S16x2048 .f32) (v7 : IVec S16x2048 32) (v17 : IVec S16x2048 1) (w0 w1 w2 w3 : BitVec 32)
    (s : IVec S16x2048 32) (p : I16) :
    bStep (F := Ideal) v10 v7 v17 w0 w1 w2 w3 s p =
      Scalar.select (IntOp.andi (acc (rate (v10 p)) (unit (drawn w0 w1 (v7 p)) - lit 0x3F000000#32) (unit (drawn w2 w3 (v7 p)))) (v17 p))
        (FloatOps.fptosi (F := Ideal) (φ := .f32) 32 (cand (rate (v10 p)) (unit (drawn w0 w1 (v7 p)) - lit 0x3F000000#32))) (s p) := by
  obtain ⟨h7, h8, h9, h10, h11, h12⟩ := second_at v10 p
  rw [← accAt_clamped, ← uniU'_at v7 w0 w1 p, ← uniV'_at v7 w2 w3 p]
  have e : bStep (F := Ideal) v10 v7 v17 w0 w1 w2 w3 s = k1_pay6 v17 s (k1_pay11 v10) (uniV' v7 w2 w3) (k1_pay92 (uniU' v7 w0 w1))
      (k1_pay93 (k1_pay7 v10) (k1_pay8 v10) (k1_pay9 v10) (uniU' v7 w0 w1))
      (log (divf (mulf (uniV' v7 w2 w3) (k1_pay10 v10)) (addf (divf (k1_pay9 v10) (mulf (k1_pay92 (uniU' v7 w0 w1)) (k1_pay92 (uniU' v7 w0 w1)))) (k1_pay8 v10))))
      (k1_pay95 (k1_pay7 v10) (k1_pay12 v10) (k1_pay93 (k1_pay7 v10) (k1_pay8 v10) (k1_pay9 v10) (uniU' v7 w0 w1)) (Scalar.ofBits .f32 0x00000000#32))
      (k1_pay96 (k1_pay93 (k1_pay7 v10) (k1_pay8 v10) (k1_pay9 v10) (uniU' v7 w0 w1)))
      (k1_pay97 (k1_pay93 (k1_pay7 v10) (k1_pay8 v10) (k1_pay9 v10) (uniU' v7 w0 w1)))
      (k1_pay98 (k1_pay93 (k1_pay7 v10) (k1_pay8 v10) (k1_pay9 v10) (uniU' v7 w0 w1))) := by
    simp only [bStep, k1_pay94, uniV']
  rw [e]
  clear e
  have hf : k1_pay92 (uniU' (F := Ideal) v7 w0 w1) p = fold (uniU' (F := Ideal) v7 w0 w1 p) := by
    simp only [k1_pay92, fold, subf_apply, absf_apply, ValueIdx.broadcast_apply, Ideal.subf_def, Ideal.absf_def, Ideal.ofBits_def]
  generalize uniU' (F := Ideal) v7 w0 w1 = u at hf ⊢
  generalize uniV' (F := Ideal) v7 w2 w3 = v
  have hc : k1_pay93 (k1_pay7 v10) (k1_pay8 v10) (k1_pay9 v10) u p = cand (rate (v10 p)) (u p) := by
    simp only [k1_pay93, cand, addf_apply, mulf_apply, subf_apply, divf_apply, floor_apply, hf, h7, h8, h9,
      ValueIdx.broadcast_apply, Ideal.addf_def, Ideal.subf_def, Ideal.mulf_def, Ideal.divf_def, Ideal.floor_def, Ideal.ofBits_def]
  generalize k1_pay93 (k1_pay7 v10) (k1_pay8 v10) (k1_pay9 v10) u = c at hc ⊢
  simp only [k1_pay6, k1_pay95, k1_pay96, k1_pay97, k1_pay98, hc, hf, h7, h8, h9, h10, h11, h12, accAt, lhs, rhs, logGamma,
    logBase, lanczos, addf_apply, mulf_apply, ValueIdx.select_apply, fptosi_apply,
    subf_apply, divf_apply, log_apply, log1p_apply, maximumf_apply, ValueIdx.cmpf_apply, andi_apply, ori_apply, xori_apply,
    constantI_apply, ValueIdx.broadcast_apply, Ideal.addf_def, Ideal.subf_def, Ideal.mulf_def, Ideal.divf_def,
    Ideal.absf_def, Ideal.log_def, Ideal.log1p_def, Ideal.maximumf_def, Ideal.cmpf_def, Ideal.ofBits_def]

end Cert.Proof.KernelIdeal

end
-- ==== Proof.KernelIdeal.Trips.lean ====
/-
  The kernel's loops over the extended reals: what each holds at a pixel when it stops, as the functions of `Model`, for tables that
  hold the keys of the rounds.
-/
module

public import proofs.«01_k».proof.Proof.Model
public import proofs.«01_k».proof.Proof.KernelIdeal.Points
public import proofs.«01_k».proof.Proof.KernelIdeal.Bounds

@[expose] public section

noncomputable section

namespace Cert.Proof.KernelIdeal

open Cert.KernelIdeal Cert.KernelIdeal.Gen
open Idealize.ShloMosaic Idealize.ShloMosaic.TcCoe Idealize.ShloMosaic.Tactic

/-! ## The tests -/

/-- The greatest of ones and zeros is above zero exactly when there is a one. -/
theorem any_of_max {s : Shape} {a b : ℕ} (hc : s.ShapeCasts ⟨3, ![1, a, b]⟩) (hr : (⟨3, ![1, a, b]⟩ : Shape).Reduces [1, 2] S1) (c : IVec s 1) (j : S1.Idx) :
    (0 : EReal) < multiReduction (F := Ideal) (φ := .f32) .maximumf [1, 2] S1
      (shapeCast ⟨3, ![1, a, b]⟩ (select c (broadcast s (lit 0x3F800000#32)) (broadcast s (lit 0x00000000#32)) : FVec Ideal s .f32) hc) 0xFF800000#32 hr (.inl rfl) rfl j
      ↔ ∃ p, c p = 1#1 := by
  have e := multiReduction_maximumf_eq_fold (F := Ideal) (φ := .f32) (shapeCast ⟨3, ![1, a, b]⟩ (select c (broadcast s (lit 0x3F800000#32)) (broadcast s (lit 0x00000000#32)) : FVec Ideal s .f32) hc) 0xFF800000#32 hr (.inl rfl) rfl j
  rw [Finset.filter_true_of_mem (s := Finset.univ) fun i _ => funext fun a => Fin.ext (by
    have h1 := (hr.drop i a).isLt
    have h2 := (j a).isLt
    have h3 : S1.size a = 1 := by fin_cases a; rfl
    omega)] at e
  refine (iff_of_eq (congrArg (fun z : EReal => (0 : EReal) < z) e)).trans ?_
  refine (Finset.lt_fold_max (s := Finset.univ) (b := (Ideal.ofBits .f32 0xFF800000#32 : EReal)) 0).trans ?_
  have hb : ¬ (0 : EReal) < Ideal.ofBits .f32 0xFF800000#32 := by
    have : Ideal.ofBits .f32 0xFF800000#32 = ⊥ := by simp [Ideal.ofBits, Ideal.ieee]
    rw [this]
    exact not_lt_bot
  have hv : ∀ b : BitVec 1, (0 : EReal) < Scalar.select b (lit 0x3F800000#32) (lit 0x00000000#32) ↔ b = 1#1 := by
    intro b
    rw [show lit 0x3F800000#32 = 1 from Ideal.ofBits_one_f32, show lit 0x00000000#32 = 0 from Ideal.ofBits_zero_f32]
    unfold Scalar.select
    split
    · rename_i h; exact ⟨fun _ => h, fun _ => zero_lt_one⟩
    · rename_i h; exact ⟨fun h' => absurd h' (lt_irrefl _), fun h' => absurd h' h⟩
  constructor
  · rintro (h | ⟨x, -, h⟩)
    · exact absurd h hb
    · exact ⟨Shape.reshapeEquiv hc x, (hv _).1 h⟩
  · rintro ⟨p, hp⟩
    refine .inr ⟨(Shape.reshapeEquiv hc).symm p, Finset.mem_univ _, ?_⟩
    show (0 : EReal) < Scalar.select (c (Shape.reshapeEquiv hc ((Shape.reshapeEquiv hc).symm p))) (lit 0x3F800000#32) (lit 0x00000000#32)
    rw [Equiv.apply_symm_apply]
    exact (hv _).2 hp

/-- A test below the cap passes when what it looks at is above zero. -/
theorem test_eq (x : EReal) :
    Scalar.andi 1#1 (Scalar.cmpf (F := Ideal) (φ := .f32) .ogt x (Scalar.ofBits (F := Ideal) .f32 0x00000000#32)) = 1#1 ↔ 0 < x := by
  have h : Scalar.cmpf (F := Ideal) (φ := .f32) .ogt x (Scalar.ofBits (F := Ideal) .f32 0x00000000#32) = Ideal.cmp .ogt x 0 := by
    rw [← Ideal.ofBits_zero_f32]; rfl
  rw [h, ← Ideal.cmp_ogt_eq_one]
  generalize Ideal.cmp .ogt x 0 = d
  revert d
  decide

theorem slt64 : ∀ j < 64, Scalar.cmpi .slt (BitVec.ofNat 32 j) 64#32 = 1#1 := by decide
theorem slt40 : ∀ j < 40, Scalar.cmpi .slt (BitVec.ofNat 32 j) 40#32 = 1#1 := by decide

theorem kTest1_eq (v17 : FVec Ideal S8x2048 .f32) (j : ℕ) (hj : j < 64) (s : IVec S8x2048 32 × FVec Ideal S8x2048 .f32) :
    kTest1 v17 j s = 1#1 ↔ ∃ p, v17 p < s.2 p := by
  unfold kTest1
  rw [slt64 j hj]
  refine (test_eq _).trans ?_
  unfold k0_pay10 extractAt
  refine (any_of_max shapeCasts_S8x2048_S1x8x2048 reduces_S1x8x2048_S1 (cmpf .ogt s.2 v17) _).trans ?_
  exact exists_congr fun p => Ideal.cmp_ogt_eq_one _ _
theorem kTest2_eq (v17 : FVec Ideal S8x2048 .f32) (j : ℕ) (hj : j < 64) (s : IVec S8x2048 32 × FVec Ideal S8x2048 .f32) :
    kTest2 v17 j s = 1#1 ↔ ∃ p, v17 p < s.2 p := by
  unfold kTest2
  rw [slt64 j hj]
  refine (test_eq _).trans ?_
  unfold k0_pay12 extractAt
  refine (any_of_max shapeCasts_S8x2048_S1x8x2048 reduces_S1x8x2048_S1 (cmpf .ogt s.2 v17) _).trans ?_
  exact exists_congr fun p => Ideal.cmp_ogt_eq_one _ _
theorem rTest_eq (j : ℕ) (hj : j < 40) (s : IVec S16x2048 32 × FVec Ideal S16x2048 .f32) :
    rTest j s = 1#1 ↔ ∃ p, s.1 p = 0#32 := by
  unfold rTest
  rw [slt40 j hj]
  refine (test_eq _).trans ?_
  unfold k0_pay14 extractAt
  refine (any_of_max shapeCasts_S16x2048_S1x16x2048 reduces_S1x16x2048_S1 (cmpi .eq s.1 (broadcast S16x2048 0#32)) _).trans ?_
  refine exists_congr fun p => ?_
  show BitVec.ofBool (s.1 p == 0#32) = 1#1 ↔ _
  by_cases h : s.1 p = 0#32
  · simp [h]
  · have e : (s.1 p == 0#32) = false := by simpa using h
    rw [e]
    exact ⟨fun d => absurd d (by decide), fun d => absurd d h⟩

/-! ## The count -/

/-- The tables hold the keys of the rounds. -/
def Keys1 (X : Vec Ideal S128 .i32) : Prop := ∀ j < 64,
  (word (Val := Elt Ideal) (e := .i32) (N := 128) X (2 * j), word (Val := Elt Ideal) (e := .i32) (N := 128) X (2 * j + 1)) = sub1 j
def Keys2 (Y : Vec Ideal S160 .i32) : Prop := ∀ j < 40,
  (word (Val := Elt Ideal) (e := .i32) (N := 160) Y (4 * j), word (Val := Elt Ideal) (e := .i32) (N := 160) Y (4 * j + 1)) = sub1 j
  ∧ (word (Val := Elt Ideal) (e := .i32) (N := 160) Y (4 * j + 2), word (Val := Elt Ideal) (e := .i32) (N := 160) Y (4 * j + 3)) = sub2 j

attribute [local irreducible] unit drawn tf acc cand rate uni1 uni2 uniU uniV takes prop bStep

/-- A trip of the count at a pixel. -/
theorem kStep1_at (v17 : FVec Ideal S8x2048 .f32) (v18 : IVec S8x2048 32) (n : ℕ) (w0 w1 : BitVec 32) (hw : (w0, w1) = sub1 n)
    (s : IVec S8x2048 32 × FVec Ideal S8x2048 .f32) (p : S8x2048.Idx) :
    (kStep1 v17 v18 w0 w1 s).1 p = Scalar.select (Ideal.cmp .ogt (s.2 p) (v17 p)) (IntOp.addi (s.1 p) 1#32) (s.1 p)
      ∧ (kStep1 v17 v18 w0 w1 s).2 p = s.2 p + Ideal.log (uni (v18 p) n) := by
  refine ⟨rfl, ?_⟩
  have hu := uni1_at v18 w0 w1 p
  have e : (kStep1 v17 v18 w0 w1 s).2 p = s.2 p + Ideal.log (uni1 (F := Ideal) v18 w0 w1 p - lit 0x3F800000#32) := rfl
  rw [e, hu, uni, ← hw]
theorem kStep2_at (v17 : FVec Ideal S8x2048 .f32) (v18 : IVec S8x2048 32) (n : ℕ) (w0 w1 : BitVec 32) (hw : (w0, w1) = sub1 n)
    (s : IVec S8x2048 32 × FVec Ideal S8x2048 .f32) (p : S8x2048.Idx) :
    (kStep2 v17 v18 w0 w1 s).1 p = Scalar.select (Ideal.cmp .ogt (s.2 p) (v17 p)) (IntOp.addi (s.1 p) 1#32) (s.1 p)
      ∧ (kStep2 v17 v18 w0 w1 s).2 p = s.2 p + Ideal.log (uni (v18 p) n) := by
  refine ⟨rfl, ?_⟩
  have hu := uni2_at v18 w0 w1 p
  have e : (kStep2 v17 v18 w0 w1 s).2 p = s.2 p + Ideal.log (uni2 (F := Ideal) v18 w0 w1 p - lit 0x3F800000#32) := rfl
  rw [e, hu, uni, ← hw]

attribute [local irreducible] kStep1 kStep2 kTest1 kTest2

/-- The count of a pixel when its loop stops. -/
theorem count1 (N : ℕ) (hN : N = 64) (v17 : FVec Ideal S8x2048 .f32) (v18 : IVec S8x2048 32) (X : Vec Ideal S128 .i32) (hX : Keys1 X) (p : S8x2048.Idx) :
    (loop1 (F := Ideal) v17 v18 X N 0 (k0_pay22, k0_pay23)).2.1 p = cnt (v17 p) (v18 p) N := by
  unfold loop1
  exact count_loop (ι := S8x2048.Idx) N hN _ _ v17 v18 _ (fun j hj s => kTest1_eq v17 j (by omega) s) (fun j hj s p => kStep1_at v17 v18 j _ _ (hX j (by omega)) s p) (fun p => ⟨rfl, rfl⟩) p
theorem count2 (N : ℕ) (hN : N = 64) (v17 : FVec Ideal S8x2048 .f32) (v18 : IVec S8x2048 32) (X : Vec Ideal S128 .i32) (hX : Keys1 X) (p : S8x2048.Idx) :
    (loop2 (F := Ideal) v17 v18 X N 0 (k0_pay26, k0_pay27)).2.1 p = cnt (v17 p) (v18 p) N := by
  unfold loop2
  exact count_loop (ι := S8x2048.Idx) N hN _ _ v17 v18 _ (fun j hj s => kTest2_eq v17 j (by omega) s) (fun j hj s p => kStep2_at v17 v18 j _ _ (hX j (by omega)) s p) (fun p => ⟨rfl, rfl⟩) p

/-! ## The rejection loop of the first pass -/

/-- The constants of a pixel's rate. -/
structure Consts (v44 v40 v35 v50 v57 v56 : FVec Ideal S16x2048 .f32) (l : S16x2048.Idx → EReal) : Prop where
  h44 : ∀ p, v44 p = ca (rate (l p))
  h40 : ∀ p, v40 p = cb (rate (l p))
  h35 : ∀ p, v35 p = rate (l p)
  h50 : ∀ p, v50 p = ci (rate (l p))
  h57 : ∀ p, v57 p = Ideal.log (rate (l p))
  h56 : ∀ p, v56 p = cv (rate (l p))

/-- A round of the first pass at a pixel. -/
theorem rStep_at (v7 : IVec S16x2048 32) (v44 v40 v35 v50 v57 v56 : FVec Ideal S16x2048 .f32) (l : S16x2048.Idx → EReal)
    (hc : Consts v44 v40 v35 v50 v57 v56 l) (n : ℕ) (w0 w1 w2 w3 : BitVec 32) (hw : (w0, w1) = sub1 n) (hw' : (w2, w3) = sub2 n)
    (s : IVec S16x2048 32 × FVec Ideal S16x2048 .f32) (p : S16x2048.Idx) :
    (rStep v7 v44 v40 v35 v50 v57 v56 (BitVec.ofNat 32 n) w0 w1 w2 w3 s).1 p
      = Scalar.select (IntOp.andi (IntOp.cmpi .eq (s.1 p) 0#32) (takesAt (l p) (v7 p) n)) (BitVec.ofNat 32 (n + 1)) (s.1 p)
    ∧ (rStep v7 v44 v40 v35 v50 v57 v56 (BitVec.ofNat 32 n) w0 w1 w2 w3 s).2 p
      = Scalar.select (takesAt (l p) (v7 p) n) (candAt (l p) (v7 p) n) (s.2 p) := by
  have hu : uniU (F := Ideal) v7 w0 w1 p = uni (v7 p) n - lit 0x3F000000#32 := by rw [uniU_at, uni, ← hw]
  have hv : uniV (F := Ideal) v7 w2 w3 p = uni' (v7 p) n := by rw [uniV_at, uni', ← hw']
  have ht := takes_at v44 v40 v35 v50 v57 v56 (uniU v7 w0 w1) (uniV v7 w2 w3) p _ (hc.h44 p) (hc.h40 p) (hc.h35 p) (hc.h50 p) (hc.h57 p) (hc.h56 p)
  have hp := prop_at v44 v40 v35 (uniU v7 w0 w1) p _ (hc.h44 p) (hc.h40 p) (hc.h35 p)
  have e1 : (rStep v7 v44 v40 v35 v50 v57 v56 (BitVec.ofNat 32 n) w0 w1 w2 w3 s).1 p
      = Scalar.select (IntOp.andi (IntOp.cmpi .eq (s.1 p) 0#32) (takes v44 v40 v35 v50 v57 v56 (uniU v7 w0 w1) (uniV v7 w2 w3) p)) (Scalar.addi (BitVec.ofNat 32 n) 1#32) (s.1 p) := rfl
  have e2 : (rStep v7 v44 v40 v35 v50 v57 v56 (BitVec.ofNat 32 n) w0 w1 w2 w3 s).2 p
      = Scalar.select (takes v44 v40 v35 v50 v57 v56 (uniU v7 w0 w1) (uniV v7 w2 w3) p) (prop v44 v40 v35 (uniU v7 w0 w1) p) (s.2 p) := rfl
  rw [e1, e2, ht, hp, hu, hv, addi_one]
  exact ⟨rfl, rfl⟩

attribute [local irreducible] rStep rTest

/-- A block's pixels when the first pass's loop stops: how many rounds each ran, and the candidate it holds. -/
theorem reject (N : ℕ) (hN : N = 40) (v7 : IVec S16x2048 32) (v44 v40 v35 v50 v57 v56 : FVec Ideal S16x2048 .f32) (l : S16x2048.Idx → EReal)
    (hc : Consts v44 v40 v35 v50 v57 v56 l) (Y : Vec Ideal S160 .i32) (hY : Keys2 Y) (p : S16x2048.Idx) :
    ran ((loop3 (F := Ideal) v7 v44 v40 v35 v50 v57 v56 Y N 0 (k0_pay6, k0_pay7)).2.1 p) = rounds (takesAt (l p) (v7 p))
    ∧ (loop3 (F := Ideal) v7 v44 v40 v35 v50 v57 v56 Y N 0 (k0_pay6, k0_pay7)).2.2 p
      = kept (takesAt (l p) (v7 p)) (candAt (l p) (v7 p)) (lit 0xBF800000#32) (Finset.univ.sup fun p => rounds (takesAt (l p) (v7 p))) := by
  unfold loop3
  exact reject_loop (ι := S16x2048.Idx) N hN _ _ (fun p => takesAt (l p) (v7 p)) (fun p => candAt (l p) (v7 p)) (lit 0xBF800000#32) _
    (fun j hj s => rTest_eq j (by omega) s)
    (fun j hj s p => rStep_at v7 v44 v40 v35 v50 v57 v56 l hc j _ _ _ _ (hY j (by omega)).1 (hY j (by omega)).2 s p) (fun p => ⟨rfl, rfl⟩) _ rfl p

/-! ## The second pass -/

theorem slt_iff (j : ℕ) (v : BitVec 32) (hv : v.toNat ≤ 40) (hj : j ≤ v.toNat) : Scalar.cmpi .slt (BitVec.ofNat 32 j) v = 1#1 ↔ j < v.toNat := by
  refine ⟨lt_of_slt j (by omega) v hv, fun h => ?_⟩
  show BitVec.ofBool ((BitVec.ofNat 32 j).slt v) = 1#1
  have : (BitVec.ofNat 32 j).slt v = true := by
    simp only [BitVec.slt, decide_eq_true_eq, BitVec.toInt_eq_toNat_cond, BitVec.toNat_ofNat]
    split <;> split <;> omega
  rw [this]
  rfl

/-- The candidate as a word. -/
def candWord (l : EReal) (q : BitVec 32) (n : ℕ) : BitVec 32 := FloatOps.fptosi (F := Ideal) (φ := .f32) 32 (candAt l q n)

theorem bStep_round (v10 : FVec Ideal S16x2048 .f32) (v7 : IVec S16x2048 32) (v17 : IVec S16x2048 1) (n : ℕ) (w0 w1 w2 w3 : BitVec 32)
    (hw : (w0, w1) = sub1 n) (hw' : (w2, w3) = sub2 n) (s : IVec S16x2048 32) (p : S16x2048.Idx) :
    bStep (F := Ideal) v10 v7 v17 w0 w1 w2 w3 s p
      = Scalar.select (IntOp.andi (takesAt (v10 p) (v7 p) n) (v17 p)) (candWord (v10 p) (v7 p) n) (s p) := by
  rw [bStep_at, takesAt, candWord, candAt, uni, uni', ← hw, ← hw']

/-- The second pass at a pixel: a large rate's candidate is brought up to the rounds of all blocks, a small rate's count stays. -/
theorem second (N : ℕ) (hN : N = 40) (v13 : BitVec 32) (h13 : v13.toNat ≤ 40) (v10 : FVec Ideal S16x2048 .f32) (v7 : IVec S16x2048 32) (v17 : IVec S16x2048 1)
    (Y : Vec Ideal S160 .i32) (hY : Keys2 Y) (t : ℕ) (ht : t ≤ v13.toNat) (s : IVec S16x2048 32) (p : S16x2048.Idx) (c : BitVec 32)
    (hs : v17 p = 1#1 → s p = kept (takesAt (v10 p) (v7 p)) (candWord (v10 p) (v7 p)) c t) :
    (loop4 (F := Ideal) v13 v10 v7 v17 Y N t s).2 p
      = if v17 p = 1#1 then kept (takesAt (v10 p) (v7 p)) (candWord (v10 p) (v7 p)) c v13.toNat else s p := by
  unfold loop4
  exact later_loop (ι := S16x2048.Idx) N hN _ _ v13.toNat t h13 ht (fun p => takesAt (v10 p) (v7 p)) (fun p => candWord (v10 p) (v7 p)) c v17
    (fun j _ hj => slt_iff j v13 h13 hj) (fun j hj s p => bStep_round v10 v7 v17 j _ _ _ _ (hY j (by omega)).1 (hY j (by omega)).2 s p) s p hs

end Cert.Proof.KernelIdeal

end
-- ==== Proof.KernelIdeal.Blocks.lean ====
/-
  What the kernel's two bodies leave at a pixel of their block, over the extended reals, for tables that hold the keys of the rounds.
-/
module

public import proofs.«01_k».proof.Proof.Result
public import proofs.«01_k».proof.Proof.KernelIdeal.Trips
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic

attribute [local irreducible] unit drawn tf acc cand rate chain sub1 sub2 logs cnt kept rounds takesAt candAt iter loop1 loop2 loop3 loop4

/-! ## The two halves of a block -/

theorem slice_top {α : Type} (v : S16x2048.Idx → α) (h : S16x2048.Slices ![0, 0] S8x2048) (y : S8x2048.Idx) (p : S16x2048.Idx)
    (h0 : (p 0).val = (y 0).val) (h1 : (p 1).val = (y 1).val) : extractStridedSlice S8x2048 ![0, 0] v h y = v p := by
  unfold extractStridedSlice
  refine congrArg v (funext fun a => Fin.ext ?_)
  fin_cases a
  · show 0 + (y 0).val = (p 0).val
    omega
  · show 0 + (y 1).val = (p 1).val
    omega
theorem slice_low {α : Type} (v : S16x2048.Idx → α) (h : S16x2048.Slices ![8, 0] S8x2048) (y : S8x2048.Idx) (p : S16x2048.Idx)
    (h0 : (p 0).val = 8 + (y 0).val) (h1 : (p 1).val = (y 1).val) : extractStridedSlice S8x2048 ![8, 0] v h y = v p := by
  unfold extractStridedSlice
  refine congrArg v (funext fun a => Fin.ext ?_)
  fin_cases a
  · show 8 + (y 0).val = (p 0).val
    omega
  · show 0 + (y 1).val = (p 1).val
    omega

/-- The counts of the two halves put together, less one. -/
theorem count_pair (a b : IVec S8x2048 32) (f : S16x2048.Idx → BitVec 32)
    (ha : ∀ (y : S8x2048.Idx) (p : S16x2048.Idx), (p 0).val = (y 0).val → (p 1).val = (y 1).val → a y = f p)
    (hb : ∀ (y : S8x2048.Idx) (p : S16x2048.Idx), (p 0).val = 8 + (y 0).val → (p 1).val = (y 1).val → b y = f p) (p : S16x2048.Idx) :
    k0_pay28 a b p = IntOp.subi (f p) 1#32 := by
  have hp : (p 0).val < 16 := (p 0).isLt
  have hp1 : (p 1).val < 2048 := (p 1).isLt
  unfold k0_pay28
  by_cases h : (p 0).val < 8
  · refine (concatenate_pair_apply_left (t := S16x2048) (s₁ := S8x2048) (s₂ := S8x2048) 0 (subi a (broadcast S8x2048 1#32)) (subi b (broadcast S8x2048 1#32)) _ p rfl
      (ix2 ⟨(p 0).val, h⟩ ⟨(p 1).val, hp1⟩) ?_).trans ?_
    · intro c
      fin_cases c <;> rfl
    · exact congrArg (fun w => IntOp.subi w 1#32) (ha _ p rfl rfl)
  · refine (concatenate_pair_apply_right (t := S16x2048) (s₁ := S8x2048) (s₂ := S8x2048) 0 (subi a (broadcast S8x2048 1#32)) (subi b (broadcast S8x2048 1#32)) _ p rfl rfl
      (ix2 ⟨(p 0).val - 8, by omega⟩ ⟨(p 1).val, hp1⟩) ?_ ?_).trans ?_
    · intro c hc
      fin_cases c
      · exact absurd rfl hc
      · rfl
    · show (p 0).val - 8 + 8 = (p 0).val
      omega
    · exact congrArg (fun w => IntOp.subi w 1#32) (hb _ p (by show (p 0).val = 8 + ((p 0).val - 8); omega) rfl)

/-! ## The first pass -/

theorem lam0_at (x : Vec Ideal S16x2048 .i32) (p : S16x2048.Idx) : k0_pay18 (F := Ideal) x p = FloatOps.sitofp (F := Ideal) .f32 (x p) := by
  unfold k0_pay18
  rw [shapeCast_self]
  rfl
theorem lam1_at (x : Vec Ideal S16x2048 .i32) (p : S16x2048.Idx) : k1_pay2 (F := Ideal) x p = FloatOps.sitofp (F := Ideal) .f32 (x p) := by
  unfold k1_pay2
  rw [shapeCast_self]
  rfl

/-- The threshold of a pixel. -/
theorem low_at (x : Vec Ideal S16x2048 .i32) (p : S16x2048.Idx) : k0_pay19 (F := Ideal) x p = -(low (k0_pay18 (F := Ideal) x p)) := by
  unfold k0_pay19
  show (lit 0x00000000#32 : EReal) - low (k0_pay18 (F := Ideal) x p) = _
  rw [show lit 0x00000000#32 = 0 from Ideal.ofBits_zero_f32, zero_sub]

/-- The place of a pixel of block `n` in the whole array, as a word. -/
def spot (n : ℕ) (p : S16x2048.Idx) : BitVec 32 := BitVec.ofNat 32 ((n * 16 + (p 0).val) * 2048 + (p 1).val)

theorem spot_word (n r c : ℕ) : IntOp.addi (IntOp.muli (IntOp.addi (Scalar.muli (BitVec.ofNat 32 n) 16#32) (BitVec.ofNat 32 r)) 2048#32) (BitVec.ofNat 32 c)
    = BitVec.ofNat 32 ((n * 16 + r) * 2048 + c) := by
  rw [BitVec.ofNat_add, BitVec.ofNat_mul, BitVec.ofNat_add, BitVec.ofNat_mul]
  rfl

theorem place0_at (i : grid0.Coords) (p : S16x2048.Idx) : k0_pay17 i p = spot (i 0).val p := by
  unfold spot
  rw [← spot_word]
  unfold k0_pay17
  rw [show (addi (muli (addi (broadcast S16x2048 (Scalar.muli (BitVec.ofNat 32 (i 0).val) 16#32)) (iota .tc S16x2048 32 [0] iota_S16x2048_d0_w32))
    (broadcast S16x2048 2048#32)) (iota .tc S16x2048 32 [1] iota_S16x2048_d1_w32)) p
      = IntOp.addi (IntOp.muli (IntOp.addi (Scalar.muli (BitVec.ofNat 32 (i 0).val) 16#32) (iota .tc S16x2048 32 [0] iota_S16x2048_d0_w32 p)) 2048#32)
        (iota .tc S16x2048 32 [1] iota_S16x2048_d1_w32 p) from rfl, iota_single_apply, iota_single_apply]
theorem place1_at (i : grid1.Coords) (p : S16x2048.Idx) : k1_pay1 i p = spot (i 0).val p := by
  unfold spot
  rw [← spot_word]
  unfold k1_pay1
  rw [show (addi (muli (addi (broadcast S16x2048 (Scalar.muli (BitVec.ofNat 32 (i 0).val) 16#32)) (iota .tc S16x2048 32 [0] iota_S16x2048_d0_w32))
    (broadcast S16x2048 2048#32)) (iota .tc S16x2048 32 [1] iota_S16x2048_d1_w32)) p
      = IntOp.addi (IntOp.muli (IntOp.addi (Scalar.muli (BitVec.ofNat 32 (i 0).val) 16#32) (iota .tc S16x2048 32 [0] iota_S16x2048_d0_w32 p)) 2048#32)
        (iota .tc S16x2048 32 [1] iota_S16x2048_d1_w32 p) from rfl, iota_single_apply, iota_single_apply]

/-- The count of a pixel, less one. -/
theorem aCount_at (i : grid0.Coords) (x : Vec Ideal S16x2048 .i32) (X : Vec Ideal S128 .i32) (hX : Keys1 X) (p : S16x2048.Idx) :
    aCount (F := Ideal) i x X p = IntOp.subi (cnt (k0_pay19 (F := Ideal) x p) (k0_pay17 i p) 64) 1#32 := by
  unfold aCount
  refine count_pair _ _ (fun p => cnt (k0_pay19 (F := Ideal) x p) (k0_pay17 i p) 64) (fun y p h0 h1 => ?_) (fun y p h0 h1 => ?_) p
  · refine (count1 64 rfl _ _ X hX y).trans ?_
    have e1 : k0_pay20 (F := Ideal) x y = k0_pay19 (F := Ideal) x p := by unfold k0_pay20; exact slice_top _ _ y p h0 h1
    have e2 : k0_pay21 i y = k0_pay17 i p := by unfold k0_pay21; exact slice_top _ _ y p h0 h1
    rw [e1, e2]
  · refine (count2 64 rfl _ _ X hX y).trans ?_
    have e1 : k0_pay24 (F := Ideal) x y = k0_pay19 (F := Ideal) x p := by unfold k0_pay24; exact slice_low _ _ y p h0 h1
    have e2 : k0_pay25 i y = k0_pay17 i p := by unfold k0_pay25; exact slice_low _ _ y p h0 h1
    rw [e1, e2]

/-- The constants of a block. -/
theorem consts (x : Vec Ideal S16x2048 .i32) : Consts (k0_pay2 (F := Ideal) (k0_pay30 x) k0_pay31) (k0_pay1 (k0_pay30 x) k0_pay31) (k0_pay29 x)
    (k0_pay3 (k0_pay30 x) k0_pay31) (k0_pay5 (k0_pay29 x)) (k0_pay4 (k0_pay30 x) k0_pay31) (fun p => k0_pay18 (F := Ideal) x p) where
  h44 p := (first_at x p _ rfl).2.2.1
  h40 p := (first_at x p _ rfl).2.1
  h35 p := (first_at x p _ rfl).1
  h50 p := (first_at x p _ rfl).2.2.2.1
  h57 p := (first_at x p _ rfl).2.2.2.2.2
  h56 p := (first_at x p _ rfl).2.2.2.2.1

/-- The rounds the pixels of a block run. -/
def roundsOf (i : grid0.Coords) (x : Vec Ideal S16x2048 .i32) (p : S16x2048.Idx) : ℕ := rounds (takesAt (k0_pay18 (F := Ideal) x p) (k0_pay17 i p))

theorem aRej_at (i : grid0.Coords) (x : Vec Ideal S16x2048 .i32) (Y : Vec Ideal S160 .i32) (hY : Keys2 Y) (p : S16x2048.Idx) :
    ran ((aRej (F := Ideal) i x Y).2.1 p) = roundsOf i x p
    ∧ (aRej (F := Ideal) i x Y).2.2 p = kept (takesAt (k0_pay18 (F := Ideal) x p) (k0_pay17 i p)) (candAt (k0_pay18 (F := Ideal) x p) (k0_pay17 i p))
        (lit 0xBF800000#32) (Finset.univ.sup (roundsOf i x)) := by
  unfold aRej
  exact reject 40 rfl (k0_pay17 i) _ _ _ _ _ _ (fun p => k0_pay18 (F := Ideal) x p) (consts x) Y hY p

/-- What the first pass hands on for a pixel whose block ran `t` rounds. -/
def handed (t : ℕ) (l : EReal) (q : BitVec 32) : BitVec 32 :=
  Scalar.select (Ideal.cmp .olt l (lit 0x41200000#32)) (IntOp.subi (cnt (-(low l)) q 64) 1#32)
    (FloatOps.fptosi (F := Ideal) (φ := .f32) 32 (kept (takesAt l q) (candAt l q) (lit 0xBF800000#32) t))

theorem pay8_at (v : FVec Ideal S16x2048 .f32) (a : IVec S16x2048 32) (b : FVec Ideal S16x2048 .f32) (p : S16x2048.Idx) :
    k0_pay8 v a b p = Scalar.select (Ideal.cmp .olt (v p) (lit 0x41200000#32)) (a p) (FloatOps.fptosi (F := Ideal) (φ := .f32) 32 (b p)) := rfl

theorem aPart_at (i : grid0.Coords) (x : Vec Ideal S16x2048 .i32) (X : Vec Ideal S128 .i32) (hX : Keys1 X) (Y : Vec Ideal S160 .i32) (hY : Keys2 Y)
    (p : S16x2048.Idx) : aPart (F := Ideal) i x X Y p = handed (Finset.univ.sup (roundsOf i x)) (k0_pay18 (F := Ideal) x p) (k0_pay17 i p) := by
  unfold aPart handed
  refine (pay8_at _ _ _ p).trans ?_
  rw [aCount_at i x X hX p, (aRej_at i x Y hY p).2, low_at]

/-! ## The second pass -/

theorem oge_iff (l t : EReal) : Ideal.cmp .oge l t = 1#1 ↔ ¬ Ideal.cmp .olt l t = 1#1 := by
  refine (Ideal.cmp_oge_eq_one _ _).trans (Iff.trans ?_ (not_congr (Ideal.cmp_olt_eq_one _ _)).symm)
  exact not_lt.symm

theorem pay5_at (x : Vec Ideal S16x2048 .i32) (r : IVec S16x2048 32) (p : S16x2048.Idx) :
    k1_pay5 (F := Ideal) x r p = IntOp.minsi (Scalar.select (Ideal.cmp .oeq (k1_pay2 (F := Ideal) x p) (lit 0x00000000#32)) 0#32 (r p)) 255#32 := rfl
theorem pay4_at (x : Vec Ideal S16x2048 .i32) (p : S16x2048.Idx) :
    k1_pay4 (F := Ideal) x p = Ideal.cmp .oge (k1_pay2 (F := Ideal) x p) (lit 0x41200000#32) := rfl

theorem bOut_at (i : grid1.Coords) (x P : Vec Ideal S16x2048 .i32) (Y : Vec Ideal S160 .i32) (hY : Keys2 Y) (TT : Vec Ideal S1 .i32) (TB : Vec Ideal S2048 .i32)
    (T t : ℕ) (hTT : (word (Val := Elt Ideal) (e := .i32) (N := 1) TT 0 : BitVec 32).toNat = T)
    (hTB : (word (Val := Elt Ideal) (e := .i32) (N := 2048) TB (i 0).val : BitVec 32).toNat = t) (ht : t ≤ T) (hT : T ≤ 40) (p : S16x2048.Idx)
    (hP : P p = handed t (k1_pay2 (F := Ideal) x p) (k1_pay1 i p)) :
    bOut (F := Ideal) i x P Y TT TB p = pixel T (k1_pay2 (F := Ideal) x p) (k1_pay1 i p) := by
  subst hTT hTB
  unfold bOut
  refine (pay5_at _ _ p).trans ?_
  have h3 : k1_pay3 (F := Ideal) P p = P p := by
    unfold k1_pay3
    rw [shapeCast_self]
  have hs := second 40 rfl (word (Val := Elt Ideal) (e := .i32) (N := 1) TT 0) hT (k1_pay2 (F := Ideal) x) (k1_pay1 i) (k1_pay4 (F := Ideal) x) Y hY _ ht
    (k1_pay3 (F := Ideal) P) p (FloatOps.fptosi (F := Ideal) (φ := .f32) 32 (lit 0xBF800000#32)) (fun h => by
      rw [h3, hP]
      unfold handed
      rw [pay4_at, oge_iff] at h
      unfold Scalar.select
      refine (if_neg h).trans ?_
      exact kept_map (fun z : EReal => (FloatOps.fptosi (F := Ideal) (φ := .f32) 32 z : BitVec 32)) _ _ _ _)
  unfold pixel
  refine congrArg (fun w => IntOp.minsi (Scalar.select _ 0#32 w) 255#32) (hs.trans ?_)
  rw [h3, hP, pay4_at]
  unfold handed
  by_cases h : Ideal.cmp .olt (k1_pay2 (F := Ideal) x p) (lit 0x41200000#32) = 1#1
  · rw [if_neg (fun h' => (oge_iff _ _).1 h' h)]
    unfold Scalar.select
    exact (if_pos h).trans (if_pos h).symm
  · rw [if_pos ((oge_iff _ _).2 h)]
    unfold Scalar.select
    refine Eq.trans ?_ (if_neg h).symm
    exact (kept_map (fun z : EReal => (FloatOps.fptosi (F := Ideal) (φ := .f32) 32 z : BitVec 32)) _ _ _ _).symm

end Cert.Proof.KernelIdeal

end
-- ==== Proof.KernelIdeal.Tables.lean ====
/-
  The kernel's two tables hold the keys of the rounds.
-/
module

public import proofs.«01_k».proof.Proof.KernelIdeal.Trips
public import proofs.«01_k».proof.Proof.KernelIdeal.Arrays

@[expose] public section

noncomputable section

namespace Cert.Proof.KernelIdeal

open Cert.KernelIdeal Cert.KernelIdeal.Gen
open Idealize.ShloMosaic Idealize.ShloMosaic.TcCoe Idealize.ShloMosaic.Tactic

/-- The keys of the rounds, and the printed tables. -/
theorem lit0_keys : ∀ j < 64, ∀ (a : 2 * j < 128) (b : 2 * j + 1 < 128), (lit0 ⟨2 * j, a⟩, lit0 ⟨2 * j + 1, b⟩) = sub1 j := by decide +kernel
theorem lit1_keys : ∀ j < 40, ∀ (a : 4 * j < 160) (b : 4 * j + 1 < 160) (c : 4 * j + 2 < 160) (d : 4 * j + 3 < 160),
    (lit1 ⟨4 * j, a⟩, lit1 ⟨4 * j + 1, b⟩) = sub1 j ∧ (lit1 ⟨4 * j + 2, c⟩, lit1 ⟨4 * j + 3, d⟩) = sub2 j := by decide +kernel

end Cert.Proof.KernelIdeal

end
-- ==== Proof.KernelIdeal.Whole.lean ====
/-
  The kernel's result at a pixel of the image, over the extended reals.
-/
module

public import proofs.«01_k».proof.Proof.KernelIdeal.Blocks
public import proofs.«01_k».proof.Proof.KernelIdeal.Tables
public import proofs.«01_k».proof.Proof.KernelIdeal.Run

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.Pipeline (afterRegion)

attribute [local irreducible] unit drawn tf acc cand rate chain sub1 sub2 logs cnt kept rounds takesAt candAt iter loop1 loop2 loop3 loop4
  aRounds aPart aRej bOut handed pixel

variable (m : (ℓ : Loc nD τ sig) → Buf (Elt Ideal) ℓ)

/-! ## The image -/

/-- The pixel at a place of the image written as 32768 rows. -/
def pix (g : S32768x2048.Idx) : S16x2048x2048.Idx :=
  ix3 ⟨(g 0).val / 2048, by have h : (g 0).val < 32768 := (g 0).isLt; show _ < 16; omega⟩ ⟨(g 0).val % 2048, Nat.mod_lt _ (by decide)⟩ ⟨(g 1).val, (g 1).isLt⟩

theorem pix_rowMajor (g : S32768x2048.Idx) : (S16x2048x2048.rowMajor (pix g)).val = (g 0).val * 2048 + (g 1).val := by
  refine (Shape.rowMajor_val_three _).trans ?_
  show ((g 0).val / 2048 * 2048 + (g 0).val % 2048) * 2048 + (g 1).val = _
  omega

theorem flat_rowMajor (g : S32768x2048.Idx) : (S32768x2048.rowMajor g).val = (g 0).val * 2048 + (g 1).val := Shape.rowMajor_val_two _

theorem to_flat {α : Type} (x : S16x2048x2048.Idx → α) (h : S16x2048x2048.ShapeCasts S32768x2048) (g : S32768x2048.Idx) :
    shapeCast S32768x2048 x h g = x (pix g) :=
  shapeCast_apply x h g (pix g) ((pix_rowMajor g).trans (flat_rowMajor g).symm)
theorem of_flat {α : Type} (x : S32768x2048.Idx → α) (h : S32768x2048.ShapeCasts S16x2048x2048) (g : S32768x2048.Idx) :
    shapeCast S16x2048x2048 x h (pix g) = x g :=
  shapeCast_apply x h (pix g) g ((flat_rowMajor g).trans (pix_rowMajor g).symm)

/-- Every pixel is one of the places of the image written as 32768 rows. -/
theorem pix_surj (p : S16x2048x2048.Idx) : ∃ g, pix g = p := by
  have h0 : (p 0).val < 16 := (p 0).isLt
  have h1 : (p 1).val < 2048 := (p 1).isLt
  have h2 : (p 2).val < 2048 := (p 2).isLt
  refine ⟨ix2 ⟨(p 0).val * 2048 + (p 1).val, by show _ < 32768; omega⟩ ⟨(p 2).val, h2⟩, funext fun a => Fin.ext ?_⟩
  fin_cases a
  · show ((p 0).val * 2048 + (p 1).val) / 2048 = (p 0).val
    omega
  · show ((p 0).val * 2048 + (p 1).val) % 2048 = (p 1).val
    omega
  · rfl

/-- The mean at a pixel. -/
def lam (c : Dev nD) (p : S16x2048x2048.Idx) : EReal := FloatOps.sitofp (F := Ideal) .f32 (m ((c.tc : Thread nD τ).loc main_arg0) p : BitVec 32)

/-- The place of a pixel in the image, as a word. -/
def where_ (p : S16x2048x2048.Idx) : BitVec 32 := BitVec.ofNat 32 (S16x2048x2048.rowMajor p).val

theorem spot_eq (g : S32768x2048.Idx) (n : ℕ) (y : S16x2048.Idx) (h0 : (g 0).val = n * 16 + (y 0).val) (h1 : (g 1).val = (y 1).val) :
    spot n y = where_ (pix g) := by
  unfold spot where_
  rw [pix_rowMajor, h0, h1]

theorem V1_image (c : Dev nD) : V1 m c (dref main_v0) = shapeCast S32768x2048 (m ((c.tc : Thread nD τ).loc main_arg0)) shapeCasts_S16x2048x2048_S32768x2048 := by
  show StableHlo.after hostOps0 (V0 m c) (Proc.devRef .tc main_v0) = _
  after_results
  rfl
theorem V1_table1 (c : Dev nD) : V1 m c (dref main_c) = fun i => lit0 (S128.rowMajor i) := by
  show StableHlo.after hostOps0 (V0 m c) (Proc.devRef .tc main_c) = _
  after_results
  rfl
theorem V1_table2 (c : Dev nD) : V1 m c (dref main_c_0) = fun i => lit1 (S160.rowMajor i) := by
  show StableHlo.after hostOps0 (V0 m c) (Proc.devRef .tc main_c_0) = _
  after_results
  rfl

/-- What the first call and the host's round counts leave alone. -/
theorem W3_keeps (c : Dev nD) (r : Ref sig .tc) (h1 : r ∉ hostOps1_W) (h0 : ∀ w, Pipeline.arrRef (cfg0 (F := Ideal)).spec w = r → ((cfg0 (F := Ideal)).win w).isOut = false) :
    W3 m c (dref r) = V1 m c (dref r) :=
  (StableHlo.after_of_writes_sub hostOps1 _ hostOps1_writes h1).trans
    (Pipeline.afterRegion_keeps (dat0 (V1 m) c) (V1 m c) (launch0 (F := Ideal)).win.arr_inj (fun _ => rfl) r h0)

theorem W3_image (c : Dev nD) : W3 m c (dref main_v0) = V1 m c (dref main_v0) := W3_keeps m c main_v0 (by decide) (by decide)
theorem W3_table2 (c : Dev nD) : W3 m c (dref main_c_0) = V1 m c (dref main_c_0) := W3_keeps m c main_c_0 (by decide) (by decide)
theorem W3_part (c : Dev nD) : W3 m c (dref main_v1_0) = W2 m c (dref main_v1_0) := StableHlo.after_of_writes_sub hostOps1 _ hostOps1_writes (by decide)

/-! ## The windows -/

theorem idx2_ext {g g' : S32768x2048.Idx} (h0 : (g 0).val = (g' 0).val) (h1 : (g 1).val = (g' 1).val) : g = g' :=
  funext fun a => Fin.ext (by fin_cases a; exacts [h0, h1])

theorem image0 (c : Dev nD) (t : Fin (cfg0 (F := Ideal)).N) (y : S16x2048.Idx) (g : S32768x2048.Idx)
    (h0 : (g 0).val = t.val * 16 + (y 0).val) (h1 : (g 1).val = (y 1).val) :
    (blk0 (V1 m) c 2 t y : BitVec 32) = m ((c.tc : Thread nD τ).loc main_arg0) (pix g) := by
  have e : (((cfg0 (F := Ideal)).win 2).blk t).view.emb y = g := idx2_ext ((emb0_2_0 t y).trans h0.symm) ((emb0_2_1 t y).trans h1.symm)
  have e1 : (blk0 (V1 m) c 2 t y : BitVec 32) = V1 m c (dref main_v0) ((((cfg0 (F := Ideal)).win 2).blk t).view.emb y) := rfl
  rw [e1, e, V1_image]
  exact to_flat _ _ g
theorem image1 (c : Dev nD) (t : Fin (cfg1 (F := Ideal)).N) (y : S16x2048.Idx) (g : S32768x2048.Idx)
    (h0 : (g 0).val = t.val * 16 + (y 0).val) (h1 : (g 1).val = (y 1).val) :
    (blk1 (W3 m) c 3 t y : BitVec 32) = m ((c.tc : Thread nD τ).loc main_arg0) (pix g) := by
  have e : (((cfg1 (F := Ideal)).win 3).blk t).view.emb y = g := idx2_ext ((emb1_3_0 t y).trans h0.symm) ((emb1_3_1 t y).trans h1.symm)
  have e1 : (blk1 (W3 m) c 3 t y : BitVec 32) = W3 m c (dref main_v0) ((((cfg1 (F := Ideal)).win 3).blk t).view.emb y) := rfl
  rw [e1, e, W3_image, V1_image]
  exact to_flat _ _ g
theorem part1 (c : Dev nD) (t : Fin (cfg1 (F := Ideal)).N) (y : S16x2048.Idx) (g : S32768x2048.Idx)
    (h0 : (g 0).val = t.val * 16 + (y 0).val) (h1 : (g 1).val = (y 1).val) :
    (blk1 (W3 m) c 4 t y : BitVec 32) = W2 m c (dref main_v1_0) g := by
  have e : (((cfg1 (F := Ideal)).win 4).blk t).view.emb y = g := idx2_ext ((emb1_4_0 t y).trans h0.symm) ((emb1_4_1 t y).trans h1.symm)
  have e1 : (blk1 (W3 m) c 4 t y : BitVec 32) = W3 m c (dref main_v1_0) ((((cfg1 (F := Ideal)).win 4).blk t).view.emb y) := rfl
  rw [e1, e, W3_part]

theorem table0_0 (c : Dev nD) (t : Fin (cfg0 (F := Ideal)).N) (i : S128.Idx) (h : (i 0).val < 128) : (blk0 (V1 m) c 0 t i : BitVec 32) = lit0 ⟨(i 0).val, h⟩ := by
  have e1 : (blk0 (V1 m) c 0 t i : BitVec 32) = V1 m c (dref main_c) ((((cfg0 (F := Ideal)).win 0).blk t).view.emb i) := rfl
  rw [e1, V1_table1]
  refine congrArg lit0 (Fin.ext ((Shape.rowMajor_val_one _).trans ?_))
  refine (Pipeline.Window.rect_emb_val win0_0 t i (0 : Fin 1)).trans ?_
  show 0 * 128 + (i 0).val = (i 0).val
  omega
theorem table0_1 (c : Dev nD) (t : Fin (cfg0 (F := Ideal)).N) (i : S160.Idx) (h : (i 0).val < 160) : (blk0 (V1 m) c 1 t i : BitVec 32) = lit1 ⟨(i 0).val, h⟩ := by
  have e1 : (blk0 (V1 m) c 1 t i : BitVec 32) = V1 m c (dref main_c_0) ((((cfg0 (F := Ideal)).win 1).blk t).view.emb i) := rfl
  rw [e1, V1_table2]
  refine congrArg lit1 (Fin.ext ((Shape.rowMajor_val_one _).trans ?_))
  refine (Pipeline.Window.rect_emb_val win0_1 t i (0 : Fin 1)).trans ?_
  show 0 * 160 + (i 0).val = (i 0).val
  omega
theorem table1_0 (c : Dev nD) (t : Fin (cfg1 (F := Ideal)).N) (i : S160.Idx) (h : (i 0).val < 160) : (blk1 (W3 m) c 0 t i : BitVec 32) = lit1 ⟨(i 0).val, h⟩ := by
  have e1 : (blk1 (W3 m) c 0 t i : BitVec 32) = W3 m c (dref main_c_0) ((((cfg1 (F := Ideal)).win 0).blk t).view.emb i) := rfl
  rw [e1, W3_table2, V1_table2]
  refine congrArg lit1 (Fin.ext ((Shape.rowMajor_val_one _).trans ?_))
  refine (Pipeline.Window.rect_emb_val win1_0 t i (0 : Fin 1)).trans ?_
  show 0 * 160 + (i 0).val = (i 0).val
  omega

theorem keys1_of (X : Vec Ideal S128 .i32) (hX : ∀ (i : S128.Idx) (h : (i 0).val < 128), (X i : BitVec 32) = lit0 ⟨(i 0).val, h⟩) : Keys1 X := by
  intro j hj
  have w : ∀ n (h : n < 128), (word (Val := Elt Ideal) (e := .i32) (N := 128) X n : BitVec 32) = lit0 ⟨n, h⟩ := fun n h =>
    (hX _ (Nat.mod_lt _ (by decide))).trans (congrArg lit0 (Fin.ext (Nat.mod_eq_of_lt h)))
  rw [w _ (by omega), w _ (by omega)]
  exact lit0_keys j hj _ _
theorem keys2_of (Y : Vec Ideal S160 .i32) (hY : ∀ (i : S160.Idx) (h : (i 0).val < 160), (Y i : BitVec 32) = lit1 ⟨(i 0).val, h⟩) : Keys2 Y := by
  intro j hj
  have w : ∀ n (h : n < 160), (word (Val := Elt Ideal) (e := .i32) (N := 160) Y n : BitVec 32) = lit1 ⟨n, h⟩ := fun n h =>
    (hY _ (Nat.mod_lt _ (by decide))).trans (congrArg lit1 (Fin.ext (Nat.mod_eq_of_lt h)))
  rw [w _ (by omega), w _ (by omega), w _ (by omega), w _ (by omega)]
  exact lit1_keys j hj _ _ _ _

/-! ## The first pass -/

theorem lam0 (c : Dev nD) (t : Fin (cfg0 (F := Ideal)).N) (y : S16x2048.Idx) (g : S32768x2048.Idx)
    (h0 : (g 0).val = t.val * 16 + (y 0).val) (h1 : (g 1).val = (y 1).val) : k0_pay18 (F := Ideal) (blk0 (V1 m) c 2 t) y = lam m c (pix g) :=
  (lam0_at _ y).trans (congrArg (fun z : BitVec 32 => (FloatOps.sitofp (F := Ideal) .f32 z : EReal)) (image0 m c t y g h0 h1))
theorem lam1 (c : Dev nD) (t : Fin (cfg1 (F := Ideal)).N) (y : S16x2048.Idx) (g : S32768x2048.Idx)
    (h0 : (g 0).val = t.val * 16 + (y 0).val) (h1 : (g 1).val = (y 1).val) : k1_pay2 (F := Ideal) (blk1 (W3 m) c 3 t) y = lam m c (pix g) :=
  (lam1_at _ y).trans (congrArg (fun z : BitVec 32 => (FloatOps.sitofp (F := Ideal) .f32 z : EReal)) (image1 m c t y g h0 h1))
theorem where0 (t : Fin (cfg0 (F := Ideal)).N) (y : S16x2048.Idx) (g : S32768x2048.Idx)
    (h0 : (g 0).val = t.val * 16 + (y 0).val) (h1 : (g 1).val = (y 1).val) : k0_pay17 (grid0.coords t) y = where_ (pix g) := by
  rw [place0_at, coords0]
  exact spot_eq g _ y h0 h1
theorem where1 (t : Fin (cfg1 (F := Ideal)).N) (y : S16x2048.Idx) (g : S32768x2048.Idx)
    (h0 : (g 0).val = t.val * 16 + (y 0).val) (h1 : (g 1).val = (y 1).val) : k1_pay1 (grid1.coords t) y = where_ (pix g) := by
  rw [place1_at, coords1]
  exact spot_eq g _ y h0 h1

/-- The rounds a pixel of the image runs. -/
def pixRounds (c : Dev nD) (p : S16x2048x2048.Idx) : ℕ := rounds (takesAt (lam m c p) (where_ p))

theorem roundsOf_eq (c : Dev nD) (t : Fin (cfg0 (F := Ideal)).N) (y : S16x2048.Idx) (g : S32768x2048.Idx)
    (h0 : (g 0).val = t.val * 16 + (y 0).val) (h1 : (g 1).val = (y 1).val) : roundsOf (grid0.coords t) (blk0 (V1 m) c 2 t) y = pixRounds m c (pix g) := by
  unfold roundsOf pixRounds
  rw [lam0 m c t y g h0 h1, where0 t y g h0 h1]

theorem ranOf_eq (c : Dev nD) (n : ℕ) : ranOf m c n = Finset.univ.sup (roundsOf (grid0.coords (pt0 (F := Ideal) n)) (blk0 (V1 m) c 2 (pt0 n))) := by
  unfold ranOf
  exact Finset.sup_congr rfl fun p _ => (aRej_at _ _ _ (keys2_of _ (table0_1 m c _)) p).1

theorem pt0_lt (n : ℕ) (h : n < 2048) : (pt0 (F := Ideal) n).val = n := Nat.mod_eq_of_lt h
theorem pt1_lt (n : ℕ) (h : n < 2048) : (pt1 (F := Ideal) n).val = n := Nat.mod_eq_of_lt h

/-- The greatest round count is the greatest over the pixels of the image. -/
theorem ranAll_eq (c : Dev nD) : ranAll m c = Finset.univ.sup (pixRounds m c) := by
  unfold ranAll
  refine le_antisymm (Finset.sup_le fun i _ => ?_) (Finset.sup_le fun p _ => ?_)
  · have hi : (i 0).val < 2048 := (i 0).isLt
    rw [ranOf_eq]
    refine Finset.sup_le fun y _ => ?_
    have hy : (y 0).val < 16 := (y 0).isLt
    have hy1 : (y 1).val < 2048 := (y 1).isLt
    rw [roundsOf_eq m c _ y (ix2 ⟨(i 0).val * 16 + (y 0).val, by show _ < 32768; omega⟩ ⟨(y 1).val, hy1⟩) (by rw [pt0_lt _ hi]; rfl) rfl]
    exact Finset.le_sup (f := pixRounds m c) (Finset.mem_univ _)
  · obtain ⟨g, rfl⟩ := pix_surj p
    have hg : (g 0).val < 32768 := (g 0).isLt
    have hn : (g 0).val / 16 < 2048 := by omega
    refine le_trans ?_ (Finset.le_sup (f := fun i : S2048.Idx => ranOf m c (i 0).val) (Finset.mem_univ (ix1 ⟨(g 0).val / 16, hn⟩)))
    show _ ≤ ranOf m c ((g 0).val / 16)
    rw [ranOf_eq, ← roundsOf_eq m c (pt0 ((g 0).val / 16)) (inBlock g) g (by
      rw [pt0_lt _ hn]
      show (g 0).val = (g 0).val / 16 * 16 + (g 0).val % 16
      omega) rfl]
    exact Finset.le_sup (f := roundsOf _ _) (Finset.mem_univ _)

/-- The partial result of a pixel. -/
theorem part_at (c : Dev nD) (g : S32768x2048.Idx) :
    (W2 m c (dref main_v1_0) g : BitVec 32) = handed (ranOf m c ((g 0).val / 16)) (lam m c (pix g)) (where_ (pix g)) := by
  have hg : (g 0).val < 32768 := (g 0).isLt
  have hn : (g 0).val / 16 < 2048 := by omega
  have h0 : (g 0).val = (pt0 (F := Ideal) ((g 0).val / 16)).val * 16 + (inBlock g 0).val := by
    rw [pt0_lt _ hn]
    show (g 0).val = (g 0).val / 16 * 16 + (g 0).val % 16
    omega
  refine (congrFun (W2_part m c) g).trans ?_
  refine (aPart_at _ _ _ (keys1_of _ (table0_0 m c _)) _ (keys2_of _ (table0_1 m c _)) (inBlock g)).trans ?_
  rw [lam0 m c _ (inBlock g) g h0 rfl, where0 _ (inBlock g) g h0 rfl, ranOf_eq]

/-! ## The second pass -/

theorem W4_out (c : Dev nD) : W4 m c (dref main_v6) = fun i : S32768x2048.Idx =>
    bOut (grid1.coords (pt1 (F := Ideal) ((i 0).val / 16))) (blk1 (W3 m) c 3 (pt1 ((i 0).val / 16))) (blk1 (W3 m) c 4 (pt1 ((i 0).val / 16)))
      (blk1 (W3 m) c 0 (pt1 ((i 0).val / 16))) (blk1 (W3 m) c 1 (pt1 ((i 0).val / 16))) (blk1 (W3 m) c 2 (pt1 ((i 0).val / 16))) (inBlock i) := by
  refine (Pipeline.afterRegion_arr (dat1 (W3 m) c) (W3 m c) (launch1 (F := Ideal)).win.arr_inj 5).trans ?_
  refine (dat1 (W3 m) c).arrAt_eq_of_covers 5 _ (show win1_5.Covers by decide +kernel) fun t hf (y : S16x2048.Idx) => ?_
  rw [after1_5]
  obtain ⟨ht, hi⟩ := at_point _ _ y (emb1_5_0 t y) (emb1_5_1 t y)
  beta_reduce
  rw [ht, hi, pt1_val]
  generalize bOut (grid1.coords t) (blk1 (W3 m) c 3 t) (blk1 (W3 m) c 4 t) (blk1 (W3 m) c 0 t) (blk1 (W3 m) c 1 t) (blk1 (W3 m) c 2 t) = f
  rfl

theorem count_word (c : Dev nD) (t : Fin (cfg1 (F := Ideal)).N) (n : ℕ) (h : n < 2048) :
    (word (Val := Elt Ideal) (e := .i32) (N := 2048) (blk1 (W3 m) c 2 t) n : BitVec 32).toNat = ranOf m c n := by
  refine (W3_rounds m c _).trans (congrArg (ranOf m c) ?_)
  refine (Pipeline.Window.rect_emb_val win1_2 t _ (0 : Fin 1)).trans ?_
  show 0 * 2048 + n % 2048 = n
  omega

theorem most_word (c : Dev nD) (t : Fin (cfg1 (F := Ideal)).N) :
    (word (Val := Elt Ideal) (e := .i32) (N := 1) (blk1 (W3 m) c 1 t) 0 : BitVec 32).toNat = ranAll m c := W3_most m c _

theorem ranOf_le_all (c : Dev nD) (n : ℕ) (h : n < 2048) : ranOf m c n ≤ ranAll m c := by
  have e : ∀ (f : ℕ → ℕ), f n ≤ Finset.univ.sup fun i : S2048.Idx => f (i 0).val := fun f =>
    le_trans (le_of_eq rfl) (Finset.le_sup (f := fun i : S2048.Idx => f (i 0).val) (Finset.mem_univ (ix1 ⟨n, h⟩)))
  unfold ranAll
  exact e (ranOf m c)

theorem keysOut (c : Dev nD) (t : Fin (cfg1 (F := Ideal)).N) : Keys2 (blk1 (W3 m) c 0 t) := keys2_of _ (table1_0 m c t)

theorem count_point (c : Dev nD) (t : Fin (cfg1 (F := Ideal)).N) (h : t.val < 2048) :
    (word (Val := Elt Ideal) (e := .i32) (N := 2048) (blk1 (W3 m) c 2 t) ((grid1.coords t) 0).val : BitVec 32).toNat = ranOf m c t.val :=
  (congrArg (fun n => (word (Val := Elt Ideal) (e := .i32) (N := 2048) (blk1 (W3 m) c 2 t) n : BitVec 32).toNat) (coords1 t)).trans (count_word m c t t.val h)

theorem part_point (c : Dev nD) (t : Fin (cfg1 (F := Ideal)).N) (y : S16x2048.Idx) (g : S32768x2048.Idx)
    (h0 : (g 0).val = t.val * 16 + (y 0).val) (h1 : (g 1).val = (y 1).val) :
    (blk1 (W3 m) c 4 t y : BitVec 32) = handed (ranOf m c t.val) (lam m c (pix g)) (where_ (pix g)) := by
  refine (part1 m c t y g h0 h1).trans ((part_at m c g).trans ?_)
  rw [(at_point g t.val y h0 h1).1]

end Cert.Proof.KernelIdeal

end
-- ==== Proof.KernelIdeal.Outcome.lean ====
/-
  The kernel's result at a pixel of the image, over the extended reals: what the second call leaves.
-/
module

public import proofs.«01_k».proof.Proof.KernelIdeal.Whole

@[expose] public section

noncomputable section

namespace Cert.Proof.KernelIdeal

open Cert.KernelIdeal Cert.KernelIdeal.Gen
open Idealize.ShloMosaic Idealize.ShloMosaic.TcCoe Idealize.ShloMosaic.Tactic

attribute [local irreducible] unit drawn tf acc cand rate chain sub1 sub2 logs cnt kept rounds takesAt candAt iter loop1 loop2 loop3 loop4
  aRounds aPart aRej bOut handed pixel blk1 blk0 word ranAll ranOf pixRounds lam where_ W2 W3 W4 W5 k1_pay2 k1_pay1

variable (m : (ℓ : Loc nD τ sig) → Buf (Elt Ideal) ℓ)

/-- The second call's block at grid point `t`. -/
theorem out_block (c : Dev nD) (t : Fin (cfg1 (F := Ideal)).N) (ht : t.val < 2048) (y : S16x2048.Idx) (g : S32768x2048.Idx)
    (h0 : (g 0).val = t.val * 16 + (y 0).val) (h1 : (g 1).val = (y 1).val) :
    (bOut (F := Ideal) (grid1.coords t) (blk1 (W3 m) c 3 t) (blk1 (W3 m) c 4 t) (blk1 (W3 m) c 0 t) (blk1 (W3 m) c 1 t) (blk1 (W3 m) c 2 t) y : BitVec 32)
      = pixel (ranAll m c) (lam m c (pix g)) (where_ (pix g)) := by
  have hl := lam1 m c t y g h0 h1
  have hq := where1 t y g h0 h1
  have hP := part_point m c t y g h0 h1
  rw [← hl, ← hq] at hP
  rw [← hl, ← hq]
  exact bOut_at (grid1.coords t) (blk1 (W3 m) c 3 t) (blk1 (W3 m) c 4 t) (blk1 (W3 m) c 0 t) (keysOut m c t) (blk1 (W3 m) c 1 t) (blk1 (W3 m) c 2 t)
    (ranAll m c) (ranOf m c t.val) (most_word m c t) (count_point m c t ht) (ranOf_le_all m c _ ht) (ranAll_le m c) y hP

theorem out_at (c : Dev nD) (g : S32768x2048.Idx) :
    (W4 m c (dref main_v6) g : BitVec 32) = pixel (ranAll m c) (lam m c (pix g)) (where_ (pix g)) := by
  have hg : (g 0).val < 32768 := (g 0).isLt
  have hn : (g 0).val / 16 < 2048 := by omega
  have ht := pt1_lt _ hn
  refine (congrFun (W4_out m c) g).trans (out_block m c (pt1 ((g 0).val / 16)) (ht.trans_lt hn) (inBlock g) g ?_ rfl)
  rw [ht]
  show (g 0).val = (g 0).val / 16 * 16 + (g 0).val % 16
  omega

theorem W5_out (c : Dev nD) : W5 m c (dref main_v7) = shapeCast S16x2048x2048 (W4 m c (dref main_v6)) shapeCasts_S32768x2048_S16x2048x2048 := by
  unfold W5
  show StableHlo.after hostOps2 (W4 m c) (Proc.devRef .tc main_v7) = _
  after_results
  rfl

/-- The kernel's result at a pixel. -/
theorem result (c : Dev nD) (p : S16x2048x2048.Idx) :
    (W5 m c (dref main_v7) p : BitVec 32) = pixel (Finset.univ.sup (pixRounds m c)) (lam m c p) (where_ p) := by
  obtain ⟨g, rfl⟩ := pix_surj p
  rw [W5_out, of_flat, ← ranAll_eq]
  exact out_at m c g

/-- No pixel runs more than forty rounds. -/
theorem most_le (c : Dev nD) : Finset.univ.sup (pixRounds m c) ≤ 40 := (ranAll_eq m c).symm.trans_le (ranAll_le m c)

end Cert.Proof.KernelIdeal

end
-- ==== Proof.AcceptArrays.lean ====
/-
  The functions of `Accept` over whole arrays, as the reference writes them, and what they are at one pixel. The shape is a
  variable: the reference's own is one instance.
-/
module

public import proofs.«01_k».proof.Proof.Accept

@[expose] public section

noncomputable section

namespace Cert.Proof

open Idealize.ShloMosaic

section Arrays
variable {s : Shape} (h : (⟨0, ![]⟩ : Shape).BroadcastsInDim s (![] : Fin 0 → Fin s.rank))
variable {F : FTy → Type} [FloatOps F]

/-- A constant spread over the pixels. -/
abbrev spf (b : BitVec 32) : FVec F s .f32 := broadcastInDim s ![] h (constant ⟨0, ![]⟩ .f32 b)

/-- The rate is small, or is not a number. -/
def smallR (x : FVec F s .f32) : IVec s 1 := ori (cmpf .une x x) (cmpf .olt x (spf h 0x41200000#32))
def rateR (x : FVec F s .f32) : FVec F s .f32 := select (smallR h x) (spf h 0x47C35000#32) x
def lowR (x : FVec F s .f32) : FVec F s .f32 := select (smallR h x) x (spf h 0x00000000#32)
def cbR (r : FVec F s .f32) : FVec F s .f32 := addf (spf h 0x3F6E5604#32) (mulf (spf h 0x4021EB85#32) (Host.sqrt r))
def caR (c : FVec F s .f32) : FVec F s .f32 := addf (spf h 0xBD71A9FC#32) (mulf (spf h 0x3CCB6849#32) c)
def ciR (c : FVec F s .f32) : FVec F s .f32 :=
  addf (spf h 0x3F8FDBF5#32) (Host.divf (spf h 0x3F90FF97#32) (subf c (spf h 0x4059999A#32)))
def cvR (c : FVec F s .f32) : FVec F s .f32 :=
  subf (spf h 0x3F6D7DBF#32) (Host.divf (spf h 0x4067D567#32) (subf c (spf h 0x40000000#32)))
def less1 (u : FVec F s .f32) : FVec F s .f32 := subf u (spf h 0x3F800000#32)
def lessHalf (u : FVec F s .f32) : FVec F s .f32 := subf u (spf h 0x3F000000#32)
def foldR (u : FVec F s .f32) : FVec F s .f32 := subf (spf h 0x3F000000#32) (Host.absf u)
def candR (r u : FVec F s .f32) : FVec F s .f32 :=
  Host.floor (addf (addf (mulf (addf (Host.divf (mulf (spf h 0x40000000#32) (caR h (cbR h r))) (foldR h u)) (cbR h r)) u) r)
    (spf h 0x3EDC28F6#32))
def argR (k : FVec F s .f32) : FVec F s .f32 := less1 h (addf k (spf h 0x3F800000#32))
/-- A term of the Lanczos sum. -/
def termR (a b : BitVec 32) (x : FVec F s .f32) : FVec F s .f32 := Host.divf (spf h a) (addf x (spf h b))
def lanczosR (x : FVec F s .f32) : FVec F s .f32 :=
  addf (addf (addf (addf (addf (addf (spf h 0x3F800000#32) (termR h 0x4429214E#32 0x3F800000#32 x))
    (termR h 0xC49D6474#32 0x40000000#32 x)) (termR h 0x4440D4B3#32 0x40400000#32 x)) (termR h 0xC3309D73#32 0x40800000#32 x))
    (termR h 0x41481E14#32 0x40A00000#32 x)) (termR h 0xBE0DE595#32 0x40C00000#32 x)
def logBaseR (x : FVec F s .f32) : FVec F s .f32 := addf (spf h 0x4000F42C#32) (Host.log1p (mulf x (spf h 0x3E088889#32)))
def logGammaR (x : FVec F s .f32) : FVec F s .f32 :=
  addf (addf (mulf (subf (addf x (spf h 0x3F000000#32)) (Host.divf (addf x (spf h 0x40F00000#32)) (logBaseR h x))) (logBaseR h x))
    (spf h 0x3F6B3F8E#32)) (Host.log (lanczosR h x))
def lhsR (r u v : FVec F s .f32) : FVec F s .f32 :=
  Host.log (Host.divf (mulf v (ciR h (cbR h r))) (addf (Host.divf (caR h (cbR h r)) (mulf (foldR h u) (foldR h u))) (cbR h r)))
def rhsR (r u : FVec F s .f32) : FVec F s .f32 :=
  subf (addf (Host.negf r) (mulf (candR h r u) (Host.log r))) (logGammaR h (argR h (candR h r u)))
def accR (r u v : FVec F s .f32) : IVec s 1 :=
  ori (andi (cmpf .oge (foldR h u) (spf h 0x3D8F5C29#32)) (cmpf .ole v (cvR h (cbR h r))))
    (andi (noti (ori (cmpf .olt (candR h r u) (spf h 0x00000000#32)) (andi (cmpf .olt (foldR h u) (spf h 0x3C54FDF4#32)) (cmpf .ogt v (foldR h u)))))
      (cmpf .ole (lhsR h r u v) (rhsR h r u)))
/-- One round of the count of the products above the threshold. -/
def countR (x l : FVec F s .f32) (k : IVec s 32) : IVec s 32 := select (cmpf .ogt l (Host.negf (lowR h x))) (addi k (spc h 1#32)) k
/-- The result's choice between the two samplers. -/
def pickR (x c : FVec F s .f32) (k : IVec s 32) : IVec s 32 :=
  select (cmpf .oeq x (spf h 0x00000000#32)) (spc h 0#32) (select (smallR h x) (subi k (spc h 1#32)) (fptosi 32 c))

end Arrays

section ArraysAt
variable {s : Shape} (h : (⟨0, ![]⟩ : Shape).BroadcastsInDim s (![] : Fin 0 → Fin s.rank))

theorem spf_at (b : BitVec 32) (p : s.Idx) : (spf h b : FVec Ideal s .f32) p = lit b :=
  ValueIdx.broadcastInDim_scalar_apply h _ p

/-- Nothing differs from itself. -/
theorem une_self (x : EReal) : Ideal.cmp .une x x = 0#1 := by simp [Ideal.cmp]
theorem zero_or (b : BitVec 1) : IntOp.ori 0#1 b = b := by revert b; decide

variable (x r c u v l : FVec Ideal s .f32) (k : IVec s 32) (p : s.Idx)

theorem smallR_at : smallR h x p = Ideal.cmp .olt (x p) (lit 0x41200000#32) := by
  simp only [smallR, une_self, zero_or, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem rateR_at : rateR h x p = rate (x p) := by
  unfold rate
  rw [← smallR_at h x p]
  simp only [rateR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem lowR_at : lowR h x p = Scalar.select (Ideal.cmp .olt (x p) (lit 0x41200000#32)) (x p) (lit 0x00000000#32) := by
  rw [← smallR_at h x p]
  simp only [lowR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem cbR_at : cbR h r p = cb (r p) := by
  simp only [cbR, cb, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem caR_at : caR h (cbR h r) p = ca (r p) := by
  unfold ca
  rw [← cbR_at h r p]
  simp only [caR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem ciR_at : ciR h (cbR h r) p = ci (r p) := by
  unfold ci
  rw [← cbR_at h r p]
  simp only [ciR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem cvR_at : cvR h (cbR h r) p = cv (r p) := by
  unfold cv
  rw [← cbR_at h r p]
  simp only [cvR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem less1_at : less1 h u p = u p - lit 0x3F800000#32 := by
  simp only [less1, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem lessHalf_at : lessHalf h u p = u p - lit 0x3F000000#32 := by
  simp only [lessHalf, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem foldR_at : foldR h u p = fold (u p) := by
  simp only [foldR, fold, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem candR_at : candR h r u p = cand (r p) (u p) := by
  unfold cand
  rw [← caR_at h r p, ← cbR_at h r p, ← foldR_at h u p]
  simp only [candR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem argR_at : argR h c p = c p + lit 0x3F800000#32 - lit 0x3F800000#32 := by
  unfold argR
  rw [less1_at]
  simp only [addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem termR_at : ∀ a b : BitVec 32, termR h a b x p = Ideal.div (lit a) (x p + lit b) := by
  intro a b
  simp only [termR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem lanczosR_at : lanczosR h x p = lanczos (x p) := by
  unfold lanczos
  rw [add_comm (Ideal.div _ _) (lit 0x3F800000#32)]
  simp only [← termR_at h x p]
  simp only [lanczosR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem logBaseR_at : logBaseR h x p = logBase (x p) := by
  unfold logBase
  rw [add_comm]
  simp only [logBaseR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem logGammaR_at : logGammaR h x p = logGamma (x p) := by
  unfold logGamma
  rw [← logBaseR_at h x p, ← lanczosR_at h x p]
  simp only [logGammaR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem lhsR_at : lhsR h r u v p = lhs (r p) (u p) (v p) := by
  unfold lhs
  rw [← caR_at h r p, ← ciR_at h r p, ← cbR_at h r p, ← foldR_at h u p]
  simp only [lhsR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem rhsR_at : rhsR h r u p = rhs (r p) (u p) (cand (r p) (u p) + lit 0x3F800000#32 - lit 0x3F800000#32) := by
  have hz : ∀ y : EReal, lit 0x00000000#32 - y = -y := fun y => by
    rw [show lit 0x00000000#32 = 0 from Ideal.ofBits_zero_f32]; exact zero_sub y
  unfold rhs
  rw [hz, ← candR_at h r u p, ← argR_at h (candR h r u) p, ← logGammaR_at h (argR h (candR h r u)) p]
  simp only [rhsR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem accR_at : accR h r u v p = acc (r p) (u p) (v p) := by
  have hn : ∀ b : BitVec 1, ~~~b = IntOp.xori b 1#1 := by decide
  unfold acc accAt
  rw [← rhsR_at h r u p, ← lhsR_at h r u v p, ← candR_at h r u p, ← foldR_at h u p, ← cvR_at h r p]
  simp only [accR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def, hn]
theorem countR_at : countR h x l k p = Scalar.select (Ideal.cmp .ogt (l p) (-(Scalar.select (Ideal.cmp .olt (x p) (lit 0x41200000#32)) (x p) (lit 0x00000000#32)))) (IntOp.addi (k p) 1#32) (k p) := by
  rw [← lowR_at h x p]
  simp only [countR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]
theorem pickR_at : pickR h x c k p = Scalar.select (Ideal.cmp .oeq (x p) (lit 0x00000000#32)) 0#32 (Scalar.select (Ideal.cmp .olt (x p) (lit 0x41200000#32)) (IntOp.subi (k p) 1#32) (FloatOps.fptosi (F := Ideal) (φ := .f32) 32 (c p))) := by
  rw [← smallR_at h x p]
  simp only [pickR, addf_apply, mulf_apply, subf_apply, Host.divf_apply, Host.absf_apply, Host.negf_apply, Host.log_apply, Host.log1p_apply,
    Host.sqrt_apply, Host.floor_apply, ValueIdx.cmpf_apply, andi_apply, ori_apply, noti_apply, addi_apply, subi_apply,
    ValueIdx.select_apply, fptosi_apply, spf_at, spc_at, Ideal.addf_def, Ideal.subf_def, Ideal.mulf_def, Ideal.hostDivf_def,
    Ideal.hostAbsf_def, Ideal.absf_def, Ideal.negf_def, Ideal.divf_def, Ideal.hostNegf_def, Ideal.hostUnary_log_def,
    Ideal.hostUnary_log1p_def, Ideal.hostUnary_sqrt_def, Ideal.hostUnary_floor_def, Ideal.cmpf_def, Ideal.ofBits_def]

end ArraysAt

end Cert.Proof

end
-- ==== Proof.ReferenceIdeal.Rounds.lean ====
/-
  A round of the reference as the array functions of `AcceptArrays`. Generic in the float values.
-/
module

public import proofs.«01_k».proof.Proof.AcceptArrays
public import proofs.«01_k».proof.Proof.Gen.ReferenceIdeal.Step

@[expose] public section

noncomputable section

namespace Cert.Proof.ReferenceIdeal

open Cert.ReferenceIdeal Cert.ReferenceIdeal.Gen Cert.ReferenceIdeal.Step
open Idealize.ShloMosaic Idealize.ShloMosaic.TcCoe Idealize.ShloMosaic.Tactic

variable {F : FTy → Type} [FloatOps F] (j : ℕ) (s : State F)

theorem u1_eq : b486 j s = less1 bcast_S_S16x2048x2048 (b483 j s) := by
  simp only [b484, b485, b486, less1, spf, spc]
theorem u2_eq : b1006 j s = lessHalf bcast_S_S16x2048x2048 (less1 bcast_S_S16x2048x2048 (b1000 j s)) := by
  simp only [b1001, b1002, b1003, b1004, b1005, b1006, less1, lessHalf, spf, spc]
theorem u3_eq : b1243 j s = less1 bcast_S_S16x2048x2048 (b1240 j s) := by
  simp only [b1241, b1242, b1243, less1, spf, spc]
theorem rate_eq : b497 j s = rateR bcast_S_S16x2048x2048 s.main_v8_0 := by
  simp only [b489, b490, b491, b492, b493, b494, b495, b496, b497, rateR, smallR, spf, spc]
theorem cb_eq : b505 j s = cbR bcast_S_S16x2048x2048 (b497 j s) := by
  simp only [b499, b500, b501, b502, b503, b504, b505, cbR, spf, spc]
theorem cand_eq : b1258 j s = candR bcast_S_S16x2048x2048 (b497 j s) (b1006 j s) := by
  simp only [b499, b500, b501, b502, b503, b504, b505, b506, b507, b508, b509, b510, b511, b1244, b1245, b1246, b1247, b1248, b1249, b1250, b1251, b1252, b1253, b1254, b1255, b1256, b1257, b1258, candR, foldR, caR, cbR, spf, spc]
theorem acc_eq : b1357 j s = accR bcast_S_S16x2048x2048 (b497 j s) (b1006 j s) (b1243 j s) := by
  simp only [b498, b499, b500, b501, b502, b503, b504, b505, b506, b507, b508, b509, b510, b511, b512, b513, b514, b515, b516, b517, b518, b519, b520, b521, b522, b523, b524, b525, b526, b527, b528, b529, b1244, b1245, b1246, b1247, b1248, b1249, b1250, b1251, b1252, b1253, b1254, b1255, b1256, b1257, b1258, b1259, b1260, b1261, b1262, b1263, b1264, b1265, b1266, b1267, b1268, b1269, b1270, b1271, b1272, b1273, b1274, b1275, b1276, b1277, b1278, b1279, b1280, b1281, b1282, b1283, b1284, b1285, b1286, b1287, b1288, b1289, b1290, b1291, b1292, b1293, b1294, b1295, b1296, b1297, b1298, b1299, b1300, b1301, b1302, b1303, b1304, b1305, b1306, b1307, b1308, b1309, b1310, b1311, b1312, b1313, b1314, b1315, b1316, b1317, b1318, b1319, b1320, b1321, b1322, b1323, b1324, b1325, b1326, b1327, b1328, b1329, b1330, b1331, b1332, b1333, b1334, b1335, b1336, b1337, b1338, b1339, b1340, b1341, b1342, b1343, b1344, b1345, b1346, b1347, b1348, b1349, b1350, b1351, b1352, b1353, b1354, b1355, b1356, b1357, accR, lhsR, rhsR, argR, less1, logGammaR, logBaseR, lanczosR, termR, candR, foldR, caR, cbR, ciR, cvR, spf, spc]
theorem count_eq : b249 j s = countR bcast_S_S16x2048x2048 s.main_v8_0 s.main_v8_6 s.main_v8_5 := by
  simp only [b2, b3, b4, b5, b6, b7, b8, b9, b10, b244, b245, b246, b247, b248, b249, countR, lowR, smallR, spf, spc]
theorem result_eq : b1388 j s = pickR bcast_S_S16x2048x2048 s.main_v8_0 (b1370 j s) (b249 j s) := by
  simp only [b1372, b1373, b1374, b1375, b1376, b1377, b1378, b1379, b1380, b1381, b1382, b1383, b1384, b1385, b1386, b1387, b1388, pickR, smallR, spf, spc]

end Cert.Proof.ReferenceIdeal

end
-- ==== Proof.ReferenceIdeal.Sites.lean ====
/-
  The random numbers a round of the reference draws, as the block cipher over arrays: the knuth loop's key split, its uniform
  numbers, the rejection loop's key split and its two arrays of uniform numbers. Generic in the float values.
-/
module

public import proofs.«01_k».proof.Proof.Cipher
public import proofs.«01_k».proof.Proof.Gen.ReferenceIdeal.Step

@[expose] public section

noncomputable section

namespace Cert.Proof.ReferenceIdeal

open Cert.ReferenceIdeal Cert.ReferenceIdeal.Gen Cert.ReferenceIdeal.Step
open Idealize.ShloMosaic Idealize.ShloMosaic.TcCoe Idealize.ShloMosaic.Tactic

variable {F : FTy → Type} [FloatOps F]

/-- The knuth loop's key split: the cipher of the counters 0 and 1 under the key it carries. -/
theorem split2 (j : ℕ) (s : State F) :
    (b230 j s, b235 j s) = tfR bcast_S_S2 (iotaInDim S2 32 0) s.main_v8_3 s.main_v8_4 := by
  simp (config := { maxSteps := 1000000 }) only [b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, b60, b61, b62, b63, b64, b65, b66, b67, b68, b69, b70, b71, b72, b73, b74, b75, b76, b77, b78, b79, b80, b81, b82, b83, b84, b85, b86, b87, b88, b89, b90, b91, b92, b93, b94, b95, b96, b97, b98, b99, b100, b101, b102, b103, b104, b105, b106, b107, b108, b109, b110, b111, b112, b113, b114, b115, b116, b117, b118, b119, b120, b121, b122, b123, b124, b125, b126, b127, b128, b129, b130, b131, b132, b133, b134, b135, b136, b137, b138, b139, b140, b141, b142, b143, b144, b145, b146, b147, b148, b149, b150, b151, b152, b153, b154, b155, b156, b157, b158, b159, b160, b161, b162, b163, b164, b165, b166, b167, b168, b169, b170, b171, b172, b173, b174, b175, b176, b177, b178, b179, b180, b181, b182, b183, b184, b185, b186, b187, b188, b189, b190, b191, b192, b193, b194, b195, b196, b197, b198, b199, b200, b201, b202, b203, b204, b205, b206, b207, b208, b209, b210, b211, b212, b213, b214, b215, b216, b217, b218, b219, b220, b221, b222, b223, b224, b225, b226, b227, b228, b229, b230, b231, b232, b233, b234, b235, tfR, rdER, rdOR, rdR, plusR, sp, spc]

/-- The knuth loop's draw, as floats in [1, 2). -/
theorem draw1 (j : ℕ) (s : State F) :
    b483 j s = bitsR bcast_S_S16x2048x2048 (b251 j s) (b241 j s) (b243 j s) := by
  simp (config := { maxSteps := 1000000 }) only [b252, b253, b254, b255, b256, b257, b258, b259, b260, b261, b262, b263, b264, b265, b266, b267, b268, b269, b270, b271, b272, b273, b274, b275, b276, b277, b278, b279, b280, b281, b282, b283, b284, b285, b286, b287, b288, b289, b290, b291, b292, b293, b294, b295, b296, b297, b298, b299, b300, b301, b302, b303, b304, b305, b306, b307, b308, b309, b310, b311, b312, b313, b314, b315, b316, b317, b318, b319, b320, b321, b322, b323, b324, b325, b326, b327, b328, b329, b330, b331, b332, b333, b334, b335, b336, b337, b338, b339, b340, b341, b342, b343, b344, b345, b346, b347, b348, b349, b350, b351, b352, b353, b354, b355, b356, b357, b358, b359, b360, b361, b362, b363, b364, b365, b366, b367, b368, b369, b370, b371, b372, b373, b374, b375, b376, b377, b378, b379, b380, b381, b382, b383, b384, b385, b386, b387, b388, b389, b390, b391, b392, b393, b394, b395, b396, b397, b398, b399, b400, b401, b402, b403, b404, b405, b406, b407, b408, b409, b410, b411, b412, b413, b414, b415, b416, b417, b418, b419, b420, b421, b422, b423, b424, b425, b426, b427, b428, b429, b430, b431, b432, b433, b434, b435, b436, b437, b438, b439, b440, b441, b442, b443, b444, b445, b446, b447, b448, b449, b450, b451, b452, b453, b454, b455, b456, b457, b458, b459, b460, b461, b462, b463, b464, b465, b466, b467, b468, b469, b470, b471, b472, b473, b474, b475, b476, b477, b478, b479, b480, b481, b482, b483, tfR, rdER, rdOR, rdR, plusR, sp, spc, bitsR]

/-- The rejection loop's key split: the cipher of the counters 0, 1 and 2 under the key it carries. -/
theorem split3 (j : ℕ) (s : State F) :
    (b749 j s, b754 j s) = tfR bcast_S_S3 (iotaInDim S3 32 0) s.main_v8_7 s.main_v8_8 := by
  simp (config := { maxSteps := 1000000 }) only [b530, b531, b532, b533, b534, b535, b536, b537, b538, b539, b540, b541, b542, b543, b544, b545, b546, b547, b548, b549, b550, b551, b552, b553, b554, b555, b556, b557, b558, b559, b560, b561, b562, b563, b564, b565, b566, b567, b568, b569, b570, b571, b572, b573, b574, b575, b576, b577, b578, b579, b580, b581, b582, b583, b584, b585, b586, b587, b588, b589, b590, b591, b592, b593, b594, b595, b596, b597, b598, b599, b600, b601, b602, b603, b604, b605, b606, b607, b608, b609, b610, b611, b612, b613, b614, b615, b616, b617, b618, b619, b620, b621, b622, b623, b624, b625, b626, b627, b628, b629, b630, b631, b632, b633, b634, b635, b636, b637, b638, b639, b640, b641, b642, b643, b644, b645, b646, b647, b648, b649, b650, b651, b652, b653, b654, b655, b656, b657, b658, b659, b660, b661, b662, b663, b664, b665, b666, b667, b668, b669, b670, b671, b672, b673, b674, b675, b676, b677, b678, b679, b680, b681, b682, b683, b684, b685, b686, b687, b688, b689, b690, b691, b692, b693, b694, b695, b696, b697, b698, b699, b700, b701, b702, b703, b704, b705, b706, b707, b708, b709, b710, b711, b712, b713, b714, b715, b716, b717, b718, b719, b720, b721, b722, b723, b724, b725, b726, b727, b728, b729, b730, b731, b732, b733, b734, b735, b736, b737, b738, b739, b740, b741, b742, b743, b744, b745, b746, b747, b748, b749, b750, b751, b752, b753, b754, tfR, rdER, rdOR, rdR, plusR, sp, spc]

/-- The rejection loop's first draw, as floats in [1, 2). -/
theorem draw2 (j : ℕ) (s : State F) :
    b1000 j s = bitsR bcast_S_S16x2048x2048 (b768 j s) (b760 j s) (b762 j s) := by
  simp (config := { maxSteps := 1000000 }) only [b769, b770, b771, b772, b773, b774, b775, b776, b777, b778, b779, b780, b781, b782, b783, b784, b785, b786, b787, b788, b789, b790, b791, b792, b793, b794, b795, b796, b797, b798, b799, b800, b801, b802, b803, b804, b805, b806, b807, b808, b809, b810, b811, b812, b813, b814, b815, b816, b817, b818, b819, b820, b821, b822, b823, b824, b825, b826, b827, b828, b829, b830, b831, b832, b833, b834, b835, b836, b837, b838, b839, b840, b841, b842, b843, b844, b845, b846, b847, b848, b849, b850, b851, b852, b853, b854, b855, b856, b857, b858, b859, b860, b861, b862, b863, b864, b865, b866, b867, b868, b869, b870, b871, b872, b873, b874, b875, b876, b877, b878, b879, b880, b881, b882, b883, b884, b885, b886, b887, b888, b889, b890, b891, b892, b893, b894, b895, b896, b897, b898, b899, b900, b901, b902, b903, b904, b905, b906, b907, b908, b909, b910, b911, b912, b913, b914, b915, b916, b917, b918, b919, b920, b921, b922, b923, b924, b925, b926, b927, b928, b929, b930, b931, b932, b933, b934, b935, b936, b937, b938, b939, b940, b941, b942, b943, b944, b945, b946, b947, b948, b949, b950, b951, b952, b953, b954, b955, b956, b957, b958, b959, b960, b961, b962, b963, b964, b965, b966, b967, b968, b969, b970, b971, b972, b973, b974, b975, b976, b977, b978, b979, b980, b981, b982, b983, b984, b985, b986, b987, b988, b989, b990, b991, b992, b993, b994, b995, b996, b997, b998, b999, b1000, tfR, rdER, rdOR, rdR, plusR, sp, spc, bitsR]

/-- The rejection loop's second draw, as floats in [1, 2). -/
theorem draw3 (j : ℕ) (s : State F) :
    b1240 j s = bitsR bcast_S_S16x2048x2048 (b1008 j s) (b764 j s) (b766 j s) := by
  simp (config := { maxSteps := 1000000 }) only [b1009, b1010, b1011, b1012, b1013, b1014, b1015, b1016, b1017, b1018, b1019, b1020, b1021, b1022, b1023, b1024, b1025, b1026, b1027, b1028, b1029, b1030, b1031, b1032, b1033, b1034, b1035, b1036, b1037, b1038, b1039, b1040, b1041, b1042, b1043, b1044, b1045, b1046, b1047, b1048, b1049, b1050, b1051, b1052, b1053, b1054, b1055, b1056, b1057, b1058, b1059, b1060, b1061, b1062, b1063, b1064, b1065, b1066, b1067, b1068, b1069, b1070, b1071, b1072, b1073, b1074, b1075, b1076, b1077, b1078, b1079, b1080, b1081, b1082, b1083, b1084, b1085, b1086, b1087, b1088, b1089, b1090, b1091, b1092, b1093, b1094, b1095, b1096, b1097, b1098, b1099, b1100, b1101, b1102, b1103, b1104, b1105, b1106, b1107, b1108, b1109, b1110, b1111, b1112, b1113, b1114, b1115, b1116, b1117, b1118, b1119, b1120, b1121, b1122, b1123, b1124, b1125, b1126, b1127, b1128, b1129, b1130, b1131, b1132, b1133, b1134, b1135, b1136, b1137, b1138, b1139, b1140, b1141, b1142, b1143, b1144, b1145, b1146, b1147, b1148, b1149, b1150, b1151, b1152, b1153, b1154, b1155, b1156, b1157, b1158, b1159, b1160, b1161, b1162, b1163, b1164, b1165, b1166, b1167, b1168, b1169, b1170, b1171, b1172, b1173, b1174, b1175, b1176, b1177, b1178, b1179, b1180, b1181, b1182, b1183, b1184, b1185, b1186, b1187, b1188, b1189, b1190, b1191, b1192, b1193, b1194, b1195, b1196, b1197, b1198, b1199, b1200, b1201, b1202, b1203, b1204, b1205, b1206, b1207, b1208, b1209, b1210, b1211, b1212, b1213, b1214, b1215, b1216, b1217, b1218, b1219, b1220, b1221, b1222, b1223, b1224, b1225, b1226, b1227, b1228, b1229, b1230, b1231, b1232, b1233, b1234, b1235, b1236, b1237, b1238, b1239, b1240, tfR, rdER, rdOR, rdR, plusR, sp, spc, bitsR]

end Cert.Proof.ReferenceIdeal

end
-- ==== Proof.ReferenceIdeal.Points.lean ====
/-
  A round of the reference at one pixel, over the extended reals: the key words it splits off, the uniform numbers, the candidate
  and whether it is accepted, as the functions of `Cipher` and `Accept`.
-/
module

public import proofs.«01_k».proof.Proof.ReferenceIdeal.Rounds
public import proofs.«01_k».proof.Proof.ReferenceIdeal.Sites

@[expose] public section

noncomputable section

namespace Cert.Proof.ReferenceIdeal

open Cert.ReferenceIdeal Cert.ReferenceIdeal.Gen Cert.ReferenceIdeal.Step
open Idealize.ShloMosaic Idealize.ShloMosaic.TcCoe Idealize.ShloMosaic.Tactic

/-! ## The key words -/

section Words
variable {F : FTy → Type} [FloatOps F] (j : ℕ) (s : State F)

/-- A pair of rank-zero arrays' words. -/
def words (x y : IVec S_ 32) : BitVec 32 × BitVec 32 := (x ix0, y ix0)

theorem pick2_0 (y : IVec S2 32) : shapeCast S_ (extractStridedSlice S1 ![0] y slices_S2_S1_0) shapeCasts_S1_S_ ix0 = y (ix1 0) := by
  unfold shapeCast extractStridedSlice
  refine congrArg y ?_
  funext a
  fin_cases a
  rfl
theorem pick2_1 (y : IVec S2 32) : shapeCast S_ (extractStridedSlice S1 ![1] y slices_S2_S1_1) shapeCasts_S1_S_ ix0 = y (ix1 1) := by
  unfold shapeCast extractStridedSlice
  refine congrArg y ?_
  funext a
  fin_cases a
  rfl
theorem pick3_0 (y : IVec S3 32) : shapeCast S_ (extractStridedSlice S1 ![0] y slices_S3_S1_0) shapeCasts_S1_S_ ix0 = y (ix1 0) := by
  unfold shapeCast extractStridedSlice
  refine congrArg y ?_
  funext a
  fin_cases a
  rfl
theorem pick3_1 (y : IVec S3 32) : shapeCast S_ (extractStridedSlice S1 ![1] y slices_S3_S1_1) shapeCasts_S1_S_ ix0 = y (ix1 1) := by
  unfold shapeCast extractStridedSlice
  refine congrArg y ?_
  funext a
  fin_cases a
  rfl
theorem pick3_2 (y : IVec S3 32) : shapeCast S_ (extractStridedSlice S1 ![2] y slices_S3_S1_2) shapeCasts_S1_S_ ix0 = y (ix1 2) := by
  unfold shapeCast extractStridedSlice
  refine congrArg y ?_
  funext a
  fin_cases a
  rfl

/-- The two words the knuth loop's key splits into at the counter 0 … -/
theorem key_next : words (b237 j s) (b239 j s) = tf (s.main_v8_3 ix0) (s.main_v8_4 ix0) 0#32 := by
  have h := (congrArg (fun x => at2 x (ix1 0)) (split2 j s)).trans (tfR_at bcast_S_S2 _ _ _ (ix1 0))
  unfold at2 at h
  simp only [words, b237, b239, b236, b238]
  rw [pick2_0, pick2_0]
  exact h
/-- … and at the counter 1. -/
theorem key_sub : words (b241 j s) (b243 j s) = tf (s.main_v8_3 ix0) (s.main_v8_4 ix0) 1#32 := by
  have h := (congrArg (fun x => at2 x (ix1 1)) (split2 j s)).trans (tfR_at bcast_S_S2 _ _ _ (ix1 1))
  unfold at2 at h
  simp only [words, b241, b243, b240, b242]
  rw [pick2_1, pick2_1]
  exact h
/-- The words the rejection loop's key splits into at the counter 0 … -/
theorem rkey_next : words (b756 j s) (b758 j s) = tf (s.main_v8_7 ix0) (s.main_v8_8 ix0) 0#32 := by
  have h := (congrArg (fun x => at2 x (ix1 0)) (split3 j s)).trans (tfR_at bcast_S_S3 _ _ _ (ix1 0))
  unfold at2 at h
  simp only [words, b756, b758, b755, b757]
  rw [pick3_0, pick3_0]
  exact h
/-- … at the counter 1 … -/
theorem rkey_sub0 : words (b760 j s) (b762 j s) = tf (s.main_v8_7 ix0) (s.main_v8_8 ix0) 1#32 := by
  have h := (congrArg (fun x => at2 x (ix1 1)) (split3 j s)).trans (tfR_at bcast_S_S3 _ _ _ (ix1 1))
  unfold at2 at h
  simp only [words, b760, b762, b759, b761]
  rw [pick3_1, pick3_1]
  exact h
/-- … and at the counter 2. -/
theorem rkey_sub1 : words (b764 j s) (b766 j s) = tf (s.main_v8_7 ix0) (s.main_v8_8 ix0) 2#32 := by
  have h := (congrArg (fun x => at2 x (ix1 2)) (split3 j s)).trans (tfR_at bcast_S_S3 _ _ _ (ix1 2))
  unfold at2 at h
  simp only [words, b764, b766, b763, b765]
  rw [pick3_2, pick3_2]
  exact h

end Words

/-! ## The uniform numbers -/

/-- The counter at a pixel: its row-major place. -/
def place (p : S16x2048x2048.Idx) : BitVec 32 := shapeCast S16x2048x2048 (iotaInDim S67108864 32 0) shapeCasts_S67108864_S16x2048x2048 p

theorem bitsR_at (v : IVec S16x2048x2048 32) (k0 k1 : IVec S_ 32) (p : S16x2048x2048.Idx) :
    less1 bcast_S_S16x2048x2048 (bitsR (F := Ideal) bcast_S_S16x2048x2048 v k0 k1) p = unit (drawn (k0 ix0) (k1 ix0) (v p)) := by
  refine (less1_at bcast_S_S16x2048x2048 _ p).trans ?_
  unfold unit
  rw [← drawR_at bcast_S_S16x2048x2048]
  show Ideal.ofBits .f32 (IntOp.shrui .host _ (spc bcast_S_S16x2048x2048 9#32 p) ||| spc bcast_S_S16x2048x2048 1065353216#32 p) - _ = _
  rw [spc_at, spc_at]
  exact congrArg (fun w => Ideal.ofBits .f32 (w ||| 1065353216#32) - _) (if_pos (by decide))

section Points
variable (j : ℕ) (s : State Ideal) (p : S16x2048x2048.Idx)

theorem counter1 : b251 j s p = place p := by simp only [b250, b251, place]
theorem counter2 : b768 j s p = place p := by simp only [b767, b768, place]
theorem counter3 : b1008 j s p = place p := by simp only [b1007, b1008, place]

/-- What is drawn, from the array's shape as the cipher's and its counters. -/
theorem drawn_at {x : FVec Ideal S16x2048x2048 .f32} {v : IVec S16x2048x2048 32} {k0 k1 : IVec S_ 32}
    (hx : x = bitsR bcast_S_S16x2048x2048 v k0 k1) (hv : v p = place p) :
    less1 bcast_S_S16x2048x2048 x p = unit (drawn (k0 ix0) (k1 ix0) (place p)) := by
  subst hx
  rw [bitsR_at, hv]

attribute [local irreducible] unit drawn bitsR less1 lessHalf place b486 b1006 b1243 b483 b1000 b1240 b251 b768 b1008 b241 b243 b760 b762 b764 b766

theorem u1_at : b486 j s p = unit (drawn (b241 j s ix0) (b243 j s ix0) (place p)) := by
  have h := drawn_at p (draw1 j s) (counter1 j s p)
  rw [u1_eq]
  exact h
theorem u2_at : b1006 j s p = unit (drawn (b760 j s ix0) (b762 j s ix0) (place p)) - lit 0x3F000000#32 := by
  have h := drawn_at p (draw2 j s) (counter2 j s p)
  rw [u2_eq, lessHalf_at]
  exact congrArg (· - lit 0x3F000000#32) h
theorem u3_at : b1243 j s p = unit (drawn (b764 j s ix0) (b766 j s ix0) (place p)) := by
  have h := drawn_at p (draw3 j s) (counter3 j s p)
  rw [u3_eq]
  exact h

/-! ## The candidate, and whether it is accepted -/

theorem rate_at : b497 j s p = rate (s.main_v8_0 p) := (congrFun (rate_eq j s) p).trans (rateR_at bcast_S_S16x2048x2048 _ p)
theorem cand_at : b1258 j s p = cand (rate (s.main_v8_0 p)) (b1006 j s p) :=
  (congrFun (cand_eq j s) p).trans ((candR_at bcast_S_S16x2048x2048 _ _ p).trans (congrArg (fun r => cand r _) (rate_at j s p)))
theorem acc_at : b1357 j s p = acc (rate (s.main_v8_0 p)) (b1006 j s p) (b1243 j s p) :=
  (congrFun (acc_eq j s) p).trans ((accR_at bcast_S_S16x2048x2048 _ _ _ p).trans (congrArg (fun r => acc r _ _) (rate_at j s p)))
theorem count_at : b249 j s p = Scalar.select (Ideal.cmp .ogt (s.main_v8_6 p)
    (-(Scalar.select (Ideal.cmp .olt (s.main_v8_0 p) (lit 0x41200000#32)) (s.main_v8_0 p) (lit 0x00000000#32))))
    (IntOp.addi (s.main_v8_5 p) 1#32) (s.main_v8_5 p) :=
  (congrFun (count_eq j s) p).trans (countR_at bcast_S_S16x2048x2048 _ _ _ p)
theorem result_at : b1388 j s p = Scalar.select (Ideal.cmp .oeq (s.main_v8_0 p) (lit 0x00000000#32)) 0#32
    (Scalar.select (Ideal.cmp .olt (s.main_v8_0 p) (lit 0x41200000#32)) (IntOp.subi (b249 j s p) 1#32)
      (FloatOps.fptosi (F := Ideal) (φ := .f32) 32 (b1370 j s p))) :=
  (congrFun (result_eq j s) p).trans (pickR_at bcast_S_S16x2048x2048 _ _ _ p)

end Points

end Cert.Proof.ReferenceIdeal

end
-- ==== Proof.ReferenceIdeal.Final.lean ====
/-
  The reference's loop over the extended reals: what every round leaves at a pixel, and the result.
-/
module

public import proofs.«01_k».proof.Proof.ReferenceIdeal.Points
public import proofs.«01_k».proof.Proof.Result

@[expose] public section

noncomputable section

namespace Cert.Proof.ReferenceIdeal

open Cert.ReferenceIdeal Cert.ReferenceIdeal.Gen Cert.ReferenceIdeal.Step
open Idealize.ShloMosaic Idealize.ShloMosaic.TcCoe Idealize.ShloMosaic.Tactic

attribute [local irreducible] unit drawn tf acc cand rate chain sub1 sub2 logs cnt kept took firstAt rounds place

attribute [local irreducible] b486 b1006 b1243 b1357 b1258 b1360 b237 b239 b241 b243 b756 b758 b760 b762 b764 b766

theorem sumR_at {s : Shape} (x y : FVec Ideal s .f32) (p : s.Idx) : addf x (Host.log y) p = x p + Ideal.log (y p) := rfl

section Round
variable (j : ℕ) (s : State Ideal) (p : S16x2048x2048.Idx)

/-- The places a pixel takes part in, for what a round adds up, takes and marks. -/
theorem sum_at : b488 j s p = s.main_v8_6 p + Ideal.log (b486 j s p) := by
  have e : b488 j s = addf s.main_v8_6 (Host.log (b486 j s)) := by simp only [b488, b487]
  exact (congrFun e p).trans (sumR_at _ _ p)
theorem mask_at : b1369 j s p = IntOp.andi (b1357 j s p) (b1367 j s ix0) := by
  simp only [b1369, b1368]
  unfold andi broadcastInDim
  exact congrArg (fun i => IntOp.andi (b1357 j s p) (b1367 j s i)) (funext fun a => a.elim0)
theorem hold_at : b1370 j s p = Scalar.select (b1369 j s p) (b1258 j s p) (s.main_v8_9 p) := by simp only [b1370]; rfl
theorem mark_at : b1371 j s p = IntOp.ori (s.main_v8_10 p) (b1369 j s p) := by simp only [b1371]; rfl

/-- The round's mask: some pixel is unmarked, and fewer than forty rounds were run. -/
theorem mask_eq (hj : j < 64) : b1367 j s ix0 = 1#1 ↔ j < 40 ∧ ∃ p, ~~~(s.main_v8_10 p) = 1#1 := by
  have ha : b1360 j s ix0 = 1#1 ↔ ∃ p, ~~~(s.main_v8_10 p) = 1#1 := by
    unfold b1360 b1358 b1359
    exact any_of_or (fun a b => funext fun i => i.elim0) _ _ (fun _ => rfl) _ _ _
  have hb : b1366 j s ix0 = 1#1 ↔ j < 40 := by
    have e : b1366 j s ix0 = IntOp.cmpi .ne (IntOp.cmpi .slt (BitVec.ofNat 32 j) 40#32) 0#1 := by
      simp only [b1366, b1365, b1362, b1361, b1364, b1363]; rfl
    rw [e]
    clear ha e
    revert j
    decide
  have e : b1367 j s ix0 = IntOp.andi (b1360 j s ix0) (b1366 j s ix0) := by simp only [b1367]; rfl
  rw [e, ← ha, ← hb]
  generalize b1360 j s ix0 = x
  generalize b1366 j s ix0 = y
  revert x y
  decide
end Round

/-- The rate a pixel ends up with: the argument's integer, times one. -/
theorem lam_at (x : IVec S16x2048x2048 32) (p : S16x2048x2048.Idx) : A_main_v2 (F := Ideal) x p = FloatOps.sitofp (F := Ideal) .f32 (x p) := by
  simp only [A_main_v2, A_main_v0, K_main_v1, K_main_cst]
  show (FloatOps.sitofp (F := Ideal) .f32 (x p) : EReal) * lit 0x3F800000#32 = _
  rw [show lit 0x3F800000#32 = 1 from Ideal.ofBits_one_f32, mul_one]

variable (L : S16x2048x2048.Idx → EReal) (T : ℕ)

/-- What holds of the loop's state before round `n`. -/
structure Inv (n : ℕ) (s : State Ideal) : Prop where
  key : words s.main_v8_3 s.main_v8_4 = chain n
  rkey : words s.main_v8_7 s.main_v8_8 = chain n
  lam : ∀ p, s.main_v8_0 p = L p
  count : ∀ p, s.main_v8_5 p = cnt (-(low (L p))) (place p) n
  sum : ∀ p, s.main_v8_6 p = logs (place p) n
  hold : ∀ p, s.main_v8_9 p = kept (takesAt (L p) (place p)) (candAt (L p) (place p)) (lit 0xBF800000#32) (min n T)
  mark : ∀ p, s.main_v8_10 p = took (takesAt (L p) (place p)) (min n T)

theorem sub_of {a b c d : BitVec 32} (x y : BitVec 32 × BitVec 32) (h : (a, b) = x) (e : (c, d) = tf a b 1#32) (hy : tf x.1 x.2 1#32 = y) : (c, d) = y := by
  subst h; exact e.trans hy

variable {L T}

/-- The uniform numbers of round `n`. -/
theorem u1_of {n : ℕ} {s : State Ideal} (h : Inv L T n s) (p : S16x2048x2048.Idx) : b486 n s p = uni (place p) n := by
  have e : (b241 n s ix0, b243 n s ix0) = sub1 n := (key_sub n s).trans (by
    unfold sub1; rw [← h.key]; rfl)
  rw [u1_at]
  unfold uni
  rw [← e]
theorem u2_of {n : ℕ} {s : State Ideal} (h : Inv L T n s) (p : S16x2048x2048.Idx) : b1006 n s p = uni (place p) n - lit 0x3F000000#32 := by
  have e : (b760 n s ix0, b762 n s ix0) = sub1 n := (rkey_sub0 n s).trans (by
    unfold sub1; rw [← h.rkey]; rfl)
  rw [u2_at]
  unfold uni
  rw [← e]
theorem u3_of {n : ℕ} {s : State Ideal} (h : Inv L T n s) (p : S16x2048x2048.Idx) : b1243 n s p = uni' (place p) n := by
  have e : (b764 n s ix0, b766 n s ix0) = sub2 n := (rkey_sub1 n s).trans (by
    unfold sub2; rw [← h.rkey]; rfl)
  rw [u3_at]
  unfold uni'
  rw [← e]

attribute [local irreducible] b1367 b1369 b249 b1370 b1371 b488

theorem acc_of {n : ℕ} {s : State Ideal} (h : Inv L T n s) (p : S16x2048x2048.Idx) : b1357 n s p = takesAt (L p) (place p) n := by
  unfold takesAt
  rw [acc_at, h.lam, u2_of h, u3_of h]
theorem cand_of {n : ℕ} {s : State Ideal} (h : Inv L T n s) (p : S16x2048x2048.Idx) : b1258 n s p = candAt (L p) (place p) n := by
  unfold candAt
  rw [cand_at, h.lam, u2_of h]

theorem mask_of (hT : T = Finset.univ.sup fun p => rounds (takesAt (L p) (place p))) {n : ℕ} (hn : n < 64) {s : State Ideal} (h : Inv L T n s) :
    b1367 n s ix0 = 1#1 ↔ n < T := by
  rw [mask_eq n s hn, ← running (fun p => takesAt (L p) (place p)) T hT n]
  refine and_congr_right fun _ => exists_congr fun p => ?_
  rw [h.mark p]
  exact took_eq _ _

theorem next (hT : T = Finset.univ.sup fun p => rounds (takesAt (L p) (place p))) {n : ℕ} (hn : n < 64) {s : State Ideal} (h : Inv L T n s) :
    Inv L T (n + 1) (step n s) where
  key := by
    rw [step_main_v8_3, step_main_v8_4, key_next]
    have e := h.key
    unfold chain
    rw [← e]; rfl
  rkey := by
    rw [step_main_v8_7, step_main_v8_8, rkey_next]
    have e := h.rkey
    unfold chain
    rw [← e]; rfl
  lam := h.lam
  count p := by
    rw [step_main_v8_5, count_at, h.sum, h.lam, h.count]
    conv_rhs => unfold cnt
    rfl
  sum p := by
    rw [step_main_v8_6, sum_at, h.sum, u1_of h]
    conv_rhs => unfold logs
  hold p := by
    rw [step_main_v8_9, hold_at, mask_at, acc_of h, cand_of h, h.hold]
    exact kept_min _ _ _ T n _ (mask_of hT hn h)
  mark p := by
    rw [step_main_v8_10, mark_at, mask_at, acc_of h, h.mark]
    exact took_min _ T n _ (mask_of hT hn h)

theorem first (x : IVec S16x2048x2048 32) : Inv (fun p => FloatOps.sitofp (F := Ideal) .f32 (x p)) T 0 (init x) where
  key := by unfold chain; rfl
  rkey := by unfold chain; rfl
  lam p := lam_at x p
  count p := by unfold cnt; rfl
  sum p := by unfold logs; rfl
  hold p := by rw [Nat.zero_min]; unfold kept; rfl
  mark p := by rw [Nat.zero_min]; unfold took firstAt; rfl

/-- The result after sixty-four rounds. -/
theorem result_of (hT : T = Finset.univ.sup fun p => rounds (takesAt (L p) (place p))) (hT40 : T ≤ 40) {s : State Ideal} (h : Inv L T 63 s) (p : S16x2048x2048.Idx) :
    R_main_v10 (step 63 s) p = pixel T (L p) (place p) := by
  have h' := next hT (by omega : 63 < 64) h
  have hc := h'.count p
  have hh := h'.hold p
  rw [step_main_v8_5] at hc
  rw [step_main_v8_9, min_eq_right (by omega)] at hh
  have e : R_main_v10 (step 63 s) p = IntOp.minsi (b1388 63 s p) 255#32 := by
    unfold R_main_v10
    rw [step_main_v8_11]
    rfl
  rw [e, result_at, hc, hh, h.lam]
  rfl

end Cert.Proof.ReferenceIdeal

end
-- ==== Proof.Algebraic.lean ====
/-
  The value claim: over the extended reals the kernel and the reference end with equal results.
-/
module

public import proofs.«01_k».proof.Defs
public import proofs.«01_k».proof.Proof.KernelIdeal.Outcome
public import proofs.«01_k».proof.Proof.ReferenceIdeal.Final
public import proofs.«01_k».proof.Proof.Gen.ReferenceIdeal.StepRun

@[expose] public section

noncomputable section

namespace Cert.Proof

open Idealize.ShloMosaic Idealize.ShloMosaic.TcCoe Idealize.SL.Sem

/-- The reference's counter of a pixel is its place. -/
theorem place_eq (p : Cert.ReferenceIdeal.S16x2048x2048.Idx) : ReferenceIdeal.place p = KernelIdeal.where_ p := by
  unfold ReferenceIdeal.place KernelIdeal.where_
  have hlt : (Cert.ReferenceIdeal.S16x2048x2048.rowMajor p).val < 67108864 := by
    have h := Shape.rowMajor_val_three (d := ![16, 2048, 2048]) p
    have h0 : (p 0).val < 16 := (p 0).isLt
    have h1 : (p 1).val < 2048 := (p 1).isLt
    have h2 : (p 2).val < 2048 := (p 2).isLt
    have h' : (Cert.ReferenceIdeal.S16x2048x2048.rowMajor p).val = ((p 0).val * 2048 + (p 1).val) * 2048 + (p 2).val := h
    omega
  exact shapeCast_apply (iotaInDim Cert.ReferenceIdeal.S67108864 32 0) _ p (ix1 ⟨_, hlt⟩) (Shape.rowMajor_val_one _)

open Cert.ReferenceIdeal Cert.ReferenceIdeal.Step in
/-- The reference's state after `n` rounds. -/
def rounds_ (x : IVec Cert.ReferenceIdeal.S16x2048x2048 32) : ℕ → State Ideal
  | 0 => init x
  | n + 1 => step n (rounds_ x n)

attribute [local irreducible] pixel rounds takesAt Cert.ReferenceIdeal.Step.step Cert.ReferenceIdeal.Step.init KernelIdeal.where_ ReferenceIdeal.place

section
variable {x : IVec Cert.ReferenceIdeal.S16x2048x2048 32} {T : ℕ}

theorem inv_at (hT : T = Finset.univ.sup fun p => rounds (takesAt (FloatOps.sitofp (F := Ideal) .f32 (x p)) (ReferenceIdeal.place p))) :
    ∀ n ≤ 63, ReferenceIdeal.Inv (fun p => FloatOps.sitofp (F := Ideal) .f32 (x p)) T n (rounds_ x n)
  | 0, _ => ReferenceIdeal.first x
  | n + 1, h => ReferenceIdeal.next hT (by omega) (inv_at hT n (by omega))

/-- The reference's result at a pixel. -/
theorem reference_at (hT : T = Finset.univ.sup fun p => rounds (takesAt (FloatOps.sitofp (F := Ideal) .f32 (x p)) (ReferenceIdeal.place p))) (hT40 : T ≤ 40)
    (N : ℕ) (hN : N = 63 + 1) (p : Cert.ReferenceIdeal.S16x2048x2048.Idx) :
    Cert.ReferenceIdeal.Step.R_main_v10 (rounds_ x N) p = pixel T (FloatOps.sitofp (F := Ideal) .f32 (x p)) (ReferenceIdeal.place p) := by
  subst hN
  exact ReferenceIdeal.result_of hT hT40 (inv_at hT 63 le_rfl) p
end

/-- The two programs read at the extended reals end with equal results, and leave their arguments as they were. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => KernelIdeal.W5 m c (KernelIdeal.dref Cert.KernelIdeal.main_v7), (θ_run _ _ _).mono (fun _ h c => ⟨(h.1 c).2, (h.1 c).1⟩) (KernelIdeal.runs m g), ?_⟩
  refine (θ_run _ _ _).mono (fun _ h c => ⟨(h c).1.trans ?_, (h c).2⟩)
    (Cert.ReferenceIdeal.StepRun.run_iter m' g' (fun c => rounds_ (m' ((c.tc : Thread Cert.ReferenceIdeal.nD Cert.ReferenceIdeal.τ).loc Cert.ReferenceIdeal.main_arg0)))
      (fun _ => rfl) (fun _ _ => rfl))
  refine funext fun p => ?_
  have e := KernelIdeal.result m c p
  have hp : KernelIdeal.pixRounds m c = fun p => rounds (takesAt (FloatOps.sitofp (F := Ideal) .f32
      (m ((c.tc : Thread Cert.KernelIdeal.nD Cert.KernelIdeal.τ).loc Cert.KernelIdeal.main_arg0) p : BitVec 32)) (ReferenceIdeal.place p)) := by
    funext p
    unfold KernelIdeal.pixRounds KernelIdeal.lam
    rw [place_eq]
  refine (reference_at (T := Finset.univ.sup (KernelIdeal.pixRounds m c)) ?_ (KernelIdeal.most_le m c) 64 rfl p).trans ?_
  · rw [hp, hm c]
    rfl
  · rw [hm c, place_eq]
    exact e.symm

end Cert.Proof

end
-- ==== Proof.lean ====
/-
  The claim, put together from its parts.
-/
module

public import proofs.«01_k».proof.Defs
public import proofs.«01_k».proof.Proof.Frames
public import proofs.«01_k».proof.Proof.Algebraic
public import proofs.«01_k».proof.Proof.Gen.ReferenceIdeal.StepRun

@[expose] public section

noncomputable section

namespace Cert.Proof

theorem claim : Cert.Claim :=
  ⟨Cert.Kernel.Gen.facts, Cert.KernelIdeal.Gen.facts, Cert.ReferenceIdeal.Gen.facts, frame_kernel, frame_kernelIdeal, frame_reference, trivial, algebraic⟩

end Cert.Proof

end
